-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_factors [hPre_finite_factors : Cert.Pre_finite_factors.Facts] (m : (ℓ : Loc Cert.DactIdeal.nD Cert.DactIdeal.τ Cert.DactIdeal.sig) → Buf (Elt Ideal) ℓ) : Prop :=
  ∀ c : Dev Cert.DactIdeal.nD,
    (Cert.Pre_finite_factors.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_finite_factors.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_finite_factors.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_factors [hPre_finite_factors : Cert.Pre_finite_factors.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_factors.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_finite_factors.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_finite_factors.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_ProjAtt (m : (ℓ : Loc Cert.ProjAtt.nD Cert.ProjAtt.τ Cert.ProjAtt.sig) → Buf (Elt Bits) ℓ) : Prop :=
  True

def Pre_ProjAttIdeal (m : (ℓ : Loc Cert.ProjAttIdeal.nD Cert.ProjAttIdeal.τ Cert.ProjAttIdeal.sig) → Buf (Elt Ideal) ℓ) : Prop :=
  True

def Pre_ProjAttRefIdeal (m : (ℓ : Loc Cert.ProjAttRefIdeal.nD Cert.ProjAttRefIdeal.τ Cert.ProjAttRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_ProjRwkv (m : (ℓ : Loc Cert.ProjRwkv.nD Cert.ProjRwkv.τ Cert.ProjRwkv.sig) → Buf (Elt Bits) ℓ) : Prop :=
  True

def Pre_ProjRwkvIdeal (m : (ℓ : Loc Cert.ProjRwkvIdeal.nD Cert.ProjRwkvIdeal.τ Cert.ProjRwkvIdeal.sig) → Buf (Elt Ideal) ℓ) : Prop :=
  True

def Pre_ProjRwkvRefIdeal (m : (ℓ : Loc Cert.ProjRwkvRefIdeal.nD Cert.ProjRwkvRefIdeal.τ Cert.ProjRwkvRefIdeal.sig) → Buf (Elt Ideal) ℓ) : Prop :=
  True

def Pre_BranchRwkv (m : (ℓ : Loc Cert.BranchRwkv.nD Cert.BranchRwkv.τ Cert.BranchRwkv.sig) → Buf (Elt Bits) ℓ) : Prop :=
  True

def Pre_BranchRwkvIdeal (m : (ℓ : Loc Cert.BranchRwkvIdeal.nD Cert.BranchRwkvIdeal.τ Cert.BranchRwkvIdeal.sig) → Buf (Elt Ideal) ℓ) : Prop :=
  True

def Pre_BranchRwkvRefIdeal (m : (ℓ : Loc Cert.BranchRwkvRefIdeal.nD Cert.BranchRwkvRefIdeal.τ Cert.BranchRwkvRefIdeal.sig) → Buf (Elt Ideal) ℓ) : Prop :=
  True

def Pre_BranchAtt (m : (ℓ : Loc Cert.BranchAtt.nD Cert.BranchAtt.τ Cert.BranchAtt.sig) → Buf (Elt Bits) ℓ) : Prop :=
  True

def Pre_BranchAttIdeal (m : (ℓ : Loc Cert.BranchAttIdeal.nD Cert.BranchAttIdeal.τ Cert.BranchAttIdeal.sig) → Buf (Elt Ideal) ℓ) : Prop :=
  True

def Pre_BranchAttRefIdeal (m : (ℓ : Loc Cert.BranchAttRefIdeal.nD Cert.BranchAttRefIdeal.τ Cert.BranchAttRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DMerge (m : (ℓ : Loc Cert.DMerge.nD Cert.DMerge.τ Cert.DMerge.sig) → Buf (Elt Bits) ℓ) : Prop :=
  True

def Pre_DMergeIdeal (m : (ℓ : Loc Cert.DMergeIdeal.nD Cert.DMergeIdeal.τ Cert.DMergeIdeal.sig) → Buf (Elt Ideal) ℓ) : Prop :=
  True

def Pre_DMergeRefIdeal (m : (ℓ : Loc Cert.DMergeRefIdeal.nD Cert.DMergeRefIdeal.τ Cert.DMergeRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYRefIdeal (m : (ℓ : Loc Cert.DYRefIdeal.nD Cert.DYRefIdeal.τ Cert.DYRefIdeal.sig) → Buf (Elt Ideal) ℓ) : Prop :=
  True

def Pre_DWBranchRwkv (m : (ℓ : Loc Cert.DWBranchRwkv.nD Cert.DWBranchRwkv.τ Cert.DWBranchRwkv.sig) → Buf (Elt Bits) ℓ) : Prop :=
  True

def Pre_DWBranchRwkvIdeal (m : (ℓ : Loc Cert.DWBranchRwkvIdeal.nD Cert.DWBranchRwkvIdeal.τ Cert.DWBranchRwkvIdeal.sig) → Buf (Elt Ideal) ℓ) : Prop :=
  True

def Pre_DWBranchRwkvRefIdeal (m : (ℓ : Loc Cert.DWBranchRwkvRefIdeal.nD Cert.DWBranchRwkvRefIdeal.τ Cert.DWBranchRwkvRefIdeal.sig) → Buf (Elt Ideal) ℓ) : Prop :=
  True

def Pre_DWBranchAtt (m : (ℓ : Loc Cert.DWBranchAtt.nD Cert.DWBranchAtt.τ Cert.DWBranchAtt.sig) → Buf (Elt Bits) ℓ) : Prop :=
  True

def Pre_DWBranchAttIdeal (m : (ℓ : Loc Cert.DWBranchAttIdeal.nD Cert.DWBranchAttIdeal.τ Cert.DWBranchAttIdeal.sig) → Buf (Elt Ideal) ℓ) : Prop :=
  True

def Pre_DWBranchAttRefIdeal (m : (ℓ : Loc Cert.DWBranchAttRefIdeal.nD Cert.DWBranchAttRefIdeal.τ Cert.DWBranchAttRefIdeal.sig) → Buf (Elt Ideal) ℓ) : Prop :=
  True

def Pre_DWInAtt (m : (ℓ : Loc Cert.DWInAtt.nD Cert.DWInAtt.τ Cert.DWInAtt.sig) → Buf (Elt Bits) ℓ) : Prop :=
  True

def Pre_DWInAttIdeal (m : (ℓ : Loc Cert.DWInAttIdeal.nD Cert.DWInAttIdeal.τ Cert.DWInAttIdeal.sig) → Buf (Elt Ideal) ℓ) : Prop :=
  True

def Pre_DWInAttRefIdeal (m : (ℓ : Loc Cert.DWInAttRefIdeal.nD Cert.DWInAttRefIdeal.τ Cert.DWInAttRefIdeal.sig) → Buf (Elt Ideal) ℓ) : Prop :=
  True

def Pre_DWInGate (m : (ℓ : Loc Cert.DWInGate.nD Cert.DWInGate.τ Cert.DWInGate.sig) → Buf (Elt Bits) ℓ) : Prop :=
  True

def Pre_DWInGateIdeal (m : (ℓ : Loc Cert.DWInGateIdeal.nD Cert.DWInGateIdeal.τ Cert.DWInGateIdeal.sig) → Buf (Elt Ideal) ℓ) : Prop :=
  True

def Pre_DWInGateRefIdeal (m : (ℓ : Loc Cert.DWInGateRefIdeal.nD Cert.DWInGateRefIdeal.τ Cert.DWInGateRefIdeal.sig) → Buf (Elt Ideal) ℓ) : Prop :=
  True

def Pre_DWInRwkv (m : (ℓ : Loc Cert.DWInRwkv.nD Cert.DWInRwkv.τ Cert.DWInRwkv.sig) → Buf (Elt Bits) ℓ) : Prop :=
  True

def Pre_DWInRwkvIdeal (m : (ℓ : Loc Cert.DWInRwkvIdeal.nD Cert.DWInRwkvIdeal.τ Cert.DWInRwkvIdeal.sig) → Buf (Elt Ideal) ℓ) : Prop :=
  True

def Pre_DWInRwkvRefIdeal (m : (ℓ : Loc Cert.DWInRwkvRefIdeal.nD Cert.DWInRwkvRefIdeal.τ Cert.DWInRwkvRefIdeal.sig) → Buf (Elt Ideal) ℓ) : Prop :=
  True

def Pre_DH2Att (m : (ℓ : Loc Cert.DH2Att.nD Cert.DH2Att.τ Cert.DH2Att.sig) → Buf (Elt Bits) ℓ) : Prop :=
  True

def Pre_DH2AttIdeal (m : (ℓ : Loc Cert.DH2AttIdeal.nD Cert.DH2AttIdeal.τ Cert.DH2AttIdeal.sig) → Buf (Elt Ideal) ℓ) : Prop :=
  True

def Pre_DH2AttRefIdeal (m : (ℓ : Loc Cert.DH2AttRefIdeal.nD Cert.DH2AttRefIdeal.τ Cert.DH2AttRefIdeal.sig) → Buf (Elt Ideal) ℓ) : Prop :=
  True

def Pre_DhUp (m : (ℓ : Loc Cert.DhUp.nD Cert.DhUp.τ Cert.DhUp.sig) → Buf (Elt Bits) ℓ) : Prop :=
  True

def Pre_DhUpIdeal (m : (ℓ : Loc Cert.DhUpIdeal.nD Cert.DhUpIdeal.τ Cert.DhUpIdeal.sig) → Buf (Elt Ideal) ℓ) : Prop :=
  True

def Pre_DhUpRefIdeal (m : (ℓ : Loc Cert.DhUpRefIdeal.nD Cert.DhUpRefIdeal.τ Cert.DhUpRefIdeal.sig) → Buf (Elt Ideal) ℓ) : Prop :=
  True

def Pre_DH2Gate (m : (ℓ : Loc Cert.DH2Gate.nD Cert.DH2Gate.τ Cert.DH2Gate.sig) → Buf (Elt Bits) ℓ) : Prop :=
  True

def Pre_DH2GateIdeal (m : (ℓ : Loc Cert.DH2GateIdeal.nD Cert.DH2GateIdeal.τ Cert.DH2GateIdeal.sig) → Buf (Elt Ideal) ℓ) : Prop :=
  True

def Pre_DH2GateRefIdeal (m : (ℓ : Loc Cert.DH2GateRefIdeal.nD Cert.DH2GateRefIdeal.τ Cert.DH2GateRefIdeal.sig) → Buf (Elt Ideal) ℓ) : Prop :=
  True

def Pre_AttBwd (m : (ℓ : Loc Cert.AttBwd.nD Cert.AttBwd.τ Cert.AttBwd.sig) → Buf (Elt Bits) ℓ) : Prop :=
  True

def Pre_AttBwdIdeal (m : (ℓ : Loc Cert.AttBwdIdeal.nD Cert.AttBwdIdeal.τ Cert.AttBwdIdeal.sig) → Buf (Elt Ideal) ℓ) : Prop :=
  True

def Pre_AttBwdIdeal_finite_sequence [hPre_finite_sequence : Cert.Pre_finite_sequence.Facts] (m : (ℓ : Loc Cert.AttBwdIdeal.nD Cert.AttBwdIdeal.τ Cert.AttBwdIdeal.sig) → Buf (Elt Ideal) ℓ) : Prop :=
  ∀ c : Dev Cert.AttBwdIdeal.nD,
    (Cert.Pre_finite_sequence.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).1 = (fun _ => 1#1)
    ∧ (Cert.Pre_finite_sequence.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.1 = (fun _ => 1#1)
    ∧ (Cert.Pre_finite_sequence.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.2.1 = (fun _ => 1#1)
    ∧ (Cert.Pre_finite_sequence.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.2.2.1 = (fun _ => 1#1)
    ∧ (Cert.Pre_finite_sequence.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.2.2.2 = (fun _ => 1#1)

def Pre_AttBwdRefIdeal (m : (ℓ : Loc Cert.AttBwdRefIdeal.nD Cert.AttBwdRefIdeal.τ Cert.AttBwdRefIdeal.sig) → Buf (Elt Ideal) ℓ) : Prop :=
  True

def Pre_AttBwdRefIdeal_finite_sequence [hPre_finite_sequence : Cert.Pre_finite_sequence.Facts] (m : (ℓ : Loc Cert.AttBwdRefIdeal.nD Cert.AttBwdRefIdeal.τ Cert.AttBwdRefIdeal.sig) → Buf (Elt Ideal) ℓ) : Prop :=
  ∀ c : Dev Cert.AttBwdRefIdeal.nD,
    (Cert.Pre_finite_sequence.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).1 = (fun _ => 1#1)
    ∧ (Cert.Pre_finite_sequence.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.1 = (fun _ => 1#1)
    ∧ (Cert.Pre_finite_sequence.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.2.1 = (fun _ => 1#1)
    ∧ (Cert.Pre_finite_sequence.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.2.2.1 = (fun _ => 1#1)
    ∧ (Cert.Pre_finite_sequence.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.2.2.2 = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_factors [hDactIdeal : Cert.DactIdeal.Facts] [hPre_finite_factors : Cert.Pre_finite_factors.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_factors m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_finite_factors [hDactRefIdeal : Cert.DactRefIdeal.Facts] [hPre_finite_factors : Cert.Pre_finite_factors.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_factors m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1)
      ∧ r.2.mem ((c.tc : Thread Cert.DwdRefIdeal.nD Cert.DwdRefIdeal.τ).loc Cert.DwdRefIdeal.main_arg2) = m ((c.tc : Thread Cert.DwdRefIdeal.nD Cert.DwdRefIdeal.τ).loc Cert.DwdRefIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_ProjAtt [hProjAtt : Cert.ProjAtt.Facts] : Prop :=
  ∀ (m : (ℓ : Loc Cert.ProjAtt.nD Cert.ProjAtt.τ Cert.ProjAtt.sig) → Buf (Elt Bits) ℓ) (g : Dev Cert.ProjAtt.nD → PrngReg), Pre_ProjAtt m →
    θ_run (Cert.ProjAtt.defs (F := Bits)) (onTc (τ := Cert.ProjAtt.τ) (Cert.ProjAtt.main (F := Bits))) ⟨m, fun _ => 0, g⟩ (fun r => (∀ c : Dev Cert.ProjAtt.nD,
      r.2.mem ((c.tc : Thread Cert.ProjAtt.nD Cert.ProjAtt.τ).loc Cert.ProjAtt.main_arg0) = m ((c.tc : Thread Cert.ProjAtt.nD Cert.ProjAtt.τ).loc Cert.ProjAtt.main_arg0)
      ∧ r.2.mem ((c.tc : Thread Cert.ProjAtt.nD Cert.ProjAtt.τ).loc Cert.ProjAtt.main_arg1) = m ((c.tc : Thread Cert.ProjAtt.nD Cert.ProjAtt.τ).loc Cert.ProjAtt.main_arg1))
      ∧ r.2.sem = fun _ => 0)

def quiescent_ProjAttIdeal [hProjAttIdeal : Cert.ProjAttIdeal.Facts] : Prop :=
  ∀ (m : (ℓ : Loc Cert.ProjAttIdeal.nD Cert.ProjAttIdeal.τ Cert.ProjAttIdeal.sig) → Buf (Elt Ideal) ℓ) (g : Dev Cert.ProjAttIdeal.nD → PrngReg), Pre_ProjAttIdeal m →
    θ_run (Cert.ProjAttIdeal.defs (F := Ideal)) (onTc (τ := Cert.ProjAttIdeal.τ) (Cert.ProjAttIdeal.main (F := Ideal))) ⟨m, fun _ => 0, g⟩ (fun r => (∀ c : Dev Cert.ProjAttIdeal.nD,
      r.2.mem ((c.tc : Thread Cert.ProjAttIdeal.nD Cert.ProjAttIdeal.τ).loc Cert.ProjAttIdeal.main_arg0) = m ((c.tc : Thread Cert.ProjAttIdeal.nD Cert.ProjAttIdeal.τ).loc Cert.ProjAttIdeal.main_arg0)
      ∧ r.2.mem ((c.tc : Thread Cert.ProjAttIdeal.nD Cert.ProjAttIdeal.τ).loc Cert.ProjAttIdeal.main_arg1) = m ((c.tc : Thread Cert.ProjAttIdeal.nD Cert.ProjAttIdeal.τ).loc Cert.ProjAttIdeal.main_arg1))
      ∧ r.2.sem = fun _ => 0)

def quiescent_ProjAttRefIdeal [hProjAttRefIdeal : Cert.ProjAttRefIdeal.Facts] : Prop :=
  ∀ (m : (ℓ : Loc Cert.ProjAttRefIdeal.nD Cert.ProjAttRefIdeal.τ Cert.ProjAttRefIdeal.sig) → Buf (Elt Ideal) ℓ) (g : Dev Cert.ProjAttRefIdeal.nD → PrngReg), Pre_ProjAttRefIdeal m →
    θ_run (Cert.ProjAttRefIdeal.defs (F := Ideal)) (onTc (τ := Cert.ProjAttRefIdeal.τ) (Cert.ProjAttRefIdeal.main (F := Ideal))) ⟨m, fun _ => 0, g⟩ (fun r => (∀ c : Dev Cert.ProjAttRefIdeal.nD,
      r.2.mem ((c.tc : Thread Cert.ProjAttRefIdeal.nD Cert.ProjAttRefIdeal.τ).loc Cert.ProjAttRefIdeal.main_arg0) = m ((c.tc : Thread Cert.ProjAttRefIdeal.nD Cert.ProjAttRefIdeal.τ).loc Cert.ProjAttRefIdeal.main_arg0)
      ∧ r.2.mem ((c.tc : Thread Cert.ProjAttRefIdeal.nD Cert.ProjAttRefIdeal.τ).loc Cert.ProjAttRefIdeal.main_arg1) = m ((c.tc : Thread Cert.ProjAttRefIdeal.nD Cert.ProjAttRefIdeal.τ).loc Cert.ProjAttRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_ProjRwkv [hProjRwkv : Cert.ProjRwkv.Facts] : Prop :=
  ∀ (m : (ℓ : Loc Cert.ProjRwkv.nD Cert.ProjRwkv.τ Cert.ProjRwkv.sig) → Buf (Elt Bits) ℓ) (g : Dev Cert.ProjRwkv.nD → PrngReg), Pre_ProjRwkv m →
    θ_run (Cert.ProjRwkv.defs (F := Bits)) (onTc (τ := Cert.ProjRwkv.τ) (Cert.ProjRwkv.main (F := Bits))) ⟨m, fun _ => 0, g⟩ (fun r => (∀ c : Dev Cert.ProjRwkv.nD,
      r.2.mem ((c.tc : Thread Cert.ProjRwkv.nD Cert.ProjRwkv.τ).loc Cert.ProjRwkv.main_arg0) = m ((c.tc : Thread Cert.ProjRwkv.nD Cert.ProjRwkv.τ).loc Cert.ProjRwkv.main_arg0)
      ∧ r.2.mem ((c.tc : Thread Cert.ProjRwkv.nD Cert.ProjRwkv.τ).loc Cert.ProjRwkv.main_arg1) = m ((c.tc : Thread Cert.ProjRwkv.nD Cert.ProjRwkv.τ).loc Cert.ProjRwkv.main_arg1))
      ∧ r.2.sem = fun _ => 0)

def quiescent_ProjRwkvIdeal [hProjRwkvIdeal : Cert.ProjRwkvIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg), Pre_ProjRwkvIdeal m →
    θ_run (Cert.ProjRwkvIdeal.defs (F := Ideal)) (onTc (τ := Cert.ProjRwkvIdeal.τ) (Cert.ProjRwkvIdeal.main (F := Ideal))) ⟨m, fun _ => 0, g⟩ (fun r => (∀ c : Dev Cert.ProjRwkvIdeal.nD,
      r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
      ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1))
      ∧ r.2.sem = fun _ => 0)

def quiescent_ProjRwkvRefIdeal [hProjRwkvRefIdeal : Cert.ProjRwkvRefIdeal.Facts] : Prop :=
  ∀ (m : (ℓ : Loc Cert.ProjRwkvRefIdeal.nD Cert.ProjRwkvRefIdeal.τ Cert.ProjRwkvRefIdeal.sig) → Buf (Elt Ideal) ℓ) (g : Dev Cert.ProjRwkvRefIdeal.nD → PrngReg), Pre_ProjRwkvRefIdeal m →
    θ_run (Cert.ProjRwkvRefIdeal.defs (F := Ideal)) (onTc (τ := Cert.ProjRwkvRefIdeal.τ) (Cert.ProjRwkvRefIdeal.main (F := Ideal))) ⟨m, fun _ => 0, g⟩ (fun r => (∀ c : Dev Cert.ProjRwkvRefIdeal.nD,
      r.2.mem ((c.tc : Thread Cert.ProjRwkvRefIdeal.nD Cert.ProjRwkvRefIdeal.τ).loc Cert.ProjRwkvRefIdeal.main_arg0) = m ((c.tc : Thread Cert.ProjRwkvRefIdeal.nD Cert.ProjRwkvRefIdeal.τ).loc Cert.ProjRwkvRefIdeal.main_arg0)
      ∧ r.2.mem ((c.tc : Thread Cert.ProjRwkvRefIdeal.nD Cert.ProjRwkvRefIdeal.τ).loc Cert.ProjRwkvRefIdeal.main_arg1) = m ((c.tc : Thread Cert.ProjRwkvRefIdeal.nD Cert.ProjRwkvRefIdeal.τ).loc Cert.ProjRwkvRefIdeal.main_arg1))
      ∧ r.2.sem = fun _ => 0)

def quiescent_BranchRwkv [hBranchRwkv : Cert.BranchRwkv.Facts] : Prop :=
  ∀ (m : (ℓ : Loc Cert.BranchRwkv.nD Cert.BranchRwkv.τ Cert.BranchRwkv.sig) → Buf (Elt Bits) ℓ) (g : Dev Cert.BranchRwkv.nD → PrngReg), Pre_BranchRwkv m →
    θ_run (Cert.BranchRwkv.defs (F := Bits)) (onTc (τ := Cert.BranchRwkv.τ) (Cert.BranchRwkv.main (F := Bits))) ⟨m, fun _ => 0, g⟩ (fun r => (∀ c : Dev Cert.BranchRwkv.nD,
      r.2.mem ((c.tc : Thread Cert.BranchRwkv.nD Cert.BranchRwkv.τ).loc Cert.BranchRwkv.main_arg0) = m ((c.tc : Thread Cert.BranchRwkv.nD Cert.BranchRwkv.τ).loc Cert.BranchRwkv.main_arg0)
      ∧ r.2.mem ((c.tc : Thread Cert.BranchRwkv.nD Cert.BranchRwkv.τ).loc Cert.BranchRwkv.main_arg1) = m ((c.tc : Thread Cert.BranchRwkv.nD Cert.BranchRwkv.τ).loc Cert.BranchRwkv.main_arg1))
      ∧ r.2.sem = fun _ => 0)

def quiescent_BranchRwkvIdeal [hBranchRwkvIdeal : Cert.BranchRwkvIdeal.Facts] : Prop :=
  ∀ (m : (ℓ : Loc Cert.BranchRwkvIdeal.nD Cert.BranchRwkvIdeal.τ Cert.BranchRwkvIdeal.sig) → Buf (Elt Ideal) ℓ) (g : Dev Cert.BranchRwkvIdeal.nD → PrngReg), Pre_BranchRwkvIdeal m →
    θ_run (Cert.BranchRwkvIdeal.defs (F := Ideal)) (onTc (τ := Cert.BranchRwkvIdeal.τ) (Cert.BranchRwkvIdeal.main (F := Ideal))) ⟨m, fun _ => 0, g⟩ (fun r => (∀ c : Dev Cert.BranchRwkvIdeal.nD,
      r.2.mem ((c.tc : Thread Cert.BranchRwkvIdeal.nD Cert.BranchRwkvIdeal.τ).loc Cert.BranchRwkvIdeal.main_arg0) = m ((c.tc : Thread Cert.BranchRwkvIdeal.nD Cert.BranchRwkvIdeal.τ).loc Cert.BranchRwkvIdeal.main_arg0)
      ∧ r.2.mem ((c.tc : Thread Cert.BranchRwkvIdeal.nD Cert.BranchRwkvIdeal.τ).loc Cert.BranchRwkvIdeal.main_arg1) = m ((c.tc : Thread Cert.BranchRwkvIdeal.nD Cert.BranchRwkvIdeal.τ).loc Cert.BranchRwkvIdeal.main_arg1))
      ∧ r.2.sem = fun _ => 0)

def quiescent_BranchRwkvRefIdeal [hBranchRwkvRefIdeal : Cert.BranchRwkvRefIdeal.Facts] : Prop :=
  ∀ (m : (ℓ : Loc Cert.BranchRwkvRefIdeal.nD Cert.BranchRwkvRefIdeal.τ Cert.BranchRwkvRefIdeal.sig) → Buf (Elt Ideal) ℓ) (g : Dev Cert.BranchRwkvRefIdeal.nD → PrngReg), Pre_BranchRwkvRefIdeal m →
    θ_run (Cert.BranchRwkvRefIdeal.defs (F := Ideal)) (onTc (τ := Cert.BranchRwkvRefIdeal.τ) (Cert.BranchRwkvRefIdeal.main (F := Ideal))) ⟨m, fun _ => 0, g⟩ (fun r => (∀ c : Dev Cert.BranchRwkvRefIdeal.nD,
      r.2.mem ((c.tc : Thread Cert.BranchRwkvRefIdeal.nD Cert.BranchRwkvRefIdeal.τ).loc Cert.BranchRwkvRefIdeal.main_arg0) = m ((c.tc : Thread Cert.BranchRwkvRefIdeal.nD Cert.BranchRwkvRefIdeal.τ).loc Cert.BranchRwkvRefIdeal.main_arg0)
      ∧ r.2.mem ((c.tc : Thread Cert.BranchRwkvRefIdeal.nD Cert.BranchRwkvRefIdeal.τ).loc Cert.BranchRwkvRefIdeal.main_arg1) = m ((c.tc : Thread Cert.BranchRwkvRefIdeal.nD Cert.BranchRwkvRefIdeal.τ).loc Cert.BranchRwkvRefIdeal.main_arg1))
      ∧ r.2.sem = fun _ => 0)

def quiescent_BranchAtt [hBranchAtt : Cert.BranchAtt.Facts] : Prop :=
  ∀ (m : (ℓ : Loc Cert.BranchAtt.nD Cert.BranchAtt.τ Cert.BranchAtt.sig) → Buf (Elt Bits) ℓ) (g : Dev Cert.BranchAtt.nD → PrngReg), Pre_BranchAtt m →
    θ_run (Cert.BranchAtt.defs (F := Bits)) (onTc (τ := Cert.BranchAtt.τ) (Cert.BranchAtt.main (F := Bits))) ⟨m, fun _ => 0, g⟩ (fun r => (∀ c : Dev Cert.BranchAtt.nD,
      r.2.mem ((c.tc : Thread Cert.BranchAtt.nD Cert.BranchAtt.τ).loc Cert.BranchAtt.main_arg0) = m ((c.tc : Thread Cert.BranchAtt.nD Cert.BranchAtt.τ).loc Cert.BranchAtt.main_arg0)
      ∧ r.2.mem ((c.tc : Thread Cert.BranchAtt.nD Cert.BranchAtt.τ).loc Cert.BranchAtt.main_arg1) = m ((c.tc : Thread Cert.BranchAtt.nD Cert.BranchAtt.τ).loc Cert.BranchAtt.main_arg1))
      ∧ r.2.sem = fun _ => 0)

def quiescent_BranchAttIdeal [hBranchAttIdeal : Cert.BranchAttIdeal.Facts] : Prop :=
  ∀ (m : (ℓ : Loc Cert.BranchAttIdeal.nD Cert.BranchAttIdeal.τ Cert.BranchAttIdeal.sig) → Buf (Elt Ideal) ℓ) (g : Dev Cert.BranchAttIdeal.nD → PrngReg), Pre_BranchAttIdeal m →
    θ_run (Cert.BranchAttIdeal.defs (F := Ideal)) (onTc (τ := Cert.BranchAttIdeal.τ) (Cert.BranchAttIdeal.main (F := Ideal))) ⟨m, fun _ => 0, g⟩ (fun r => (∀ c : Dev Cert.BranchAttIdeal.nD,
      r.2.mem ((c.tc : Thread Cert.BranchAttIdeal.nD Cert.BranchAttIdeal.τ).loc Cert.BranchAttIdeal.main_arg0) = m ((c.tc : Thread Cert.BranchAttIdeal.nD Cert.BranchAttIdeal.τ).loc Cert.BranchAttIdeal.main_arg0)
      ∧ r.2.mem ((c.tc : Thread Cert.BranchAttIdeal.nD Cert.BranchAttIdeal.τ).loc Cert.BranchAttIdeal.main_arg1) = m ((c.tc : Thread Cert.BranchAttIdeal.nD Cert.BranchAttIdeal.τ).loc Cert.BranchAttIdeal.main_arg1))
      ∧ r.2.sem = fun _ => 0)

def quiescent_BranchAttRefIdeal [hBranchAttRefIdeal : Cert.BranchAttRefIdeal.Facts] : Prop :=
  ∀ (m : (ℓ : Loc Cert.BranchAttRefIdeal.nD Cert.BranchAttRefIdeal.τ Cert.BranchAttRefIdeal.sig) → Buf (Elt Ideal) ℓ) (g : Dev Cert.BranchAttRefIdeal.nD → PrngReg), Pre_BranchAttRefIdeal m →
    θ_run (Cert.BranchAttRefIdeal.defs (F := Ideal)) (onTc (τ := Cert.BranchAttRefIdeal.τ) (Cert.BranchAttRefIdeal.main (F := Ideal))) ⟨m, fun _ => 0, g⟩ (fun r => (∀ c : Dev Cert.BranchAttRefIdeal.nD,
      r.2.mem ((c.tc : Thread Cert.BranchAttRefIdeal.nD Cert.BranchAttRefIdeal.τ).loc Cert.BranchAttRefIdeal.main_arg0) = m ((c.tc : Thread Cert.BranchAttRefIdeal.nD Cert.BranchAttRefIdeal.τ).loc Cert.BranchAttRefIdeal.main_arg0)
      ∧ r.2.mem ((c.tc : Thread Cert.BranchAttRefIdeal.nD Cert.BranchAttRefIdeal.τ).loc Cert.BranchAttRefIdeal.main_arg1) = m ((c.tc : Thread Cert.BranchAttRefIdeal.nD Cert.BranchAttRefIdeal.τ).loc Cert.BranchAttRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_DMerge [hDMerge : Cert.DMerge.Facts] : Prop :=
  ∀ (m : (ℓ : Loc Cert.DMerge.nD Cert.DMerge.τ Cert.DMerge.sig) → Buf (Elt Bits) ℓ) (g : Dev Cert.DMerge.nD → PrngReg), Pre_DMerge m →
    θ_run (Cert.DMerge.defs (F := Bits)) (onTc (τ := Cert.DMerge.τ) (Cert.DMerge.main (F := Bits))) ⟨m, fun _ => 0, g⟩ (fun r => (∀ c : Dev Cert.DMerge.nD,
      r.2.mem ((c.tc : Thread Cert.DMerge.nD Cert.DMerge.τ).loc Cert.DMerge.main_arg0) = m ((c.tc : Thread Cert.DMerge.nD Cert.DMerge.τ).loc Cert.DMerge.main_arg0)
      ∧ r.2.mem ((c.tc : Thread Cert.DMerge.nD Cert.DMerge.τ).loc Cert.DMerge.main_arg1) = m ((c.tc : Thread Cert.DMerge.nD Cert.DMerge.τ).loc Cert.DMerge.main_arg1)
      ∧ r.2.mem ((c.tc : Thread Cert.DMerge.nD Cert.DMerge.τ).loc Cert.DMerge.main_arg2) = m ((c.tc : Thread Cert.DMerge.nD Cert.DMerge.τ).loc Cert.DMerge.main_arg2))
      ∧ r.2.sem = fun _ => 0)

def quiescent_DMergeIdeal [hDMergeIdeal : Cert.DMergeIdeal.Facts] : Prop :=
  ∀ (m : (ℓ : Loc Cert.DMergeIdeal.nD Cert.DMergeIdeal.τ Cert.DMergeIdeal.sig) → Buf (Elt Ideal) ℓ) (g : Dev Cert.DMergeIdeal.nD → PrngReg), Pre_DMergeIdeal m →
    θ_run (Cert.DMergeIdeal.defs (F := Ideal)) (onTc (τ := Cert.DMergeIdeal.τ) (Cert.DMergeIdeal.main (F := Ideal))) ⟨m, fun _ => 0, g⟩ (fun r => (∀ c : Dev Cert.DMergeIdeal.nD,
      r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
      ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
      ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2))
      ∧ r.2.sem = fun _ => 0)

def quiescent_DMergeRefIdeal [hDMergeRefIdeal : Cert.DMergeRefIdeal.Facts] : Prop :=
  ∀ (m : (ℓ : Loc Cert.DMergeRefIdeal.nD Cert.DMergeRefIdeal.τ Cert.DMergeRefIdeal.sig) → Buf (Elt Ideal) ℓ) (g : Dev Cert.DMergeRefIdeal.nD → PrngReg), Pre_DMergeRefIdeal m →
    θ_run (Cert.DMergeRefIdeal.defs (F := Ideal)) (onTc (τ := Cert.DMergeRefIdeal.τ) (Cert.DMergeRefIdeal.main (F := Ideal))) ⟨m, fun _ => 0, g⟩ (fun r => (∀ c : Dev Cert.DMergeRefIdeal.nD,
      r.2.mem ((c.tc : Thread Cert.DMergeRefIdeal.nD Cert.DMergeRefIdeal.τ).loc Cert.DMergeRefIdeal.main_arg0) = m ((c.tc : Thread Cert.DMergeRefIdeal.nD Cert.DMergeRefIdeal.τ).loc Cert.DMergeRefIdeal.main_arg0)
      ∧ r.2.mem ((c.tc : Thread Cert.DMergeRefIdeal.nD Cert.DMergeRefIdeal.τ).loc Cert.DMergeRefIdeal.main_arg1) = m ((c.tc : Thread Cert.DMergeRefIdeal.nD Cert.DMergeRefIdeal.τ).loc Cert.DMergeRefIdeal.main_arg1)
      ∧ r.2.mem ((c.tc : Thread Cert.DMergeRefIdeal.nD Cert.DMergeRefIdeal.τ).loc Cert.DMergeRefIdeal.main_arg2) = m ((c.tc : Thread Cert.DMergeRefIdeal.nD Cert.DMergeRefIdeal.τ).loc Cert.DMergeRefIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1)
      ∧ r.2.mem ((c.tc : Thread Cert.DWOut.nD Cert.DWOut.τ).loc Cert.DWOut.main_arg2) = m ((c.tc : Thread Cert.DWOut.nD Cert.DWOut.τ).loc Cert.DWOut.main_arg2))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
      ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1)
      ∧ r.2.mem ((c.tc : Thread Cert.DWOutRefIdeal.nD Cert.DWOutRefIdeal.τ).loc Cert.DWOutRefIdeal.main_arg2) = m ((c.tc : Thread Cert.DWOutRefIdeal.nD Cert.DWOutRefIdeal.τ).loc Cert.DWOutRefIdeal.main_arg2))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1)
      ∧ r.2.mem ((c.tc : Thread Cert.DY.nD Cert.DY.τ).loc Cert.DY.main_arg2) = m ((c.tc : Thread Cert.DY.nD Cert.DY.τ).loc Cert.DY.main_arg2))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1)
      ∧ r.2.mem ((c.tc : Thread Cert.DYIdeal.nD Cert.DYIdeal.τ).loc Cert.DYIdeal.main_arg2) = m ((c.tc : Thread Cert.DYIdeal.nD Cert.DYIdeal.τ).loc Cert.DYIdeal.main_arg2))
      ∧ r.2.sem = fun _ => 0)

def quiescent_DYRefIdeal [hDYRefIdeal : Cert.DYRefIdeal.Facts] : Prop :=
  ∀ (m : (ℓ : Loc Cert.DYRefIdeal.nD Cert.DYRefIdeal.τ Cert.DYRefIdeal.sig) → Buf (Elt Ideal) ℓ) (g : Dev Cert.DYRefIdeal.nD → PrngReg), Pre_DYRefIdeal m →
    θ_run (Cert.DYRefIdeal.defs (F := Ideal)) (onTc (τ := Cert.DYRefIdeal.τ) (Cert.DYRefIdeal.main (F := Ideal))) ⟨m, fun _ => 0, g⟩ (fun r => (∀ c : Dev Cert.DYRefIdeal.nD,
      r.2.mem ((c.tc : Thread Cert.DYRefIdeal.nD Cert.DYRefIdeal.τ).loc Cert.DYRefIdeal.main_arg0) = m ((c.tc : Thread Cert.DYRefIdeal.nD Cert.DYRefIdeal.τ).loc Cert.DYRefIdeal.main_arg0)
      ∧ r.2.mem ((c.tc : Thread Cert.DYRefIdeal.nD Cert.DYRefIdeal.τ).loc Cert.DYRefIdeal.main_arg1) = m ((c.tc : Thread Cert.DYRefIdeal.nD Cert.DYRefIdeal.τ).loc Cert.DYRefIdeal.main_arg1)
      ∧ r.2.mem ((c.tc : Thread Cert.DYRefIdeal.nD Cert.DYRefIdeal.τ).loc Cert.DYRefIdeal.main_arg2) = m ((c.tc : Thread Cert.DYRefIdeal.nD Cert.DYRefIdeal.τ).loc Cert.DYRefIdeal.main_arg2))
      ∧ r.2.sem = fun _ => 0)

def quiescent_DWBranchRwkv [hDWBranchRwkv : Cert.DWBranchRwkv.Facts] : Prop :=
  ∀ (m : (ℓ : Loc Cert.DWBranchRwkv.nD Cert.DWBranchRwkv.τ Cert.DWBranchRwkv.sig) → Buf (Elt Bits) ℓ) (g : Dev Cert.DWBranchRwkv.nD → PrngReg), Pre_DWBranchRwkv m →
    θ_run (Cert.DWBranchRwkv.defs (F := Bits)) (onTc (τ := Cert.DWBranchRwkv.τ) (Cert.DWBranchRwkv.main (F := Bits))) ⟨m, fun _ => 0, g⟩ (fun r => (∀ c : Dev Cert.DWBranchRwkv.nD,
      r.2.mem ((c.tc : Thread Cert.DWBranchRwkv.nD Cert.DWBranchRwkv.τ).loc Cert.DWBranchRwkv.main_arg0) = m ((c.tc : Thread Cert.DWBranchRwkv.nD Cert.DWBranchRwkv.τ).loc Cert.DWBranchRwkv.main_arg0)
      ∧ r.2.mem ((c.tc : Thread Cert.DWBranchRwkv.nD Cert.DWBranchRwkv.τ).loc Cert.DWBranchRwkv.main_arg1) = m ((c.tc : Thread Cert.DWBranchRwkv.nD Cert.DWBranchRwkv.τ).loc Cert.DWBranchRwkv.main_arg1)
      ∧ r.2.mem ((c.tc : Thread Cert.DWBranchRwkv.nD Cert.DWBranchRwkv.τ).loc Cert.DWBranchRwkv.main_arg2) = m ((c.tc : Thread Cert.DWBranchRwkv.nD Cert.DWBranchRwkv.τ).loc Cert.DWBranchRwkv.main_arg2))
      ∧ r.2.sem = fun _ => 0)

def quiescent_DWBranchRwkvIdeal [hDWBranchRwkvIdeal : Cert.DWBranchRwkvIdeal.Facts] : Prop :=
  ∀ (m : (ℓ : Loc Cert.DWBranchRwkvIdeal.nD Cert.DWBranchRwkvIdeal.τ Cert.DWBranchRwkvIdeal.sig) → Buf (Elt Ideal) ℓ) (g : Dev Cert.DWBranchRwkvIdeal.nD → PrngReg), Pre_DWBranchRwkvIdeal m →
    θ_run (Cert.DWBranchRwkvIdeal.defs (F := Ideal)) (onTc (τ := Cert.DWBranchRwkvIdeal.τ) (Cert.DWBranchRwkvIdeal.main (F := Ideal))) ⟨m, fun _ => 0, g⟩ (fun r => (∀ c : Dev Cert.DWBranchRwkvIdeal.nD,
      r.2.mem ((c.tc : Thread Cert.DWBranchRwkvIdeal.nD Cert.DWBranchRwkvIdeal.τ).loc Cert.DWBranchRwkvIdeal.main_arg0) = m ((c.tc : Thread Cert.DWBranchRwkvIdeal.nD Cert.DWBranchRwkvIdeal.τ).loc Cert.DWBranchRwkvIdeal.main_arg0)
      ∧ r.2.mem ((c.tc : Thread Cert.DWBranchRwkvIdeal.nD Cert.DWBranchRwkvIdeal.τ).loc Cert.DWBranchRwkvIdeal.main_arg1) = m ((c.tc : Thread Cert.DWBranchRwkvIdeal.nD Cert.DWBranchRwkvIdeal.τ).loc Cert.DWBranchRwkvIdeal.main_arg1)
      ∧ r.2.mem ((c.tc : Thread Cert.DWBranchRwkvIdeal.nD Cert.DWBranchRwkvIdeal.τ).loc Cert.DWBranchRwkvIdeal.main_arg2) = m ((c.tc : Thread Cert.DWBranchRwkvIdeal.nD Cert.DWBranchRwkvIdeal.τ).loc Cert.DWBranchRwkvIdeal.main_arg2))
      ∧ r.2.sem = fun _ => 0)

def quiescent_DWBranchRwkvRefIdeal [hDWBranchRwkvRefIdeal : Cert.DWBranchRwkvRefIdeal.Facts] : Prop :=
  ∀ (m : (ℓ : Loc Cert.DWBranchRwkvRefIdeal.nD Cert.DWBranchRwkvRefIdeal.τ Cert.DWBranchRwkvRefIdeal.sig) → Buf (Elt Ideal) ℓ) (g : Dev Cert.DWBranchRwkvRefIdeal.nD → PrngReg), Pre_DWBranchRwkvRefIdeal m →
    θ_run (Cert.DWBranchRwkvRefIdeal.defs (F := Ideal)) (onTc (τ := Cert.DWBranchRwkvRefIdeal.τ) (Cert.DWBranchRwkvRefIdeal.main (F := Ideal))) ⟨m, fun _ => 0, g⟩ (fun r => (∀ c : Dev Cert.DWBranchRwkvRefIdeal.nD,
      r.2.mem ((c.tc : Thread Cert.DWBranchRwkvRefIdeal.nD Cert.DWBranchRwkvRefIdeal.τ).loc Cert.DWBranchRwkvRefIdeal.main_arg0) = m ((c.tc : Thread Cert.DWBranchRwkvRefIdeal.nD Cert.DWBranchRwkvRefIdeal.τ).loc Cert.DWBranchRwkvRefIdeal.main_arg0)
      ∧ r.2.mem ((c.tc : Thread Cert.DWBranchRwkvRefIdeal.nD Cert.DWBranchRwkvRefIdeal.τ).loc Cert.DWBranchRwkvRefIdeal.main_arg1) = m ((c.tc : Thread Cert.DWBranchRwkvRefIdeal.nD Cert.DWBranchRwkvRefIdeal.τ).loc Cert.DWBranchRwkvRefIdeal.main_arg1)
      ∧ r.2.mem ((c.tc : Thread Cert.DWBranchRwkvRefIdeal.nD Cert.DWBranchRwkvRefIdeal.τ).loc Cert.DWBranchRwkvRefIdeal.main_arg2) = m ((c.tc : Thread Cert.DWBranchRwkvRefIdeal.nD Cert.DWBranchRwkvRefIdeal.τ).loc Cert.DWBranchRwkvRefIdeal.main_arg2))
      ∧ r.2.sem = fun _ => 0)

def quiescent_DWBranchAtt [hDWBranchAtt : Cert.DWBranchAtt.Facts] : Prop :=
  ∀ (m : (ℓ : Loc Cert.DWBranchAtt.nD Cert.DWBranchAtt.τ Cert.DWBranchAtt.sig) → Buf (Elt Bits) ℓ) (g : Dev Cert.DWBranchAtt.nD → PrngReg), Pre_DWBranchAtt m →
    θ_run (Cert.DWBranchAtt.defs (F := Bits)) (onTc (τ := Cert.DWBranchAtt.τ) (Cert.DWBranchAtt.main (F := Bits))) ⟨m, fun _ => 0, g⟩ (fun r => (∀ c : Dev Cert.DWBranchAtt.nD,
      r.2.mem ((c.tc : Thread Cert.DWBranchAtt.nD Cert.DWBranchAtt.τ).loc Cert.DWBranchAtt.main_arg0) = m ((c.tc : Thread Cert.DWBranchAtt.nD Cert.DWBranchAtt.τ).loc Cert.DWBranchAtt.main_arg0)
      ∧ r.2.mem ((c.tc : Thread Cert.DWBranchAtt.nD Cert.DWBranchAtt.τ).loc Cert.DWBranchAtt.main_arg1) = m ((c.tc : Thread Cert.DWBranchAtt.nD Cert.DWBranchAtt.τ).loc Cert.DWBranchAtt.main_arg1)
      ∧ r.2.mem ((c.tc : Thread Cert.DWBranchAtt.nD Cert.DWBranchAtt.τ).loc Cert.DWBranchAtt.main_arg2) = m ((c.tc : Thread Cert.DWBranchAtt.nD Cert.DWBranchAtt.τ).loc Cert.DWBranchAtt.main_arg2))
      ∧ r.2.sem = fun _ => 0)

def quiescent_DWBranchAttIdeal [hDWBranchAttIdeal : Cert.DWBranchAttIdeal.Facts] : Prop :=
  ∀ (m : (ℓ : Loc Cert.DWBranchAttIdeal.nD Cert.DWBranchAttIdeal.τ Cert.DWBranchAttIdeal.sig) → Buf (Elt Ideal) ℓ) (g : Dev Cert.DWBranchAttIdeal.nD → PrngReg), Pre_DWBranchAttIdeal m →
    θ_run (Cert.DWBranchAttIdeal.defs (F := Ideal)) (onTc (τ := Cert.DWBranchAttIdeal.τ) (Cert.DWBranchAttIdeal.main (F := Ideal))) ⟨m, fun _ => 0, g⟩ (fun r => (∀ c : Dev Cert.DWBranchAttIdeal.nD,
      r.2.mem ((c.tc : Thread Cert.DWBranchAttIdeal.nD Cert.DWBranchAttIdeal.τ).loc Cert.DWBranchAttIdeal.main_arg0) = m ((c.tc : Thread Cert.DWBranchAttIdeal.nD Cert.DWBranchAttIdeal.τ).loc Cert.DWBranchAttIdeal.main_arg0)
      ∧ r.2.mem ((c.tc : Thread Cert.DWBranchAttIdeal.nD Cert.DWBranchAttIdeal.τ).loc Cert.DWBranchAttIdeal.main_arg1) = m ((c.tc : Thread Cert.DWBranchAttIdeal.nD Cert.DWBranchAttIdeal.τ).loc Cert.DWBranchAttIdeal.main_arg1)
      ∧ r.2.mem ((c.tc : Thread Cert.DWBranchAttIdeal.nD Cert.DWBranchAttIdeal.τ).loc Cert.DWBranchAttIdeal.main_arg2) = m ((c.tc : Thread Cert.DWBranchAttIdeal.nD Cert.DWBranchAttIdeal.τ).loc Cert.DWBranchAttIdeal.main_arg2))
      ∧ r.2.sem = fun _ => 0)

def quiescent_DWBranchAttRefIdeal [hDWBranchAttRefIdeal : Cert.DWBranchAttRefIdeal.Facts] : Prop :=
  ∀ (m : (ℓ : Loc Cert.DWBranchAttRefIdeal.nD Cert.DWBranchAttRefIdeal.τ Cert.DWBranchAttRefIdeal.sig) → Buf (Elt Ideal) ℓ) (g : Dev Cert.DWBranchAttRefIdeal.nD → PrngReg), Pre_DWBranchAttRefIdeal m →
    θ_run (Cert.DWBranchAttRefIdeal.defs (F := Ideal)) (onTc (τ := Cert.DWBranchAttRefIdeal.τ) (Cert.DWBranchAttRefIdeal.main (F := Ideal))) ⟨m, fun _ => 0, g⟩ (fun r => (∀ c : Dev Cert.DWBranchAttRefIdeal.nD,
      r.2.mem ((c.tc : Thread Cert.DWBranchAttRefIdeal.nD Cert.DWBranchAttRefIdeal.τ).loc Cert.DWBranchAttRefIdeal.main_arg0) = m ((c.tc : Thread Cert.DWBranchAttRefIdeal.nD Cert.DWBranchAttRefIdeal.τ).loc Cert.DWBranchAttRefIdeal.main_arg0)
      ∧ r.2.mem ((c.tc : Thread Cert.DWBranchAttRefIdeal.nD Cert.DWBranchAttRefIdeal.τ).loc Cert.DWBranchAttRefIdeal.main_arg1) = m ((c.tc : Thread Cert.DWBranchAttRefIdeal.nD Cert.DWBranchAttRefIdeal.τ).loc Cert.DWBranchAttRefIdeal.main_arg1)
      ∧ r.2.mem ((c.tc : Thread Cert.DWBranchAttRefIdeal.nD Cert.DWBranchAttRefIdeal.τ).loc Cert.DWBranchAttRefIdeal.main_arg2) = m ((c.tc : Thread Cert.DWBranchAttRefIdeal.nD Cert.DWBranchAttRefIdeal.τ).loc Cert.DWBranchAttRefIdeal.main_arg2))
      ∧ r.2.sem = fun _ => 0)

def quiescent_DWInAtt [hDWInAtt : Cert.DWInAtt.Facts] : Prop :=
  ∀ (m : (ℓ : Loc Cert.DWInAtt.nD Cert.DWInAtt.τ Cert.DWInAtt.sig) → Buf (Elt Bits) ℓ) (g : Dev Cert.DWInAtt.nD → PrngReg), Pre_DWInAtt m →
    θ_run (Cert.DWInAtt.defs (F := Bits)) (onTc (τ := Cert.DWInAtt.τ) (Cert.DWInAtt.main (F := Bits))) ⟨m, fun _ => 0, g⟩ (fun r => (∀ c : Dev Cert.DWInAtt.nD,
      r.2.mem ((c.tc : Thread Cert.DWInAtt.nD Cert.DWInAtt.τ).loc Cert.DWInAtt.main_arg0) = m ((c.tc : Thread Cert.DWInAtt.nD Cert.DWInAtt.τ).loc Cert.DWInAtt.main_arg0)
      ∧ r.2.mem ((c.tc : Thread Cert.DWInAtt.nD Cert.DWInAtt.τ).loc Cert.DWInAtt.main_arg1) = m ((c.tc : Thread Cert.DWInAtt.nD Cert.DWInAtt.τ).loc Cert.DWInAtt.main_arg1)
      ∧ r.2.mem ((c.tc : Thread Cert.DWInAtt.nD Cert.DWInAtt.τ).loc Cert.DWInAtt.main_arg2) = m ((c.tc : Thread Cert.DWInAtt.nD Cert.DWInAtt.τ).loc Cert.DWInAtt.main_arg2))
      ∧ r.2.sem = fun _ => 0)

def quiescent_DWInAttIdeal [hDWInAttIdeal : Cert.DWInAttIdeal.Facts] : Prop :=
  ∀ (m : (ℓ : Loc Cert.DWInAttIdeal.nD Cert.DWInAttIdeal.τ Cert.DWInAttIdeal.sig) → Buf (Elt Ideal) ℓ) (g : Dev Cert.DWInAttIdeal.nD → PrngReg), Pre_DWInAttIdeal m →
    θ_run (Cert.DWInAttIdeal.defs (F := Ideal)) (onTc (τ := Cert.DWInAttIdeal.τ) (Cert.DWInAttIdeal.main (F := Ideal))) ⟨m, fun _ => 0, g⟩ (fun r => (∀ c : Dev Cert.DWInAttIdeal.nD,
      r.2.mem ((c.tc : Thread Cert.DWInAttIdeal.nD Cert.DWInAttIdeal.τ).loc Cert.DWInAttIdeal.main_arg0) = m ((c.tc : Thread Cert.DWInAttIdeal.nD Cert.DWInAttIdeal.τ).loc Cert.DWInAttIdeal.main_arg0)
      ∧ r.2.mem ((c.tc : Thread Cert.DWInAttIdeal.nD Cert.DWInAttIdeal.τ).loc Cert.DWInAttIdeal.main_arg1) = m ((c.tc : Thread Cert.DWInAttIdeal.nD Cert.DWInAttIdeal.τ).loc Cert.DWInAttIdeal.main_arg1)
      ∧ r.2.mem ((c.tc : Thread Cert.DWInAttIdeal.nD Cert.DWInAttIdeal.τ).loc Cert.DWInAttIdeal.main_arg2) = m ((c.tc : Thread Cert.DWInAttIdeal.nD Cert.DWInAttIdeal.τ).loc Cert.DWInAttIdeal.main_arg2))
      ∧ r.2.sem = fun _ => 0)

def quiescent_DWInAttRefIdeal [hDWInAttRefIdeal : Cert.DWInAttRefIdeal.Facts] : Prop :=
  ∀ (m : (ℓ : Loc Cert.DWInAttRefIdeal.nD Cert.DWInAttRefIdeal.τ Cert.DWInAttRefIdeal.sig) → Buf (Elt Ideal) ℓ) (g : Dev Cert.DWInAttRefIdeal.nD → PrngReg), Pre_DWInAttRefIdeal m →
    θ_run (Cert.DWInAttRefIdeal.defs (F := Ideal)) (onTc (τ := Cert.DWInAttRefIdeal.τ) (Cert.DWInAttRefIdeal.main (F := Ideal))) ⟨m, fun _ => 0, g⟩ (fun r => (∀ c : Dev Cert.DWInAttRefIdeal.nD,
      r.2.mem ((c.tc : Thread Cert.DWInAttRefIdeal.nD Cert.DWInAttRefIdeal.τ).loc Cert.DWInAttRefIdeal.main_arg0) = m ((c.tc : Thread Cert.DWInAttRefIdeal.nD Cert.DWInAttRefIdeal.τ).loc Cert.DWInAttRefIdeal.main_arg0)
      ∧ r.2.mem ((c.tc : Thread Cert.DWInAttRefIdeal.nD Cert.DWInAttRefIdeal.τ).loc Cert.DWInAttRefIdeal.main_arg1) = m ((c.tc : Thread Cert.DWInAttRefIdeal.nD Cert.DWInAttRefIdeal.τ).loc Cert.DWInAttRefIdeal.main_arg1)
      ∧ r.2.mem ((c.tc : Thread Cert.DWInAttRefIdeal.nD Cert.DWInAttRefIdeal.τ).loc Cert.DWInAttRefIdeal.main_arg2) = m ((c.tc : Thread Cert.DWInAttRefIdeal.nD Cert.DWInAttRefIdeal.τ).loc Cert.DWInAttRefIdeal.main_arg2))
      ∧ r.2.sem = fun _ => 0)

def quiescent_DWInGate [hDWInGate : Cert.DWInGate.Facts] : Prop :=
  ∀ (m : (ℓ : Loc Cert.DWInGate.nD Cert.DWInGate.τ Cert.DWInGate.sig) → Buf (Elt Bits) ℓ) (g : Dev Cert.DWInGate.nD → PrngReg), Pre_DWInGate m →
    θ_run (Cert.DWInGate.defs (F := Bits)) (onTc (τ := Cert.DWInGate.τ) (Cert.DWInGate.main (F := Bits))) ⟨m, fun _ => 0, g⟩ (fun r => (∀ c : Dev Cert.DWInGate.nD,
      r.2.mem ((c.tc : Thread Cert.DWInGate.nD Cert.DWInGate.τ).loc Cert.DWInGate.main_arg0) = m ((c.tc : Thread Cert.DWInGate.nD Cert.DWInGate.τ).loc Cert.DWInGate.main_arg0)
      ∧ r.2.mem ((c.tc : Thread Cert.DWInGate.nD Cert.DWInGate.τ).loc Cert.DWInGate.main_arg1) = m ((c.tc : Thread Cert.DWInGate.nD Cert.DWInGate.τ).loc Cert.DWInGate.main_arg1)
      ∧ r.2.mem ((c.tc : Thread Cert.DWInGate.nD Cert.DWInGate.τ).loc Cert.DWInGate.main_arg2) = m ((c.tc : Thread Cert.DWInGate.nD Cert.DWInGate.τ).loc Cert.DWInGate.main_arg2))
      ∧ r.2.sem = fun _ => 0)

def quiescent_DWInGateIdeal [hDWInGateIdeal : Cert.DWInGateIdeal.Facts] : Prop :=
  ∀ (m : (ℓ : Loc Cert.DWInGateIdeal.nD Cert.DWInGateIdeal.τ Cert.DWInGateIdeal.sig) → Buf (Elt Ideal) ℓ) (g : Dev Cert.DWInGateIdeal.nD → PrngReg), Pre_DWInGateIdeal m →
    θ_run (Cert.DWInGateIdeal.defs (F := Ideal)) (onTc (τ := Cert.DWInGateIdeal.τ) (Cert.DWInGateIdeal.main (F := Ideal))) ⟨m, fun _ => 0, g⟩ (fun r => (∀ c : Dev Cert.DWInGateIdeal.nD,
      r.2.mem ((c.tc : Thread Cert.DWInGateIdeal.nD Cert.DWInGateIdeal.τ).loc Cert.DWInGateIdeal.main_arg0) = m ((c.tc : Thread Cert.DWInGateIdeal.nD Cert.DWInGateIdeal.τ).loc Cert.DWInGateIdeal.main_arg0)
      ∧ r.2.mem ((c.tc : Thread Cert.DWInGateIdeal.nD Cert.DWInGateIdeal.τ).loc Cert.DWInGateIdeal.main_arg1) = m ((c.tc : Thread Cert.DWInGateIdeal.nD Cert.DWInGateIdeal.τ).loc Cert.DWInGateIdeal.main_arg1)
      ∧ r.2.mem ((c.tc : Thread Cert.DWInGateIdeal.nD Cert.DWInGateIdeal.τ).loc Cert.DWInGateIdeal.main_arg2) = m ((c.tc : Thread Cert.DWInGateIdeal.nD Cert.DWInGateIdeal.τ).loc Cert.DWInGateIdeal.main_arg2))
      ∧ r.2.sem = fun _ => 0)

def quiescent_DWInGateRefIdeal [hDWInGateRefIdeal : Cert.DWInGateRefIdeal.Facts] : Prop :=
  ∀ (m : (ℓ : Loc Cert.DWInGateRefIdeal.nD Cert.DWInGateRefIdeal.τ Cert.DWInGateRefIdeal.sig) → Buf (Elt Ideal) ℓ) (g : Dev Cert.DWInGateRefIdeal.nD → PrngReg), Pre_DWInGateRefIdeal m →
    θ_run (Cert.DWInGateRefIdeal.defs (F := Ideal)) (onTc (τ := Cert.DWInGateRefIdeal.τ) (Cert.DWInGateRefIdeal.main (F := Ideal))) ⟨m, fun _ => 0, g⟩ (fun r => (∀ c : Dev Cert.DWInGateRefIdeal.nD,
      r.2.mem ((c.tc : Thread Cert.DWInGateRefIdeal.nD Cert.DWInGateRefIdeal.τ).loc Cert.DWInGateRefIdeal.main_arg0) = m ((c.tc : Thread Cert.DWInGateRefIdeal.nD Cert.DWInGateRefIdeal.τ).loc Cert.DWInGateRefIdeal.main_arg0)
      ∧ r.2.mem ((c.tc : Thread Cert.DWInGateRefIdeal.nD Cert.DWInGateRefIdeal.τ).loc Cert.DWInGateRefIdeal.main_arg1) = m ((c.tc : Thread Cert.DWInGateRefIdeal.nD Cert.DWInGateRefIdeal.τ).loc Cert.DWInGateRefIdeal.main_arg1)
      ∧ r.2.mem ((c.tc : Thread Cert.DWInGateRefIdeal.nD Cert.DWInGateRefIdeal.τ).loc Cert.DWInGateRefIdeal.main_arg2) = m ((c.tc : Thread Cert.DWInGateRefIdeal.nD Cert.DWInGateRefIdeal.τ).loc Cert.DWInGateRefIdeal.main_arg2))
      ∧ r.2.sem = fun _ => 0)

def quiescent_DWInRwkv [hDWInRwkv : Cert.DWInRwkv.Facts] : Prop :=
  ∀ (m : (ℓ : Loc Cert.DWInRwkv.nD Cert.DWInRwkv.τ Cert.DWInRwkv.sig) → Buf (Elt Bits) ℓ) (g : Dev Cert.DWInRwkv.nD → PrngReg), Pre_DWInRwkv m →
    θ_run (Cert.DWInRwkv.defs (F := Bits)) (onTc (τ := Cert.DWInRwkv.τ) (Cert.DWInRwkv.main (F := Bits))) ⟨m, fun _ => 0, g⟩ (fun r => (∀ c : Dev Cert.DWInRwkv.nD,
      r.2.mem ((c.tc : Thread Cert.DWInRwkv.nD Cert.DWInRwkv.τ).loc Cert.DWInRwkv.main_arg0) = m ((c.tc : Thread Cert.DWInRwkv.nD Cert.DWInRwkv.τ).loc Cert.DWInRwkv.main_arg0)
      ∧ r.2.mem ((c.tc : Thread Cert.DWInRwkv.nD Cert.DWInRwkv.τ).loc Cert.DWInRwkv.main_arg1) = m ((c.tc : Thread Cert.DWInRwkv.nD Cert.DWInRwkv.τ).loc Cert.DWInRwkv.main_arg1)
      ∧ r.2.mem ((c.tc : Thread Cert.DWInRwkv.nD Cert.DWInRwkv.τ).loc Cert.DWInRwkv.main_arg2) = m ((c.tc : Thread Cert.DWInRwkv.nD Cert.DWInRwkv.τ).loc Cert.DWInRwkv.main_arg2))
      ∧ r.2.sem = fun _ => 0)

def quiescent_DWInRwkvIdeal [hDWInRwkvIdeal : Cert.DWInRwkvIdeal.Facts] : Prop :=
  ∀ (m : (ℓ : Loc Cert.DWInRwkvIdeal.nD Cert.DWInRwkvIdeal.τ Cert.DWInRwkvIdeal.sig) → Buf (Elt Ideal) ℓ) (g : Dev Cert.DWInRwkvIdeal.nD → PrngReg), Pre_DWInRwkvIdeal m →
    θ_run (Cert.DWInRwkvIdeal.defs (F := Ideal)) (onTc (τ := Cert.DWInRwkvIdeal.τ) (Cert.DWInRwkvIdeal.main (F := Ideal))) ⟨m, fun _ => 0, g⟩ (fun r => (∀ c : Dev Cert.DWInRwkvIdeal.nD,
      r.2.mem ((c.tc : Thread Cert.DWInRwkvIdeal.nD Cert.DWInRwkvIdeal.τ).loc Cert.DWInRwkvIdeal.main_arg0) = m ((c.tc : Thread Cert.DWInRwkvIdeal.nD Cert.DWInRwkvIdeal.τ).loc Cert.DWInRwkvIdeal.main_arg0)
      ∧ r.2.mem ((c.tc : Thread Cert.DWInRwkvIdeal.nD Cert.DWInRwkvIdeal.τ).loc Cert.DWInRwkvIdeal.main_arg1) = m ((c.tc : Thread Cert.DWInRwkvIdeal.nD Cert.DWInRwkvIdeal.τ).loc Cert.DWInRwkvIdeal.main_arg1)
      ∧ r.2.mem ((c.tc : Thread Cert.DWInRwkvIdeal.nD Cert.DWInRwkvIdeal.τ).loc Cert.DWInRwkvIdeal.main_arg2) = m ((c.tc : Thread Cert.DWInRwkvIdeal.nD Cert.DWInRwkvIdeal.τ).loc Cert.DWInRwkvIdeal.main_arg2))
      ∧ r.2.sem = fun _ => 0)

def quiescent_DWInRwkvRefIdeal [hDWInRwkvRefIdeal : Cert.DWInRwkvRefIdeal.Facts] : Prop :=
  ∀ (m : (ℓ : Loc Cert.DWInRwkvRefIdeal.nD Cert.DWInRwkvRefIdeal.τ Cert.DWInRwkvRefIdeal.sig) → Buf (Elt Ideal) ℓ) (g : Dev Cert.DWInRwkvRefIdeal.nD → PrngReg), Pre_DWInRwkvRefIdeal m →
    θ_run (Cert.DWInRwkvRefIdeal.defs (F := Ideal)) (onTc (τ := Cert.DWInRwkvRefIdeal.τ) (Cert.DWInRwkvRefIdeal.main (F := Ideal))) ⟨m, fun _ => 0, g⟩ (fun r => (∀ c : Dev Cert.DWInRwkvRefIdeal.nD,
      r.2.mem ((c.tc : Thread Cert.DWInRwkvRefIdeal.nD Cert.DWInRwkvRefIdeal.τ).loc Cert.DWInRwkvRefIdeal.main_arg0) = m ((c.tc : Thread Cert.DWInRwkvRefIdeal.nD Cert.DWInRwkvRefIdeal.τ).loc Cert.DWInRwkvRefIdeal.main_arg0)
      ∧ r.2.mem ((c.tc : Thread Cert.DWInRwkvRefIdeal.nD Cert.DWInRwkvRefIdeal.τ).loc Cert.DWInRwkvRefIdeal.main_arg1) = m ((c.tc : Thread Cert.DWInRwkvRefIdeal.nD Cert.DWInRwkvRefIdeal.τ).loc Cert.DWInRwkvRefIdeal.main_arg1)
      ∧ r.2.mem ((c.tc : Thread Cert.DWInRwkvRefIdeal.nD Cert.DWInRwkvRefIdeal.τ).loc Cert.DWInRwkvRefIdeal.main_arg2) = m ((c.tc : Thread Cert.DWInRwkvRefIdeal.nD Cert.DWInRwkvRefIdeal.τ).loc Cert.DWInRwkvRefIdeal.main_arg2))
      ∧ r.2.sem = fun _ => 0)

def quiescent_DH2Att [hDH2Att : Cert.DH2Att.Facts] : Prop :=
  ∀ (m : (ℓ : Loc Cert.DH2Att.nD Cert.DH2Att.τ Cert.DH2Att.sig) → Buf (Elt Bits) ℓ) (g : Dev Cert.DH2Att.nD → PrngReg), Pre_DH2Att m →
    θ_run (Cert.DH2Att.defs (F := Bits)) (onTc (τ := Cert.DH2Att.τ) (Cert.DH2Att.main (F := Bits))) ⟨m, fun _ => 0, g⟩ (fun r => (∀ c : Dev Cert.DH2Att.nD,
      r.2.mem ((c.tc : Thread Cert.DH2Att.nD Cert.DH2Att.τ).loc Cert.DH2Att.main_arg0) = m ((c.tc : Thread Cert.DH2Att.nD Cert.DH2Att.τ).loc Cert.DH2Att.main_arg0)
      ∧ r.2.mem ((c.tc : Thread Cert.DH2Att.nD Cert.DH2Att.τ).loc Cert.DH2Att.main_arg1) = m ((c.tc : Thread Cert.DH2Att.nD Cert.DH2Att.τ).loc Cert.DH2Att.main_arg1)
      ∧ r.2.mem ((c.tc : Thread Cert.DH2Att.nD Cert.DH2Att.τ).loc Cert.DH2Att.main_arg2) = m ((c.tc : Thread Cert.DH2Att.nD Cert.DH2Att.τ).loc Cert.DH2Att.main_arg2)
      ∧ r.2.mem ((c.tc : Thread Cert.DH2Att.nD Cert.DH2Att.τ).loc Cert.DH2Att.main_arg3) = m ((c.tc : Thread Cert.DH2Att.nD Cert.DH2Att.τ).loc Cert.DH2Att.main_arg3))
      ∧ r.2.sem = fun _ => 0)

def quiescent_DH2AttIdeal [hDH2AttIdeal : Cert.DH2AttIdeal.Facts] : Prop :=
  ∀ (m : (ℓ : Loc Cert.DH2AttIdeal.nD Cert.DH2AttIdeal.τ Cert.DH2AttIdeal.sig) → Buf (Elt Ideal) ℓ) (g : Dev Cert.DH2AttIdeal.nD → PrngReg), Pre_DH2AttIdeal m →
    θ_run (Cert.DH2AttIdeal.defs (F := Ideal)) (onTc (τ := Cert.DH2AttIdeal.τ) (Cert.DH2AttIdeal.main (F := Ideal))) ⟨m, fun _ => 0, g⟩ (fun r => (∀ c : Dev Cert.DH2AttIdeal.nD,
      r.2.mem ((c.tc : Thread Cert.DH2AttIdeal.nD Cert.DH2AttIdeal.τ).loc Cert.DH2AttIdeal.main_arg0) = m ((c.tc : Thread Cert.DH2AttIdeal.nD Cert.DH2AttIdeal.τ).loc Cert.DH2AttIdeal.main_arg0)
      ∧ r.2.mem ((c.tc : Thread Cert.DH2AttIdeal.nD Cert.DH2AttIdeal.τ).loc Cert.DH2AttIdeal.main_arg1) = m ((c.tc : Thread Cert.DH2AttIdeal.nD Cert.DH2AttIdeal.τ).loc Cert.DH2AttIdeal.main_arg1)
      ∧ r.2.mem ((c.tc : Thread Cert.DH2AttIdeal.nD Cert.DH2AttIdeal.τ).loc Cert.DH2AttIdeal.main_arg2) = m ((c.tc : Thread Cert.DH2AttIdeal.nD Cert.DH2AttIdeal.τ).loc Cert.DH2AttIdeal.main_arg2)
      ∧ r.2.mem ((c.tc : Thread Cert.DH2AttIdeal.nD Cert.DH2AttIdeal.τ).loc Cert.DH2AttIdeal.main_arg3) = m ((c.tc : Thread Cert.DH2AttIdeal.nD Cert.DH2AttIdeal.τ).loc Cert.DH2AttIdeal.main_arg3))
      ∧ r.2.sem = fun _ => 0)

def quiescent_DH2AttRefIdeal [hDH2AttRefIdeal : Cert.DH2AttRefIdeal.Facts] : Prop :=
  ∀ (m : (ℓ : Loc Cert.DH2AttRefIdeal.nD Cert.DH2AttRefIdeal.τ Cert.DH2AttRefIdeal.sig) → Buf (Elt Ideal) ℓ) (g : Dev Cert.DH2AttRefIdeal.nD → PrngReg), Pre_DH2AttRefIdeal m →
    θ_run (Cert.DH2AttRefIdeal.defs (F := Ideal)) (onTc (τ := Cert.DH2AttRefIdeal.τ) (Cert.DH2AttRefIdeal.main (F := Ideal))) ⟨m, fun _ => 0, g⟩ (fun r => (∀ c : Dev Cert.DH2AttRefIdeal.nD,
      r.2.mem ((c.tc : Thread Cert.DH2AttRefIdeal.nD Cert.DH2AttRefIdeal.τ).loc Cert.DH2AttRefIdeal.main_arg0) = m ((c.tc : Thread Cert.DH2AttRefIdeal.nD Cert.DH2AttRefIdeal.τ).loc Cert.DH2AttRefIdeal.main_arg0)
      ∧ r.2.mem ((c.tc : Thread Cert.DH2AttRefIdeal.nD Cert.DH2AttRefIdeal.τ).loc Cert.DH2AttRefIdeal.main_arg1) = m ((c.tc : Thread Cert.DH2AttRefIdeal.nD Cert.DH2AttRefIdeal.τ).loc Cert.DH2AttRefIdeal.main_arg1)
      ∧ r.2.mem ((c.tc : Thread Cert.DH2AttRefIdeal.nD Cert.DH2AttRefIdeal.τ).loc Cert.DH2AttRefIdeal.main_arg2) = m ((c.tc : Thread Cert.DH2AttRefIdeal.nD Cert.DH2AttRefIdeal.τ).loc Cert.DH2AttRefIdeal.main_arg2)
      ∧ r.2.mem ((c.tc : Thread Cert.DH2AttRefIdeal.nD Cert.DH2AttRefIdeal.τ).loc Cert.DH2AttRefIdeal.main_arg3) = m ((c.tc : Thread Cert.DH2AttRefIdeal.nD Cert.DH2AttRefIdeal.τ).loc Cert.DH2AttRefIdeal.main_arg3))
      ∧ r.2.sem = fun _ => 0)

def quiescent_DhUp [hDhUp : Cert.DhUp.Facts] : Prop :=
  ∀ (m : (ℓ : Loc Cert.DhUp.nD Cert.DhUp.τ Cert.DhUp.sig) → Buf (Elt Bits) ℓ) (g : Dev Cert.DhUp.nD → PrngReg), Pre_DhUp m →
    θ_run (Cert.DhUp.defs (F := Bits)) (onTc (τ := Cert.DhUp.τ) (Cert.DhUp.main (F := Bits))) ⟨m, fun _ => 0, g⟩ (fun r => (∀ c : Dev Cert.DhUp.nD,
      r.2.mem ((c.tc : Thread Cert.DhUp.nD Cert.DhUp.τ).loc Cert.DhUp.main_arg0) = m ((c.tc : Thread Cert.DhUp.nD Cert.DhUp.τ).loc Cert.DhUp.main_arg0)
      ∧ r.2.mem ((c.tc : Thread Cert.DhUp.nD Cert.DhUp.τ).loc Cert.DhUp.main_arg1) = m ((c.tc : Thread Cert.DhUp.nD Cert.DhUp.τ).loc Cert.DhUp.main_arg1)
      ∧ r.2.mem ((c.tc : Thread Cert.DhUp.nD Cert.DhUp.τ).loc Cert.DhUp.main_arg2) = m ((c.tc : Thread Cert.DhUp.nD Cert.DhUp.τ).loc Cert.DhUp.main_arg2)
      ∧ r.2.mem ((c.tc : Thread Cert.DhUp.nD Cert.DhUp.τ).loc Cert.DhUp.main_arg3) = m ((c.tc : Thread Cert.DhUp.nD Cert.DhUp.τ).loc Cert.DhUp.main_arg3)
      ∧ r.2.mem ((c.tc : Thread Cert.DhUp.nD Cert.DhUp.τ).loc Cert.DhUp.main_arg4) = m ((c.tc : Thread Cert.DhUp.nD Cert.DhUp.τ).loc Cert.DhUp.main_arg4)
      ∧ r.2.mem ((c.tc : Thread Cert.DhUp.nD Cert.DhUp.τ).loc Cert.DhUp.main_arg5) = m ((c.tc : Thread Cert.DhUp.nD Cert.DhUp.τ).loc Cert.DhUp.main_arg5))
      ∧ r.2.sem = fun _ => 0)

def quiescent_DhUpIdeal [hDhUpIdeal : Cert.DhUpIdeal.Facts] : Prop :=
  ∀ (m : (ℓ : Loc Cert.DhUpIdeal.nD Cert.DhUpIdeal.τ Cert.DhUpIdeal.sig) → Buf (Elt Ideal) ℓ) (g : Dev Cert.DhUpIdeal.nD → PrngReg), Pre_DhUpIdeal m →
    θ_run (Cert.DhUpIdeal.defs (F := Ideal)) (onTc (τ := Cert.DhUpIdeal.τ) (Cert.DhUpIdeal.main (F := Ideal))) ⟨m, fun _ => 0, g⟩ (fun r => (∀ c : Dev Cert.DhUpIdeal.nD,
      r.2.mem ((c.tc : Thread Cert.DhUpIdeal.nD Cert.DhUpIdeal.τ).loc Cert.DhUpIdeal.main_arg0) = m ((c.tc : Thread Cert.DhUpIdeal.nD Cert.DhUpIdeal.τ).loc Cert.DhUpIdeal.main_arg0)
      ∧ r.2.mem ((c.tc : Thread Cert.DhUpIdeal.nD Cert.DhUpIdeal.τ).loc Cert.DhUpIdeal.main_arg1) = m ((c.tc : Thread Cert.DhUpIdeal.nD Cert.DhUpIdeal.τ).loc Cert.DhUpIdeal.main_arg1)
      ∧ r.2.mem ((c.tc : Thread Cert.DhUpIdeal.nD Cert.DhUpIdeal.τ).loc Cert.DhUpIdeal.main_arg2) = m ((c.tc : Thread Cert.DhUpIdeal.nD Cert.DhUpIdeal.τ).loc Cert.DhUpIdeal.main_arg2)
      ∧ r.2.mem ((c.tc : Thread Cert.DhUpIdeal.nD Cert.DhUpIdeal.τ).loc Cert.DhUpIdeal.main_arg3) = m ((c.tc : Thread Cert.DhUpIdeal.nD Cert.DhUpIdeal.τ).loc Cert.DhUpIdeal.main_arg3)
      ∧ r.2.mem ((c.tc : Thread Cert.DhUpIdeal.nD Cert.DhUpIdeal.τ).loc Cert.DhUpIdeal.main_arg4) = m ((c.tc : Thread Cert.DhUpIdeal.nD Cert.DhUpIdeal.τ).loc Cert.DhUpIdeal.main_arg4)
      ∧ r.2.mem ((c.tc : Thread Cert.DhUpIdeal.nD Cert.DhUpIdeal.τ).loc Cert.DhUpIdeal.main_arg5) = m ((c.tc : Thread Cert.DhUpIdeal.nD Cert.DhUpIdeal.τ).loc Cert.DhUpIdeal.main_arg5))
      ∧ r.2.sem = fun _ => 0)

def quiescent_DhUpRefIdeal [hDhUpRefIdeal : Cert.DhUpRefIdeal.Facts] : Prop :=
  ∀ (m : (ℓ : Loc Cert.DhUpRefIdeal.nD Cert.DhUpRefIdeal.τ Cert.DhUpRefIdeal.sig) → Buf (Elt Ideal) ℓ) (g : Dev Cert.DhUpRefIdeal.nD → PrngReg), Pre_DhUpRefIdeal m →
    θ_run (Cert.DhUpRefIdeal.defs (F := Ideal)) (onTc (τ := Cert.DhUpRefIdeal.τ) (Cert.DhUpRefIdeal.main (F := Ideal))) ⟨m, fun _ => 0, g⟩ (fun r => (∀ c : Dev Cert.DhUpRefIdeal.nD,
      r.2.mem ((c.tc : Thread Cert.DhUpRefIdeal.nD Cert.DhUpRefIdeal.τ).loc Cert.DhUpRefIdeal.main_arg0) = m ((c.tc : Thread Cert.DhUpRefIdeal.nD Cert.DhUpRefIdeal.τ).loc Cert.DhUpRefIdeal.main_arg0)
      ∧ r.2.mem ((c.tc : Thread Cert.DhUpRefIdeal.nD Cert.DhUpRefIdeal.τ).loc Cert.DhUpRefIdeal.main_arg1) = m ((c.tc : Thread Cert.DhUpRefIdeal.nD Cert.DhUpRefIdeal.τ).loc Cert.DhUpRefIdeal.main_arg1)
      ∧ r.2.mem ((c.tc : Thread Cert.DhUpRefIdeal.nD Cert.DhUpRefIdeal.τ).loc Cert.DhUpRefIdeal.main_arg2) = m ((c.tc : Thread Cert.DhUpRefIdeal.nD Cert.DhUpRefIdeal.τ).loc Cert.DhUpRefIdeal.main_arg2)
      ∧ r.2.mem ((c.tc : Thread Cert.DhUpRefIdeal.nD Cert.DhUpRefIdeal.τ).loc Cert.DhUpRefIdeal.main_arg3) = m ((c.tc : Thread Cert.DhUpRefIdeal.nD Cert.DhUpRefIdeal.τ).loc Cert.DhUpRefIdeal.main_arg3)
      ∧ r.2.mem ((c.tc : Thread Cert.DhUpRefIdeal.nD Cert.DhUpRefIdeal.τ).loc Cert.DhUpRefIdeal.main_arg4) = m ((c.tc : Thread Cert.DhUpRefIdeal.nD Cert.DhUpRefIdeal.τ).loc Cert.DhUpRefIdeal.main_arg4)
      ∧ r.2.mem ((c.tc : Thread Cert.DhUpRefIdeal.nD Cert.DhUpRefIdeal.τ).loc Cert.DhUpRefIdeal.main_arg5) = m ((c.tc : Thread Cert.DhUpRefIdeal.nD Cert.DhUpRefIdeal.τ).loc Cert.DhUpRefIdeal.main_arg5))
      ∧ r.2.sem = fun _ => 0)

def quiescent_DH2Gate [hDH2Gate : Cert.DH2Gate.Facts] : Prop :=
  ∀ (m : (ℓ : Loc Cert.DH2Gate.nD Cert.DH2Gate.τ Cert.DH2Gate.sig) → Buf (Elt Bits) ℓ) (g : Dev Cert.DH2Gate.nD → PrngReg), Pre_DH2Gate m →
    θ_run (Cert.DH2Gate.defs (F := Bits)) (onTc (τ := Cert.DH2Gate.τ) (Cert.DH2Gate.main (F := Bits))) ⟨m, fun _ => 0, g⟩ (fun r => (∀ c : Dev Cert.DH2Gate.nD,
      r.2.mem ((c.tc : Thread Cert.DH2Gate.nD Cert.DH2Gate.τ).loc Cert.DH2Gate.main_arg0) = m ((c.tc : Thread Cert.DH2Gate.nD Cert.DH2Gate.τ).loc Cert.DH2Gate.main_arg0)
      ∧ r.2.mem ((c.tc : Thread Cert.DH2Gate.nD Cert.DH2Gate.τ).loc Cert.DH2Gate.main_arg1) = m ((c.tc : Thread Cert.DH2Gate.nD Cert.DH2Gate.τ).loc Cert.DH2Gate.main_arg1)
      ∧ r.2.mem ((c.tc : Thread Cert.DH2Gate.nD Cert.DH2Gate.τ).loc Cert.DH2Gate.main_arg2) = m ((c.tc : Thread Cert.DH2Gate.nD Cert.DH2Gate.τ).loc Cert.DH2Gate.main_arg2)
      ∧ r.2.mem ((c.tc : Thread Cert.DH2Gate.nD Cert.DH2Gate.τ).loc Cert.DH2Gate.main_arg3) = m ((c.tc : Thread Cert.DH2Gate.nD Cert.DH2Gate.τ).loc Cert.DH2Gate.main_arg3)
      ∧ r.2.mem ((c.tc : Thread Cert.DH2Gate.nD Cert.DH2Gate.τ).loc Cert.DH2Gate.main_arg4) = m ((c.tc : Thread Cert.DH2Gate.nD Cert.DH2Gate.τ).loc Cert.DH2Gate.main_arg4)
      ∧ r.2.mem ((c.tc : Thread Cert.DH2Gate.nD Cert.DH2Gate.τ).loc Cert.DH2Gate.main_arg5) = m ((c.tc : Thread Cert.DH2Gate.nD Cert.DH2Gate.τ).loc Cert.DH2Gate.main_arg5))
      ∧ r.2.sem = fun _ => 0)

def quiescent_DH2GateIdeal [hDH2GateIdeal : Cert.DH2GateIdeal.Facts] : Prop :=
  ∀ (m : (ℓ : Loc Cert.DH2GateIdeal.nD Cert.DH2GateIdeal.τ Cert.DH2GateIdeal.sig) → Buf (Elt Ideal) ℓ) (g : Dev Cert.DH2GateIdeal.nD → PrngReg), Pre_DH2GateIdeal m →
    θ_run (Cert.DH2GateIdeal.defs (F := Ideal)) (onTc (τ := Cert.DH2GateIdeal.τ) (Cert.DH2GateIdeal.main (F := Ideal))) ⟨m, fun _ => 0, g⟩ (fun r => (∀ c : Dev Cert.DH2GateIdeal.nD,
      r.2.mem ((c.tc : Thread Cert.DH2GateIdeal.nD Cert.DH2GateIdeal.τ).loc Cert.DH2GateIdeal.main_arg0) = m ((c.tc : Thread Cert.DH2GateIdeal.nD Cert.DH2GateIdeal.τ).loc Cert.DH2GateIdeal.main_arg0)
      ∧ r.2.mem ((c.tc : Thread Cert.DH2GateIdeal.nD Cert.DH2GateIdeal.τ).loc Cert.DH2GateIdeal.main_arg1) = m ((c.tc : Thread Cert.DH2GateIdeal.nD Cert.DH2GateIdeal.τ).loc Cert.DH2GateIdeal.main_arg1)
      ∧ r.2.mem ((c.tc : Thread Cert.DH2GateIdeal.nD Cert.DH2GateIdeal.τ).loc Cert.DH2GateIdeal.main_arg2) = m ((c.tc : Thread Cert.DH2GateIdeal.nD Cert.DH2GateIdeal.τ).loc Cert.DH2GateIdeal.main_arg2)
      ∧ r.2.mem ((c.tc : Thread Cert.DH2GateIdeal.nD Cert.DH2GateIdeal.τ).loc Cert.DH2GateIdeal.main_arg3) = m ((c.tc : Thread Cert.DH2GateIdeal.nD Cert.DH2GateIdeal.τ).loc Cert.DH2GateIdeal.main_arg3)
      ∧ r.2.mem ((c.tc : Thread Cert.DH2GateIdeal.nD Cert.DH2GateIdeal.τ).loc Cert.DH2GateIdeal.main_arg4) = m ((c.tc : Thread Cert.DH2GateIdeal.nD Cert.DH2GateIdeal.τ).loc Cert.DH2GateIdeal.main_arg4)
      ∧ r.2.mem ((c.tc : Thread Cert.DH2GateIdeal.nD Cert.DH2GateIdeal.τ).loc Cert.DH2GateIdeal.main_arg5) = m ((c.tc : Thread Cert.DH2GateIdeal.nD Cert.DH2GateIdeal.τ).loc Cert.DH2GateIdeal.main_arg5))
      ∧ r.2.sem = fun _ => 0)

def quiescent_DH2GateRefIdeal [hDH2GateRefIdeal : Cert.DH2GateRefIdeal.Facts] : Prop :=
  ∀ (m : (ℓ : Loc Cert.DH2GateRefIdeal.nD Cert.DH2GateRefIdeal.τ Cert.DH2GateRefIdeal.sig) → Buf (Elt Ideal) ℓ) (g : Dev Cert.DH2GateRefIdeal.nD → PrngReg), Pre_DH2GateRefIdeal m →
    θ_run (Cert.DH2GateRefIdeal.defs (F := Ideal)) (onTc (τ := Cert.DH2GateRefIdeal.τ) (Cert.DH2GateRefIdeal.main (F := Ideal))) ⟨m, fun _ => 0, g⟩ (fun r => (∀ c : Dev Cert.DH2GateRefIdeal.nD,
      r.2.mem ((c.tc : Thread Cert.DH2GateRefIdeal.nD Cert.DH2GateRefIdeal.τ).loc Cert.DH2GateRefIdeal.main_arg0) = m ((c.tc : Thread Cert.DH2GateRefIdeal.nD Cert.DH2GateRefIdeal.τ).loc Cert.DH2GateRefIdeal.main_arg0)
      ∧ r.2.mem ((c.tc : Thread Cert.DH2GateRefIdeal.nD Cert.DH2GateRefIdeal.τ).loc Cert.DH2GateRefIdeal.main_arg1) = m ((c.tc : Thread Cert.DH2GateRefIdeal.nD Cert.DH2GateRefIdeal.τ).loc Cert.DH2GateRefIdeal.main_arg1)
      ∧ r.2.mem ((c.tc : Thread Cert.DH2GateRefIdeal.nD Cert.DH2GateRefIdeal.τ).loc Cert.DH2GateRefIdeal.main_arg2) = m ((c.tc : Thread Cert.DH2GateRefIdeal.nD Cert.DH2GateRefIdeal.τ).loc Cert.DH2GateRefIdeal.main_arg2)
      ∧ r.2.mem ((c.tc : Thread Cert.DH2GateRefIdeal.nD Cert.DH2GateRefIdeal.τ).loc Cert.DH2GateRefIdeal.main_arg3) = m ((c.tc : Thread Cert.DH2GateRefIdeal.nD Cert.DH2GateRefIdeal.τ).loc Cert.DH2GateRefIdeal.main_arg3)
      ∧ r.2.mem ((c.tc : Thread Cert.DH2GateRefIdeal.nD Cert.DH2GateRefIdeal.τ).loc Cert.DH2GateRefIdeal.main_arg4) = m ((c.tc : Thread Cert.DH2GateRefIdeal.nD Cert.DH2GateRefIdeal.τ).loc Cert.DH2GateRefIdeal.main_arg4)
      ∧ r.2.mem ((c.tc : Thread Cert.DH2GateRefIdeal.nD Cert.DH2GateRefIdeal.τ).loc Cert.DH2GateRefIdeal.main_arg5) = m ((c.tc : Thread Cert.DH2GateRefIdeal.nD Cert.DH2GateRefIdeal.τ).loc Cert.DH2GateRefIdeal.main_arg5))
      ∧ r.2.sem = fun _ => 0)

def quiescent_AttBwd [hAttBwd : Cert.AttBwd.Facts] : Prop :=
  ∀ (m : (ℓ : Loc Cert.AttBwd.nD Cert.AttBwd.τ Cert.AttBwd.sig) → Buf (Elt Bits) ℓ) (g : Dev Cert.AttBwd.nD → PrngReg), Pre_AttBwd m →
    θ_run (Cert.AttBwd.defs (F := Bits)) (onTc (τ := Cert.AttBwd.τ) (Cert.AttBwd.main (F := Bits))) ⟨m, fun _ => 0, g⟩ (fun r => (∀ c : Dev Cert.AttBwd.nD,
      r.2.mem ((c.tc : Thread Cert.AttBwd.nD Cert.AttBwd.τ).loc Cert.AttBwd.main_arg0) = m ((c.tc : Thread Cert.AttBwd.nD Cert.AttBwd.τ).loc Cert.AttBwd.main_arg0)
      ∧ r.2.mem ((c.tc : Thread Cert.AttBwd.nD Cert.AttBwd.τ).loc Cert.AttBwd.main_arg1) = m ((c.tc : Thread Cert.AttBwd.nD Cert.AttBwd.τ).loc Cert.AttBwd.main_arg1)
      ∧ r.2.mem ((c.tc : Thread Cert.AttBwd.nD Cert.AttBwd.τ).loc Cert.AttBwd.main_arg2) = m ((c.tc : Thread Cert.AttBwd.nD Cert.AttBwd.τ).loc Cert.AttBwd.main_arg2)
      ∧ r.2.mem ((c.tc : Thread Cert.AttBwd.nD Cert.AttBwd.τ).loc Cert.AttBwd.main_arg3) = m ((c.tc : Thread Cert.AttBwd.nD Cert.AttBwd.τ).loc Cert.AttBwd.main_arg3)
      ∧ r.2.mem ((c.tc : Thread Cert.AttBwd.nD Cert.AttBwd.τ).loc Cert.AttBwd.main_arg4) = m ((c.tc : Thread Cert.AttBwd.nD Cert.AttBwd.τ).loc Cert.AttBwd.main_arg4))
      ∧ r.2.sem = fun _ => 0)

def quiescent_AttBwdIdeal [hAttBwdIdeal : Cert.AttBwdIdeal.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3)
      ∧ r.2.mem ((c.tc : Thread Cert.AttBwdIdeal.nD Cert.AttBwdIdeal.τ).loc Cert.AttBwdIdeal.main_arg4) = m ((c.tc : Thread Cert.AttBwdIdeal.nD Cert.AttBwdIdeal.τ).loc Cert.AttBwdIdeal.main_arg4))
      ∧ r.2.sem = fun _ => 0)

def quiescent_AttBwdIdeal_pre_finite_sequence [hAttBwdIdeal : Cert.AttBwdIdeal.Facts] [hPre_finite_sequence : Cert.Pre_finite_sequence.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal_finite_sequence m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3)
      ∧ r.2.mem ((c.tc : Thread Cert.AttBwdIdeal.nD Cert.AttBwdIdeal.τ).loc Cert.AttBwdIdeal.main_arg4) = m ((c.tc : Thread Cert.AttBwdIdeal.nD Cert.AttBwdIdeal.τ).loc Cert.AttBwdIdeal.main_arg4))
      ∧ r.2.sem = fun _ => 0)

def quiescent_AttBwdRefIdeal [hAttBwdRefIdeal : Cert.AttBwdRefIdeal.Facts] : Prop :=
  ∀ (m : (ℓ : Loc Cert.AttBwdRefIdeal.nD Cert.AttBwdRefIdeal.τ Cert.AttBwdRefIdeal.sig) → Buf (Elt Ideal) ℓ) (g : Dev Cert.AttBwdRefIdeal.nD → PrngReg), Pre_AttBwdRefIdeal m →
    θ_run (Cert.AttBwdRefIdeal.defs (F := Ideal)) (onTc (τ := Cert.AttBwdRefIdeal.τ) (Cert.AttBwdRefIdeal.main (F := Ideal))) ⟨m, fun _ => 0, g⟩ (fun r => (∀ c : Dev Cert.AttBwdRefIdeal.nD,
      r.2.mem ((c.tc : Thread Cert.AttBwdRefIdeal.nD Cert.AttBwdRefIdeal.τ).loc Cert.AttBwdRefIdeal.main_arg0) = m ((c.tc : Thread Cert.AttBwdRefIdeal.nD Cert.AttBwdRefIdeal.τ).loc Cert.AttBwdRefIdeal.main_arg0)
      ∧ r.2.mem ((c.tc : Thread Cert.AttBwdRefIdeal.nD Cert.AttBwdRefIdeal.τ).loc Cert.AttBwdRefIdeal.main_arg1) = m ((c.tc : Thread Cert.AttBwdRefIdeal.nD Cert.AttBwdRefIdeal.τ).loc Cert.AttBwdRefIdeal.main_arg1)
      ∧ r.2.mem ((c.tc : Thread Cert.AttBwdRefIdeal.nD Cert.AttBwdRefIdeal.τ).loc Cert.AttBwdRefIdeal.main_arg2) = m ((c.tc : Thread Cert.AttBwdRefIdeal.nD Cert.AttBwdRefIdeal.τ).loc Cert.AttBwdRefIdeal.main_arg2)
      ∧ r.2.mem ((c.tc : Thread Cert.AttBwdRefIdeal.nD Cert.AttBwdRefIdeal.τ).loc Cert.AttBwdRefIdeal.main_arg3) = m ((c.tc : Thread Cert.AttBwdRefIdeal.nD Cert.AttBwdRefIdeal.τ).loc Cert.AttBwdRefIdeal.main_arg3)
      ∧ r.2.mem ((c.tc : Thread Cert.AttBwdRefIdeal.nD Cert.AttBwdRefIdeal.τ).loc Cert.AttBwdRefIdeal.main_arg4) = m ((c.tc : Thread Cert.AttBwdRefIdeal.nD Cert.AttBwdRefIdeal.τ).loc Cert.AttBwdRefIdeal.main_arg4))
      ∧ r.2.sem = fun _ => 0)

def quiescent_AttBwdRefIdeal_pre_finite_sequence [hAttBwdRefIdeal : Cert.AttBwdRefIdeal.Facts] [hPre_finite_sequence : Cert.Pre_finite_sequence.Facts] : Prop :=
  ∀ (m : (ℓ : Loc Cert.AttBwdRefIdeal.nD Cert.AttBwdRefIdeal.τ Cert.AttBwdRefIdeal.sig) → Buf (Elt Ideal) ℓ) (g : Dev Cert.AttBwdRefIdeal.nD → PrngReg), Pre_AttBwdRefIdeal_finite_sequence m →
    θ_run (Cert.AttBwdRefIdeal.defs (F := Ideal)) (onTc (τ := Cert.AttBwdRefIdeal.τ) (Cert.AttBwdRefIdeal.main (F := Ideal))) ⟨m, fun _ => 0, g⟩ (fun r => (∀ c : Dev Cert.AttBwdRefIdeal.nD,
      r.2.mem ((c.tc : Thread Cert.AttBwdRefIdeal.nD Cert.AttBwdRefIdeal.τ).loc Cert.AttBwdRefIdeal.main_arg0) = m ((c.tc : Thread Cert.AttBwdRefIdeal.nD Cert.AttBwdRefIdeal.τ).loc Cert.AttBwdRefIdeal.main_arg0)
      ∧ r.2.mem ((c.tc : Thread Cert.AttBwdRefIdeal.nD Cert.AttBwdRefIdeal.τ).loc Cert.AttBwdRefIdeal.main_arg1) = m ((c.tc : Thread Cert.AttBwdRefIdeal.nD Cert.AttBwdRefIdeal.τ).loc Cert.AttBwdRefIdeal.main_arg1)
      ∧ r.2.mem ((c.tc : Thread Cert.AttBwdRefIdeal.nD Cert.AttBwdRefIdeal.τ).loc Cert.AttBwdRefIdeal.main_arg2) = m ((c.tc : Thread Cert.AttBwdRefIdeal.nD Cert.AttBwdRefIdeal.τ).loc Cert.AttBwdRefIdeal.main_arg2)
      ∧ r.2.mem ((c.tc : Thread Cert.AttBwdRefIdeal.nD Cert.AttBwdRefIdeal.τ).loc Cert.AttBwdRefIdeal.main_arg3) = m ((c.tc : Thread Cert.AttBwdRefIdeal.nD Cert.AttBwdRefIdeal.τ).loc Cert.AttBwdRefIdeal.main_arg3)
      ∧ r.2.mem ((c.tc : Thread Cert.AttBwdRefIdeal.nD Cert.AttBwdRefIdeal.τ).loc Cert.AttBwdRefIdeal.main_arg4) = m ((c.tc : Thread Cert.AttBwdRefIdeal.nD Cert.AttBwdRefIdeal.τ).loc Cert.AttBwdRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_v23) = v1 c
          ∧ r.2.mem ((c.tc : Thread Cert.MergeRefIdeal.nD Cert.MergeRefIdeal.τ).loc Cert.MergeRefIdeal.main_v21) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)) (v2 : (c : Dev Cert.GateUpIdeal.nD) → Buf (Elt Ideal) ((c.tc : Thread Cert.GateUpIdeal.nD Cert.GateUpIdeal.τ).loc Cert.GateUpIdeal.main_v5_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_v5_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_v3) = v1 c
          ∧ r.2.mem ((c.tc : Thread Cert.GateUpRefIdeal.nD Cert.GateUpRefIdeal.τ).loc Cert.GateUpRefIdeal.main_v6) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Dact_DactIdeal : Prop :=
  True

def algebraic_DactIdeal_DactRefIdeal_pre_finite_factors [hDactIdeal : Cert.DactIdeal.Facts] [hDactRefIdeal : Cert.DactRefIdeal.Facts] [hPre_finite_factors : Cert.Pre_finite_factors.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_factors m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v3_0)) (v1 : (c : Dev Cert.DactIdeal.nD) → Buf (Elt Ideal) ((c.tc : Thread Cert.DactIdeal.nD Cert.DactIdeal.τ).loc Cert.DactIdeal.main_v3_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3_0) = v0 c
          ∧ r.2.mem ((c.tc : Thread Cert.DactIdeal.nD Cert.DactIdeal.τ).loc Cert.DactIdeal.main_v3_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v11) = v0 c
          ∧ r.2.mem ((c.tc : Thread Cert.DactRefIdeal.nD Cert.DactRefIdeal.τ).loc Cert.DactRefIdeal.main_v12) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)
      ∧ m' ((c.tc : Thread Cert.DwdRefIdeal.nD Cert.DwdRefIdeal.τ).loc Cert.DwdRefIdeal.main_arg2) = m ((c.tc : Thread Cert.DwdIdeal.nD Cert.DwdIdeal.τ).loc Cert.DwdIdeal.main_arg2)) →
    ∃ (v0 : (c : Dev Cert.DwdIdeal.nD) → Buf (Elt Ideal) ((c.tc : Thread Cert.DwdIdeal.nD Cert.DwdIdeal.τ).loc Cert.DwdIdeal.main_v1)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v1) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v6) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1)
          ∧ r.2.mem ((c.tc : Thread Cert.DwdRefIdeal.nD Cert.DwdRefIdeal.τ).loc Cert.DwdRefIdeal.main_arg2) = m' ((c.tc : Thread Cert.DwdRefIdeal.nD Cert.DwdRefIdeal.τ).loc Cert.DwdRefIdeal.main_arg2))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v3) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v3)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v3) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v1) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_ProjAtt_ProjAttIdeal : Prop :=
  True

def algebraic_ProjAttIdeal_ProjAttRefIdeal [hProjAttIdeal : Cert.ProjAttIdeal.Facts] [hProjAttRefIdeal : Cert.ProjAttRefIdeal.Facts] : Prop :=
  ∀ (m : (ℓ : Loc Cert.ProjAttIdeal.nD Cert.ProjAttIdeal.τ Cert.ProjAttIdeal.sig) → Buf (Elt Ideal) ℓ) (g : Dev Cert.ProjAttIdeal.nD → PrngReg)
    (m' : (ℓ : Loc Cert.ProjAttRefIdeal.nD Cert.ProjAttRefIdeal.τ Cert.ProjAttRefIdeal.sig) → Buf (Elt Ideal) ℓ) (g' : Dev Cert.ProjAttRefIdeal.nD → PrngReg), Pre_ProjAttIdeal m →
    (∀ c : Dev Cert.ProjAttIdeal.nD,
      m' ((c.tc : Thread Cert.ProjAttRefIdeal.nD Cert.ProjAttRefIdeal.τ).loc Cert.ProjAttRefIdeal.main_arg0) = m ((c.tc : Thread Cert.ProjAttIdeal.nD Cert.ProjAttIdeal.τ).loc Cert.ProjAttIdeal.main_arg0)
      ∧ m' ((c.tc : Thread Cert.ProjAttRefIdeal.nD Cert.ProjAttRefIdeal.τ).loc Cert.ProjAttRefIdeal.main_arg1) = m ((c.tc : Thread Cert.ProjAttIdeal.nD Cert.ProjAttIdeal.τ).loc Cert.ProjAttIdeal.main_arg1)) →
    ∃ (v0 : (c : Dev Cert.ProjAttIdeal.nD) → Buf (Elt Ideal) ((c.tc : Thread Cert.ProjAttIdeal.nD Cert.ProjAttIdeal.τ).loc Cert.ProjAttIdeal.main_v2)),
      θ_run (Cert.ProjAttIdeal.defs (F := Ideal)) (onTc (τ := Cert.ProjAttIdeal.τ) (Cert.ProjAttIdeal.main (F := Ideal))) ⟨m, fun _ => 0, g⟩ (fun r => ∀ c : Dev Cert.ProjAttIdeal.nD,
          r.2.mem ((c.tc : Thread Cert.ProjAttIdeal.nD Cert.ProjAttIdeal.τ).loc Cert.ProjAttIdeal.main_v2) = v0 c
          ∧ r.2.mem ((c.tc : Thread Cert.ProjAttIdeal.nD Cert.ProjAttIdeal.τ).loc Cert.ProjAttIdeal.main_arg0) = m ((c.tc : Thread Cert.ProjAttIdeal.nD Cert.ProjAttIdeal.τ).loc Cert.ProjAttIdeal.main_arg0)
          ∧ r.2.mem ((c.tc : Thread Cert.ProjAttIdeal.nD Cert.ProjAttIdeal.τ).loc Cert.ProjAttIdeal.main_arg1) = m ((c.tc : Thread Cert.ProjAttIdeal.nD Cert.ProjAttIdeal.τ).loc Cert.ProjAttIdeal.main_arg1))
      ∧ θ_run (Cert.ProjAttRefIdeal.defs (F := Ideal)) (onTc (τ := Cert.ProjAttRefIdeal.τ) (Cert.ProjAttRefIdeal.main (F := Ideal))) ⟨m', fun _ => 0, g'⟩ (fun r => ∀ c : Dev Cert.ProjAttRefIdeal.nD,
          r.2.mem ((c.tc : Thread Cert.ProjAttRefIdeal.nD Cert.ProjAttRefIdeal.τ).loc Cert.ProjAttRefIdeal.main_v0) = v0 c
          ∧ r.2.mem ((c.tc : Thread Cert.ProjAttRefIdeal.nD Cert.ProjAttRefIdeal.τ).loc Cert.ProjAttRefIdeal.main_arg0) = m' ((c.tc : Thread Cert.ProjAttRefIdeal.nD Cert.ProjAttRefIdeal.τ).loc Cert.ProjAttRefIdeal.main_arg0)
          ∧ r.2.mem ((c.tc : Thread Cert.ProjAttRefIdeal.nD Cert.ProjAttRefIdeal.τ).loc Cert.ProjAttRefIdeal.main_arg1) = m' ((c.tc : Thread Cert.ProjAttRefIdeal.nD Cert.ProjAttRefIdeal.τ).loc Cert.ProjAttRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v2)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v2) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v0) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_ProjRwkv_ProjRwkvIdeal : Prop :=
  True

def algebraic_ProjRwkvIdeal_ProjRwkvRefIdeal [hProjRwkvIdeal : Cert.ProjRwkvIdeal.Facts] [hProjRwkvRefIdeal : Cert.ProjRwkvRefIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg)
    (m' : (ℓ : Loc Cert.ProjRwkvRefIdeal.nD Cert.ProjRwkvRefIdeal.τ Cert.ProjRwkvRefIdeal.sig) → Buf (Elt Ideal) ℓ) (g' : Dev Cert.ProjRwkvRefIdeal.nD → PrngReg), Pre_ProjRwkvIdeal m →
    (∀ c : Dev Cert.ProjRwkvIdeal.nD,
      m' ((c.tc : Thread Cert.ProjRwkvRefIdeal.nD Cert.ProjRwkvRefIdeal.τ).loc Cert.ProjRwkvRefIdeal.main_arg0) = m ((c.tc : Thread Cert.ProjRwkvIdeal.nD Cert.ProjRwkvIdeal.τ).loc Cert.ProjRwkvIdeal.main_arg0)
      ∧ m' ((c.tc : Thread Cert.ProjRwkvRefIdeal.nD Cert.ProjRwkvRefIdeal.τ).loc Cert.ProjRwkvRefIdeal.main_arg1) = m ((c.tc : Thread Cert.ProjRwkvIdeal.nD Cert.ProjRwkvIdeal.τ).loc Cert.ProjRwkvIdeal.main_arg1)) →
    ∃ (v0 : (c : Dev Cert.ProjRwkvIdeal.nD) → Buf (Elt Ideal) ((c.tc : Thread Cert.ProjRwkvIdeal.nD Cert.ProjRwkvIdeal.τ).loc Cert.ProjRwkvIdeal.main_v2)),
      θ_run (Cert.ProjRwkvIdeal.defs (F := Ideal)) (onTc (τ := Cert.ProjRwkvIdeal.τ) (Cert.ProjRwkvIdeal.main (F := Ideal))) ⟨m, fun _ => 0, g⟩ (fun r => ∀ c : Dev Cert.ProjRwkvIdeal.nD,
          r.2.mem ((c.tc : Thread Cert.ProjRwkvIdeal.nD Cert.ProjRwkvIdeal.τ).loc Cert.ProjRwkvIdeal.main_v2) = v0 c
          ∧ r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
          ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1))
      ∧ θ_run (Cert.ProjRwkvRefIdeal.defs (F := Ideal)) (onTc (τ := Cert.ProjRwkvRefIdeal.τ) (Cert.ProjRwkvRefIdeal.main (F := Ideal))) ⟨m', fun _ => 0, g'⟩ (fun r => ∀ c : Dev Cert.ProjRwkvRefIdeal.nD,
          r.2.mem ((c.tc : Thread Cert.ProjRwkvRefIdeal.nD Cert.ProjRwkvRefIdeal.τ).loc Cert.ProjRwkvRefIdeal.main_v0) = v0 c
          ∧ r.2.mem ((c.tc : Thread Cert.ProjRwkvRefIdeal.nD Cert.ProjRwkvRefIdeal.τ).loc Cert.ProjRwkvRefIdeal.main_arg0) = m' ((c.tc : Thread Cert.ProjRwkvRefIdeal.nD Cert.ProjRwkvRefIdeal.τ).loc Cert.ProjRwkvRefIdeal.main_arg0)
          ∧ r.2.mem ((c.tc : Thread Cert.ProjRwkvRefIdeal.nD Cert.ProjRwkvRefIdeal.τ).loc Cert.ProjRwkvRefIdeal.main_arg1) = m' ((c.tc : Thread Cert.ProjRwkvRefIdeal.nD Cert.ProjRwkvRefIdeal.τ).loc Cert.ProjRwkvRefIdeal.main_arg1))

def preserves_BranchRwkv_BranchRwkvIdeal : Prop :=
  True

def algebraic_BranchRwkvIdeal_BranchRwkvRefIdeal [hBranchRwkvIdeal : Cert.BranchRwkvIdeal.Facts] [hBranchRwkvRefIdeal : Cert.BranchRwkvRefIdeal.Facts] : Prop :=
  ∀ (m : (ℓ : Loc Cert.BranchRwkvIdeal.nD Cert.BranchRwkvIdeal.τ Cert.BranchRwkvIdeal.sig) → Buf (Elt Ideal) ℓ) (g : Dev Cert.BranchRwkvIdeal.nD → PrngReg)
    (m' : (ℓ : Loc Cert.BranchRwkvRefIdeal.nD Cert.BranchRwkvRefIdeal.τ Cert.BranchRwkvRefIdeal.sig) → Buf (Elt Ideal) ℓ) (g' : Dev Cert.BranchRwkvRefIdeal.nD → PrngReg), Pre_BranchRwkvIdeal m →
    (∀ c : Dev Cert.BranchRwkvIdeal.nD,
      m' ((c.tc : Thread Cert.BranchRwkvRefIdeal.nD Cert.BranchRwkvRefIdeal.τ).loc Cert.BranchRwkvRefIdeal.main_arg0) = m ((c.tc : Thread Cert.BranchRwkvIdeal.nD Cert.BranchRwkvIdeal.τ).loc Cert.BranchRwkvIdeal.main_arg0)
      ∧ m' ((c.tc : Thread Cert.BranchRwkvRefIdeal.nD Cert.BranchRwkvRefIdeal.τ).loc Cert.BranchRwkvRefIdeal.main_arg1) = m ((c.tc : Thread Cert.BranchRwkvIdeal.nD Cert.BranchRwkvIdeal.τ).loc Cert.BranchRwkvIdeal.main_arg1)) →
    ∃ (v0 : (c : Dev Cert.BranchRwkvIdeal.nD) → Buf (Elt Ideal) ((c.tc : Thread Cert.BranchRwkvIdeal.nD Cert.BranchRwkvIdeal.τ).loc Cert.BranchRwkvIdeal.main_v2)),
      θ_run (Cert.BranchRwkvIdeal.defs (F := Ideal)) (onTc (τ := Cert.BranchRwkvIdeal.τ) (Cert.BranchRwkvIdeal.main (F := Ideal))) ⟨m, fun _ => 0, g⟩ (fun r => ∀ c : Dev Cert.BranchRwkvIdeal.nD,
          r.2.mem ((c.tc : Thread Cert.BranchRwkvIdeal.nD Cert.BranchRwkvIdeal.τ).loc Cert.BranchRwkvIdeal.main_v2) = v0 c
          ∧ r.2.mem ((c.tc : Thread Cert.BranchRwkvIdeal.nD Cert.BranchRwkvIdeal.τ).loc Cert.BranchRwkvIdeal.main_arg0) = m ((c.tc : Thread Cert.BranchRwkvIdeal.nD Cert.BranchRwkvIdeal.τ).loc Cert.BranchRwkvIdeal.main_arg0)
          ∧ r.2.mem ((c.tc : Thread Cert.BranchRwkvIdeal.nD Cert.BranchRwkvIdeal.τ).loc Cert.BranchRwkvIdeal.main_arg1) = m ((c.tc : Thread Cert.BranchRwkvIdeal.nD Cert.BranchRwkvIdeal.τ).loc Cert.BranchRwkvIdeal.main_arg1))
      ∧ θ_run (Cert.BranchRwkvRefIdeal.defs (F := Ideal)) (onTc (τ := Cert.BranchRwkvRefIdeal.τ) (Cert.BranchRwkvRefIdeal.main (F := Ideal))) ⟨m', fun _ => 0, g'⟩ (fun r => ∀ c : Dev Cert.BranchRwkvRefIdeal.nD,
          r.2.mem ((c.tc : Thread Cert.BranchRwkvRefIdeal.nD Cert.BranchRwkvRefIdeal.τ).loc Cert.BranchRwkvRefIdeal.main_v0) = v0 c
          ∧ r.2.mem ((c.tc : Thread Cert.BranchRwkvRefIdeal.nD Cert.BranchRwkvRefIdeal.τ).loc Cert.BranchRwkvRefIdeal.main_arg0) = m' ((c.tc : Thread Cert.BranchRwkvRefIdeal.nD Cert.BranchRwkvRefIdeal.τ).loc Cert.BranchRwkvRefIdeal.main_arg0)
          ∧ r.2.mem ((c.tc : Thread Cert.BranchRwkvRefIdeal.nD Cert.BranchRwkvRefIdeal.τ).loc Cert.BranchRwkvRefIdeal.main_arg1) = m' ((c.tc : Thread Cert.BranchRwkvRefIdeal.nD Cert.BranchRwkvRefIdeal.τ).loc Cert.BranchRwkvRefIdeal.main_arg1))

def preserves_BranchAtt_BranchAttIdeal : Prop :=
  True

def algebraic_BranchAttIdeal_BranchAttRefIdeal [hBranchAttIdeal : Cert.BranchAttIdeal.Facts] [hBranchAttRefIdeal : Cert.BranchAttRefIdeal.Facts] : Prop :=
  ∀ (m : (ℓ : Loc Cert.BranchAttIdeal.nD Cert.BranchAttIdeal.τ Cert.BranchAttIdeal.sig) → Buf (Elt Ideal) ℓ) (g : Dev Cert.BranchAttIdeal.nD → PrngReg)
    (m' : (ℓ : Loc Cert.BranchAttRefIdeal.nD Cert.BranchAttRefIdeal.τ Cert.BranchAttRefIdeal.sig) → Buf (Elt Ideal) ℓ) (g' : Dev Cert.BranchAttRefIdeal.nD → PrngReg), Pre_BranchAttIdeal m →
    (∀ c : Dev Cert.BranchAttIdeal.nD,
      m' ((c.tc : Thread Cert.BranchAttRefIdeal.nD Cert.BranchAttRefIdeal.τ).loc Cert.BranchAttRefIdeal.main_arg0) = m ((c.tc : Thread Cert.BranchAttIdeal.nD Cert.BranchAttIdeal.τ).loc Cert.BranchAttIdeal.main_arg0)
      ∧ m' ((c.tc : Thread Cert.BranchAttRefIdeal.nD Cert.BranchAttRefIdeal.τ).loc Cert.BranchAttRefIdeal.main_arg1) = m ((c.tc : Thread Cert.BranchAttIdeal.nD Cert.BranchAttIdeal.τ).loc Cert.BranchAttIdeal.main_arg1)) →
    ∃ (v0 : (c : Dev Cert.BranchAttIdeal.nD) → Buf (Elt Ideal) ((c.tc : Thread Cert.BranchAttIdeal.nD Cert.BranchAttIdeal.τ).loc Cert.BranchAttIdeal.main_v1)),
      θ_run (Cert.BranchAttIdeal.defs (F := Ideal)) (onTc (τ := Cert.BranchAttIdeal.τ) (Cert.BranchAttIdeal.main (F := Ideal))) ⟨m, fun _ => 0, g⟩ (fun r => ∀ c : Dev Cert.BranchAttIdeal.nD,
          r.2.mem ((c.tc : Thread Cert.BranchAttIdeal.nD Cert.BranchAttIdeal.τ).loc Cert.BranchAttIdeal.main_v1) = v0 c
          ∧ r.2.mem ((c.tc : Thread Cert.BranchAttIdeal.nD Cert.BranchAttIdeal.τ).loc Cert.BranchAttIdeal.main_arg0) = m ((c.tc : Thread Cert.BranchAttIdeal.nD Cert.BranchAttIdeal.τ).loc Cert.BranchAttIdeal.main_arg0)
          ∧ r.2.mem ((c.tc : Thread Cert.BranchAttIdeal.nD Cert.BranchAttIdeal.τ).loc Cert.BranchAttIdeal.main_arg1) = m ((c.tc : Thread Cert.BranchAttIdeal.nD Cert.BranchAttIdeal.τ).loc Cert.BranchAttIdeal.main_arg1))
      ∧ θ_run (Cert.BranchAttRefIdeal.defs (F := Ideal)) (onTc (τ := Cert.BranchAttRefIdeal.τ) (Cert.BranchAttRefIdeal.main (F := Ideal))) ⟨m', fun _ => 0, g'⟩ (fun r => ∀ c : Dev Cert.BranchAttRefIdeal.nD,
          r.2.mem ((c.tc : Thread Cert.BranchAttRefIdeal.nD Cert.BranchAttRefIdeal.τ).loc Cert.BranchAttRefIdeal.main_v0) = v0 c
          ∧ r.2.mem ((c.tc : Thread Cert.BranchAttRefIdeal.nD Cert.BranchAttRefIdeal.τ).loc Cert.BranchAttRefIdeal.main_arg0) = m' ((c.tc : Thread Cert.BranchAttRefIdeal.nD Cert.BranchAttRefIdeal.τ).loc Cert.BranchAttRefIdeal.main_arg0)
          ∧ r.2.mem ((c.tc : Thread Cert.BranchAttRefIdeal.nD Cert.BranchAttRefIdeal.τ).loc Cert.BranchAttRefIdeal.main_arg1) = m' ((c.tc : Thread Cert.BranchAttRefIdeal.nD Cert.BranchAttRefIdeal.τ).loc Cert.BranchAttRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_DMerge_DMergeIdeal : Prop :=
  True

def algebraic_DMergeIdeal_DMergeRefIdeal [hDMergeIdeal : Cert.DMergeIdeal.Facts] [hDMergeRefIdeal : Cert.DMergeRefIdeal.Facts] : Prop :=
  ∀ (m : (ℓ : Loc Cert.DMergeIdeal.nD Cert.DMergeIdeal.τ Cert.DMergeIdeal.sig) → Buf (Elt Ideal) ℓ) (g : Dev Cert.DMergeIdeal.nD → PrngReg)
    (m' : (ℓ : Loc Cert.DMergeRefIdeal.nD Cert.DMergeRefIdeal.τ Cert.DMergeRefIdeal.sig) → Buf (Elt Ideal) ℓ) (g' : Dev Cert.DMergeRefIdeal.nD → PrngReg), Pre_DMergeIdeal m →
    (∀ c : Dev Cert.DMergeIdeal.nD,
      m' ((c.tc : Thread Cert.DMergeRefIdeal.nD Cert.DMergeRefIdeal.τ).loc Cert.DMergeRefIdeal.main_arg0) = m ((c.tc : Thread Cert.DMergeIdeal.nD Cert.DMergeIdeal.τ).loc Cert.DMergeIdeal.main_arg0)
      ∧ m' ((c.tc : Thread Cert.DMergeRefIdeal.nD Cert.DMergeRefIdeal.τ).loc Cert.DMergeRefIdeal.main_arg1) = m ((c.tc : Thread Cert.DMergeIdeal.nD Cert.DMergeIdeal.τ).loc Cert.DMergeIdeal.main_arg1)
      ∧ m' ((c.tc : Thread Cert.DMergeRefIdeal.nD Cert.DMergeRefIdeal.τ).loc Cert.DMergeRefIdeal.main_arg2) = m ((c.tc : Thread Cert.DMergeIdeal.nD Cert.DMergeIdeal.τ).loc Cert.DMergeIdeal.main_arg2)) →
    ∃ (v0 : (c : Dev Cert.DMergeIdeal.nD) → Buf (Elt Ideal) ((c.tc : Thread Cert.DMergeIdeal.nD Cert.DMergeIdeal.τ).loc Cert.DMergeIdeal.main_v1)),
      θ_run (Cert.DMergeIdeal.defs (F := Ideal)) (onTc (τ := Cert.DMergeIdeal.τ) (Cert.DMergeIdeal.main (F := Ideal))) ⟨m, fun _ => 0, g⟩ (fun r => ∀ c : Dev Cert.DMergeIdeal.nD,
          r.2.mem ((c.tc : Thread Cert.DMergeIdeal.nD Cert.DMergeIdeal.τ).loc Cert.DMergeIdeal.main_v1) = v0 c
          ∧ r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
          ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
          ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2))
      ∧ θ_run (Cert.DMergeRefIdeal.defs (F := Ideal)) (onTc (τ := Cert.DMergeRefIdeal.τ) (Cert.DMergeRefIdeal.main (F := Ideal))) ⟨m', fun _ => 0, g'⟩ (fun r => ∀ c : Dev Cert.DMergeRefIdeal.nD,
          r.2.mem ((c.tc : Thread Cert.DMergeRefIdeal.nD Cert.DMergeRefIdeal.τ).loc Cert.DMergeRefIdeal.main_v1) = v0 c
          ∧ r.2.mem ((c.tc : Thread Cert.DMergeRefIdeal.nD Cert.DMergeRefIdeal.τ).loc Cert.DMergeRefIdeal.main_arg0) = m' ((c.tc : Thread Cert.DMergeRefIdeal.nD Cert.DMergeRefIdeal.τ).loc Cert.DMergeRefIdeal.main_arg0)
          ∧ r.2.mem ((c.tc : Thread Cert.DMergeRefIdeal.nD Cert.DMergeRefIdeal.τ).loc Cert.DMergeRefIdeal.main_arg1) = m' ((c.tc : Thread Cert.DMergeRefIdeal.nD Cert.DMergeRefIdeal.τ).loc Cert.DMergeRefIdeal.main_arg1)
          ∧ r.2.mem ((c.tc : Thread Cert.DMergeRefIdeal.nD Cert.DMergeRefIdeal.τ).loc Cert.DMergeRefIdeal.main_arg2) = m' ((c.tc : Thread Cert.DMergeRefIdeal.nD Cert.DMergeRefIdeal.τ).loc Cert.DMergeRefIdeal.main_arg2))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)
      ∧ m' ((c.tc : Thread Cert.DWOutRefIdeal.nD Cert.DWOutRefIdeal.τ).loc Cert.DWOutRefIdeal.main_arg2) = m ((c.tc : Thread Cert.DWOutIdeal.nD Cert.DWOutIdeal.τ).loc Cert.DWOutIdeal.main_arg2)) →
    ∃ (v0 : (c : Dev Cert.DWOutIdeal.nD) → Buf (Elt Ideal) ((c.tc : Thread Cert.DWOutIdeal.nD Cert.DWOutIdeal.τ).loc Cert.DWOutIdeal.main_v1)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v1) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
          ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v2) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1)
          ∧ r.2.mem ((c.tc : Thread Cert.DWOutRefIdeal.nD Cert.DWOutRefIdeal.τ).loc Cert.DWOutRefIdeal.main_arg2) = m' ((c.tc : Thread Cert.DWOutRefIdeal.nD Cert.DWOutRefIdeal.τ).loc Cert.DWOutRefIdeal.main_arg2))

def preserves_DY_DYIdeal : Prop :=
  True

def algebraic_DYIdeal_DYRefIdeal [hDYIdeal : Cert.DYIdeal.Facts] [hDYRefIdeal : Cert.DYRefIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYRefIdeal.nD Cert.DYRefIdeal.τ Cert.DYRefIdeal.sig) → Buf (Elt Ideal) ℓ) (g' : Dev Cert.DYRefIdeal.nD → PrngReg), Pre_DYIdeal m →
    (∀ c : Dev Cert.DYIdeal.nD,
      m' ((c.tc : Thread Cert.DYRefIdeal.nD Cert.DYRefIdeal.τ).loc Cert.DYRefIdeal.main_arg0) = m ((c.tc : Thread Cert.DYIdeal.nD Cert.DYIdeal.τ).loc Cert.DYIdeal.main_arg0)
      ∧ m' ((c.tc : Thread Cert.DYRefIdeal.nD Cert.DYRefIdeal.τ).loc Cert.DYRefIdeal.main_arg1) = m ((c.tc : Thread Cert.DYIdeal.nD Cert.DYIdeal.τ).loc Cert.DYIdeal.main_arg1)
      ∧ m' ((c.tc : Thread Cert.DYRefIdeal.nD Cert.DYRefIdeal.τ).loc Cert.DYRefIdeal.main_arg2) = m ((c.tc : Thread Cert.DYIdeal.nD Cert.DYIdeal.τ).loc Cert.DYIdeal.main_arg2)) →
    ∃ (v0 : (c : Dev Cert.DYIdeal.nD) → Buf (Elt Ideal) ((c.tc : Thread Cert.DYIdeal.nD Cert.DYIdeal.τ).loc Cert.DYIdeal.main_v2)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v2) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1)
          ∧ r.2.mem ((c.tc : Thread Cert.DYIdeal.nD Cert.DYIdeal.τ).loc Cert.DYIdeal.main_arg2) = m ((c.tc : Thread Cert.DYIdeal.nD Cert.DYIdeal.τ).loc Cert.DYIdeal.main_arg2))
      ∧ θ_run (Cert.DYRefIdeal.defs (F := Ideal)) (onTc (τ := Cert.DYRefIdeal.τ) (Cert.DYRefIdeal.main (F := Ideal))) ⟨m', fun _ => 0, g'⟩ (fun r => ∀ c : Dev Cert.DYRefIdeal.nD,
          r.2.mem ((c.tc : Thread Cert.DYRefIdeal.nD Cert.DYRefIdeal.τ).loc Cert.DYRefIdeal.main_v1) = v0 c
          ∧ r.2.mem ((c.tc : Thread Cert.DYRefIdeal.nD Cert.DYRefIdeal.τ).loc Cert.DYRefIdeal.main_arg0) = m' ((c.tc : Thread Cert.DYRefIdeal.nD Cert.DYRefIdeal.τ).loc Cert.DYRefIdeal.main_arg0)
          ∧ r.2.mem ((c.tc : Thread Cert.DYRefIdeal.nD Cert.DYRefIdeal.τ).loc Cert.DYRefIdeal.main_arg1) = m' ((c.tc : Thread Cert.DYRefIdeal.nD Cert.DYRefIdeal.τ).loc Cert.DYRefIdeal.main_arg1)
          ∧ r.2.mem ((c.tc : Thread Cert.DYRefIdeal.nD Cert.DYRefIdeal.τ).loc Cert.DYRefIdeal.main_arg2) = m' ((c.tc : Thread Cert.DYRefIdeal.nD Cert.DYRefIdeal.τ).loc Cert.DYRefIdeal.main_arg2))

def preserves_DWBranchRwkv_DWBranchRwkvIdeal : Prop :=
  True

def algebraic_DWBranchRwkvIdeal_DWBranchRwkvRefIdeal [hDWBranchRwkvIdeal : Cert.DWBranchRwkvIdeal.Facts] [hDWBranchRwkvRefIdeal : Cert.DWBranchRwkvRefIdeal.Facts] : Prop :=
  ∀ (m : (ℓ : Loc Cert.DWBranchRwkvIdeal.nD Cert.DWBranchRwkvIdeal.τ Cert.DWBranchRwkvIdeal.sig) → Buf (Elt Ideal) ℓ) (g : Dev Cert.DWBranchRwkvIdeal.nD → PrngReg)
    (m' : (ℓ : Loc Cert.DWBranchRwkvRefIdeal.nD Cert.DWBranchRwkvRefIdeal.τ Cert.DWBranchRwkvRefIdeal.sig) → Buf (Elt Ideal) ℓ) (g' : Dev Cert.DWBranchRwkvRefIdeal.nD → PrngReg), Pre_DWBranchRwkvIdeal m →
    (∀ c : Dev Cert.DWBranchRwkvIdeal.nD,
      m' ((c.tc : Thread Cert.DWBranchRwkvRefIdeal.nD Cert.DWBranchRwkvRefIdeal.τ).loc Cert.DWBranchRwkvRefIdeal.main_arg0) = m ((c.tc : Thread Cert.DWBranchRwkvIdeal.nD Cert.DWBranchRwkvIdeal.τ).loc Cert.DWBranchRwkvIdeal.main_arg0)
      ∧ m' ((c.tc : Thread Cert.DWBranchRwkvRefIdeal.nD Cert.DWBranchRwkvRefIdeal.τ).loc Cert.DWBranchRwkvRefIdeal.main_arg1) = m ((c.tc : Thread Cert.DWBranchRwkvIdeal.nD Cert.DWBranchRwkvIdeal.τ).loc Cert.DWBranchRwkvIdeal.main_arg1)
      ∧ m' ((c.tc : Thread Cert.DWBranchRwkvRefIdeal.nD Cert.DWBranchRwkvRefIdeal.τ).loc Cert.DWBranchRwkvRefIdeal.main_arg2) = m ((c.tc : Thread Cert.DWBranchRwkvIdeal.nD Cert.DWBranchRwkvIdeal.τ).loc Cert.DWBranchRwkvIdeal.main_arg2)) →
    ∃ (v0 : (c : Dev Cert.DWBranchRwkvIdeal.nD) → Buf (Elt Ideal) ((c.tc : Thread Cert.DWBranchRwkvIdeal.nD Cert.DWBranchRwkvIdeal.τ).loc Cert.DWBranchRwkvIdeal.main_v2)),
      θ_run (Cert.DWBranchRwkvIdeal.defs (F := Ideal)) (onTc (τ := Cert.DWBranchRwkvIdeal.τ) (Cert.DWBranchRwkvIdeal.main (F := Ideal))) ⟨m, fun _ => 0, g⟩ (fun r => ∀ c : Dev Cert.DWBranchRwkvIdeal.nD,
          r.2.mem ((c.tc : Thread Cert.DWBranchRwkvIdeal.nD Cert.DWBranchRwkvIdeal.τ).loc Cert.DWBranchRwkvIdeal.main_v2) = v0 c
          ∧ r.2.mem ((c.tc : Thread Cert.DWBranchRwkvIdeal.nD Cert.DWBranchRwkvIdeal.τ).loc Cert.DWBranchRwkvIdeal.main_arg0) = m ((c.tc : Thread Cert.DWBranchRwkvIdeal.nD Cert.DWBranchRwkvIdeal.τ).loc Cert.DWBranchRwkvIdeal.main_arg0)
          ∧ r.2.mem ((c.tc : Thread Cert.DWBranchRwkvIdeal.nD Cert.DWBranchRwkvIdeal.τ).loc Cert.DWBranchRwkvIdeal.main_arg1) = m ((c.tc : Thread Cert.DWBranchRwkvIdeal.nD Cert.DWBranchRwkvIdeal.τ).loc Cert.DWBranchRwkvIdeal.main_arg1)
          ∧ r.2.mem ((c.tc : Thread Cert.DWBranchRwkvIdeal.nD Cert.DWBranchRwkvIdeal.τ).loc Cert.DWBranchRwkvIdeal.main_arg2) = m ((c.tc : Thread Cert.DWBranchRwkvIdeal.nD Cert.DWBranchRwkvIdeal.τ).loc Cert.DWBranchRwkvIdeal.main_arg2))
      ∧ θ_run (Cert.DWBranchRwkvRefIdeal.defs (F := Ideal)) (onTc (τ := Cert.DWBranchRwkvRefIdeal.τ) (Cert.DWBranchRwkvRefIdeal.main (F := Ideal))) ⟨m', fun _ => 0, g'⟩ (fun r => ∀ c : Dev Cert.DWBranchRwkvRefIdeal.nD,
          r.2.mem ((c.tc : Thread Cert.DWBranchRwkvRefIdeal.nD Cert.DWBranchRwkvRefIdeal.τ).loc Cert.DWBranchRwkvRefIdeal.main_v2) = v0 c
          ∧ r.2.mem ((c.tc : Thread Cert.DWBranchRwkvRefIdeal.nD Cert.DWBranchRwkvRefIdeal.τ).loc Cert.DWBranchRwkvRefIdeal.main_arg0) = m' ((c.tc : Thread Cert.DWBranchRwkvRefIdeal.nD Cert.DWBranchRwkvRefIdeal.τ).loc Cert.DWBranchRwkvRefIdeal.main_arg0)
          ∧ r.2.mem ((c.tc : Thread Cert.DWBranchRwkvRefIdeal.nD Cert.DWBranchRwkvRefIdeal.τ).loc Cert.DWBranchRwkvRefIdeal.main_arg1) = m' ((c.tc : Thread Cert.DWBranchRwkvRefIdeal.nD Cert.DWBranchRwkvRefIdeal.τ).loc Cert.DWBranchRwkvRefIdeal.main_arg1)
          ∧ r.2.mem ((c.tc : Thread Cert.DWBranchRwkvRefIdeal.nD Cert.DWBranchRwkvRefIdeal.τ).loc Cert.DWBranchRwkvRefIdeal.main_arg2) = m' ((c.tc : Thread Cert.DWBranchRwkvRefIdeal.nD Cert.DWBranchRwkvRefIdeal.τ).loc Cert.DWBranchRwkvRefIdeal.main_arg2))

def preserves_DWBranchAtt_DWBranchAttIdeal : Prop :=
  True

def algebraic_DWBranchAttIdeal_DWBranchAttRefIdeal [hDWBranchAttIdeal : Cert.DWBranchAttIdeal.Facts] [hDWBranchAttRefIdeal : Cert.DWBranchAttRefIdeal.Facts] : Prop :=
  ∀ (m : (ℓ : Loc Cert.DWBranchAttIdeal.nD Cert.DWBranchAttIdeal.τ Cert.DWBranchAttIdeal.sig) → Buf (Elt Ideal) ℓ) (g : Dev Cert.DWBranchAttIdeal.nD → PrngReg)
    (m' : (ℓ : Loc Cert.DWBranchAttRefIdeal.nD Cert.DWBranchAttRefIdeal.τ Cert.DWBranchAttRefIdeal.sig) → Buf (Elt Ideal) ℓ) (g' : Dev Cert.DWBranchAttRefIdeal.nD → PrngReg), Pre_DWBranchAttIdeal m →
    (∀ c : Dev Cert.DWBranchAttIdeal.nD,
      m' ((c.tc : Thread Cert.DWBranchAttRefIdeal.nD Cert.DWBranchAttRefIdeal.τ).loc Cert.DWBranchAttRefIdeal.main_arg0) = m ((c.tc : Thread Cert.DWBranchAttIdeal.nD Cert.DWBranchAttIdeal.τ).loc Cert.DWBranchAttIdeal.main_arg0)
      ∧ m' ((c.tc : Thread Cert.DWBranchAttRefIdeal.nD Cert.DWBranchAttRefIdeal.τ).loc Cert.DWBranchAttRefIdeal.main_arg1) = m ((c.tc : Thread Cert.DWBranchAttIdeal.nD Cert.DWBranchAttIdeal.τ).loc Cert.DWBranchAttIdeal.main_arg1)
      ∧ m' ((c.tc : Thread Cert.DWBranchAttRefIdeal.nD Cert.DWBranchAttRefIdeal.τ).loc Cert.DWBranchAttRefIdeal.main_arg2) = m ((c.tc : Thread Cert.DWBranchAttIdeal.nD Cert.DWBranchAttIdeal.τ).loc Cert.DWBranchAttIdeal.main_arg2)) →
    ∃ (v0 : (c : Dev Cert.DWBranchAttIdeal.nD) → Buf (Elt Ideal) ((c.tc : Thread Cert.DWBranchAttIdeal.nD Cert.DWBranchAttIdeal.τ).loc Cert.DWBranchAttIdeal.main_v1)),
      θ_run (Cert.DWBranchAttIdeal.defs (F := Ideal)) (onTc (τ := Cert.DWBranchAttIdeal.τ) (Cert.DWBranchAttIdeal.main (F := Ideal))) ⟨m, fun _ => 0, g⟩ (fun r => ∀ c : Dev Cert.DWBranchAttIdeal.nD,
          r.2.mem ((c.tc : Thread Cert.DWBranchAttIdeal.nD Cert.DWBranchAttIdeal.τ).loc Cert.DWBranchAttIdeal.main_v1) = v0 c
          ∧ r.2.mem ((c.tc : Thread Cert.DWBranchAttIdeal.nD Cert.DWBranchAttIdeal.τ).loc Cert.DWBranchAttIdeal.main_arg0) = m ((c.tc : Thread Cert.DWBranchAttIdeal.nD Cert.DWBranchAttIdeal.τ).loc Cert.DWBranchAttIdeal.main_arg0)
          ∧ r.2.mem ((c.tc : Thread Cert.DWBranchAttIdeal.nD Cert.DWBranchAttIdeal.τ).loc Cert.DWBranchAttIdeal.main_arg1) = m ((c.tc : Thread Cert.DWBranchAttIdeal.nD Cert.DWBranchAttIdeal.τ).loc Cert.DWBranchAttIdeal.main_arg1)
          ∧ r.2.mem ((c.tc : Thread Cert.DWBranchAttIdeal.nD Cert.DWBranchAttIdeal.τ).loc Cert.DWBranchAttIdeal.main_arg2) = m ((c.tc : Thread Cert.DWBranchAttIdeal.nD Cert.DWBranchAttIdeal.τ).loc Cert.DWBranchAttIdeal.main_arg2))
      ∧ θ_run (Cert.DWBranchAttRefIdeal.defs (F := Ideal)) (onTc (τ := Cert.DWBranchAttRefIdeal.τ) (Cert.DWBranchAttRefIdeal.main (F := Ideal))) ⟨m', fun _ => 0, g'⟩ (fun r => ∀ c : Dev Cert.DWBranchAttRefIdeal.nD,
          r.2.mem ((c.tc : Thread Cert.DWBranchAttRefIdeal.nD Cert.DWBranchAttRefIdeal.τ).loc Cert.DWBranchAttRefIdeal.main_v2) = v0 c
          ∧ r.2.mem ((c.tc : Thread Cert.DWBranchAttRefIdeal.nD Cert.DWBranchAttRefIdeal.τ).loc Cert.DWBranchAttRefIdeal.main_arg0) = m' ((c.tc : Thread Cert.DWBranchAttRefIdeal.nD Cert.DWBranchAttRefIdeal.τ).loc Cert.DWBranchAttRefIdeal.main_arg0)
          ∧ r.2.mem ((c.tc : Thread Cert.DWBranchAttRefIdeal.nD Cert.DWBranchAttRefIdeal.τ).loc Cert.DWBranchAttRefIdeal.main_arg1) = m' ((c.tc : Thread Cert.DWBranchAttRefIdeal.nD Cert.DWBranchAttRefIdeal.τ).loc Cert.DWBranchAttRefIdeal.main_arg1)
          ∧ r.2.mem ((c.tc : Thread Cert.DWBranchAttRefIdeal.nD Cert.DWBranchAttRefIdeal.τ).loc Cert.DWBranchAttRefIdeal.main_arg2) = m' ((c.tc : Thread Cert.DWBranchAttRefIdeal.nD Cert.DWBranchAttRefIdeal.τ).loc Cert.DWBranchAttRefIdeal.main_arg2))

def preserves_DWInAtt_DWInAttIdeal : Prop :=
  True

def algebraic_DWInAttIdeal_DWInAttRefIdeal [hDWInAttIdeal : Cert.DWInAttIdeal.Facts] [hDWInAttRefIdeal : Cert.DWInAttRefIdeal.Facts] : Prop :=
  ∀ (m : (ℓ : Loc Cert.DWInAttIdeal.nD Cert.DWInAttIdeal.τ Cert.DWInAttIdeal.sig) → Buf (Elt Ideal) ℓ) (g : Dev Cert.DWInAttIdeal.nD → PrngReg)
    (m' : (ℓ : Loc Cert.DWInAttRefIdeal.nD Cert.DWInAttRefIdeal.τ Cert.DWInAttRefIdeal.sig) → Buf (Elt Ideal) ℓ) (g' : Dev Cert.DWInAttRefIdeal.nD → PrngReg), Pre_DWInAttIdeal m →
    (∀ c : Dev Cert.DWInAttIdeal.nD,
      m' ((c.tc : Thread Cert.DWInAttRefIdeal.nD Cert.DWInAttRefIdeal.τ).loc Cert.DWInAttRefIdeal.main_arg0) = m ((c.tc : Thread Cert.DWInAttIdeal.nD Cert.DWInAttIdeal.τ).loc Cert.DWInAttIdeal.main_arg0)
      ∧ m' ((c.tc : Thread Cert.DWInAttRefIdeal.nD Cert.DWInAttRefIdeal.τ).loc Cert.DWInAttRefIdeal.main_arg1) = m ((c.tc : Thread Cert.DWInAttIdeal.nD Cert.DWInAttIdeal.τ).loc Cert.DWInAttIdeal.main_arg1)
      ∧ m' ((c.tc : Thread Cert.DWInAttRefIdeal.nD Cert.DWInAttRefIdeal.τ).loc Cert.DWInAttRefIdeal.main_arg2) = m ((c.tc : Thread Cert.DWInAttIdeal.nD Cert.DWInAttIdeal.τ).loc Cert.DWInAttIdeal.main_arg2)) →
    ∃ (v0 : (c : Dev Cert.DWInAttIdeal.nD) → Buf (Elt Ideal) ((c.tc : Thread Cert.DWInAttIdeal.nD Cert.DWInAttIdeal.τ).loc Cert.DWInAttIdeal.main_v1)),
      θ_run (Cert.DWInAttIdeal.defs (F := Ideal)) (onTc (τ := Cert.DWInAttIdeal.τ) (Cert.DWInAttIdeal.main (F := Ideal))) ⟨m, fun _ => 0, g⟩ (fun r => ∀ c : Dev Cert.DWInAttIdeal.nD,
          r.2.mem ((c.tc : Thread Cert.DWInAttIdeal.nD Cert.DWInAttIdeal.τ).loc Cert.DWInAttIdeal.main_v1) = v0 c
          ∧ r.2.mem ((c.tc : Thread Cert.DWInAttIdeal.nD Cert.DWInAttIdeal.τ).loc Cert.DWInAttIdeal.main_arg0) = m ((c.tc : Thread Cert.DWInAttIdeal.nD Cert.DWInAttIdeal.τ).loc Cert.DWInAttIdeal.main_arg0)
          ∧ r.2.mem ((c.tc : Thread Cert.DWInAttIdeal.nD Cert.DWInAttIdeal.τ).loc Cert.DWInAttIdeal.main_arg1) = m ((c.tc : Thread Cert.DWInAttIdeal.nD Cert.DWInAttIdeal.τ).loc Cert.DWInAttIdeal.main_arg1)
          ∧ r.2.mem ((c.tc : Thread Cert.DWInAttIdeal.nD Cert.DWInAttIdeal.τ).loc Cert.DWInAttIdeal.main_arg2) = m ((c.tc : Thread Cert.DWInAttIdeal.nD Cert.DWInAttIdeal.τ).loc Cert.DWInAttIdeal.main_arg2))
      ∧ θ_run (Cert.DWInAttRefIdeal.defs (F := Ideal)) (onTc (τ := Cert.DWInAttRefIdeal.τ) (Cert.DWInAttRefIdeal.main (F := Ideal))) ⟨m', fun _ => 0, g'⟩ (fun r => ∀ c : Dev Cert.DWInAttRefIdeal.nD,
          r.2.mem ((c.tc : Thread Cert.DWInAttRefIdeal.nD Cert.DWInAttRefIdeal.τ).loc Cert.DWInAttRefIdeal.main_v2) = v0 c
          ∧ r.2.mem ((c.tc : Thread Cert.DWInAttRefIdeal.nD Cert.DWInAttRefIdeal.τ).loc Cert.DWInAttRefIdeal.main_arg0) = m' ((c.tc : Thread Cert.DWInAttRefIdeal.nD Cert.DWInAttRefIdeal.τ).loc Cert.DWInAttRefIdeal.main_arg0)
          ∧ r.2.mem ((c.tc : Thread Cert.DWInAttRefIdeal.nD Cert.DWInAttRefIdeal.τ).loc Cert.DWInAttRefIdeal.main_arg1) = m' ((c.tc : Thread Cert.DWInAttRefIdeal.nD Cert.DWInAttRefIdeal.τ).loc Cert.DWInAttRefIdeal.main_arg1)
          ∧ r.2.mem ((c.tc : Thread Cert.DWInAttRefIdeal.nD Cert.DWInAttRefIdeal.τ).loc Cert.DWInAttRefIdeal.main_arg2) = m' ((c.tc : Thread Cert.DWInAttRefIdeal.nD Cert.DWInAttRefIdeal.τ).loc Cert.DWInAttRefIdeal.main_arg2))

def preserves_DWInGate_DWInGateIdeal : Prop :=
  True

def algebraic_DWInGateIdeal_DWInGateRefIdeal [hDWInGateIdeal : Cert.DWInGateIdeal.Facts] [hDWInGateRefIdeal : Cert.DWInGateRefIdeal.Facts] : Prop :=
  ∀ (m : (ℓ : Loc Cert.DWInGateIdeal.nD Cert.DWInGateIdeal.τ Cert.DWInGateIdeal.sig) → Buf (Elt Ideal) ℓ) (g : Dev Cert.DWInGateIdeal.nD → PrngReg)
    (m' : (ℓ : Loc Cert.DWInGateRefIdeal.nD Cert.DWInGateRefIdeal.τ Cert.DWInGateRefIdeal.sig) → Buf (Elt Ideal) ℓ) (g' : Dev Cert.DWInGateRefIdeal.nD → PrngReg), Pre_DWInGateIdeal m →
    (∀ c : Dev Cert.DWInGateIdeal.nD,
      m' ((c.tc : Thread Cert.DWInGateRefIdeal.nD Cert.DWInGateRefIdeal.τ).loc Cert.DWInGateRefIdeal.main_arg0) = m ((c.tc : Thread Cert.DWInGateIdeal.nD Cert.DWInGateIdeal.τ).loc Cert.DWInGateIdeal.main_arg0)
      ∧ m' ((c.tc : Thread Cert.DWInGateRefIdeal.nD Cert.DWInGateRefIdeal.τ).loc Cert.DWInGateRefIdeal.main_arg1) = m ((c.tc : Thread Cert.DWInGateIdeal.nD Cert.DWInGateIdeal.τ).loc Cert.DWInGateIdeal.main_arg1)
      ∧ m' ((c.tc : Thread Cert.DWInGateRefIdeal.nD Cert.DWInGateRefIdeal.τ).loc Cert.DWInGateRefIdeal.main_arg2) = m ((c.tc : Thread Cert.DWInGateIdeal.nD Cert.DWInGateIdeal.τ).loc Cert.DWInGateIdeal.main_arg2)) →
    ∃ (v0 : (c : Dev Cert.DWInGateIdeal.nD) → Buf (Elt Ideal) ((c.tc : Thread Cert.DWInGateIdeal.nD Cert.DWInGateIdeal.τ).loc Cert.DWInGateIdeal.main_v1)),
      θ_run (Cert.DWInGateIdeal.defs (F := Ideal)) (onTc (τ := Cert.DWInGateIdeal.τ) (Cert.DWInGateIdeal.main (F := Ideal))) ⟨m, fun _ => 0, g⟩ (fun r => ∀ c : Dev Cert.DWInGateIdeal.nD,
          r.2.mem ((c.tc : Thread Cert.DWInGateIdeal.nD Cert.DWInGateIdeal.τ).loc Cert.DWInGateIdeal.main_v1) = v0 c
          ∧ r.2.mem ((c.tc : Thread Cert.DWInGateIdeal.nD Cert.DWInGateIdeal.τ).loc Cert.DWInGateIdeal.main_arg0) = m ((c.tc : Thread Cert.DWInGateIdeal.nD Cert.DWInGateIdeal.τ).loc Cert.DWInGateIdeal.main_arg0)
          ∧ r.2.mem ((c.tc : Thread Cert.DWInGateIdeal.nD Cert.DWInGateIdeal.τ).loc Cert.DWInGateIdeal.main_arg1) = m ((c.tc : Thread Cert.DWInGateIdeal.nD Cert.DWInGateIdeal.τ).loc Cert.DWInGateIdeal.main_arg1)
          ∧ r.2.mem ((c.tc : Thread Cert.DWInGateIdeal.nD Cert.DWInGateIdeal.τ).loc Cert.DWInGateIdeal.main_arg2) = m ((c.tc : Thread Cert.DWInGateIdeal.nD Cert.DWInGateIdeal.τ).loc Cert.DWInGateIdeal.main_arg2))
      ∧ θ_run (Cert.DWInGateRefIdeal.defs (F := Ideal)) (onTc (τ := Cert.DWInGateRefIdeal.τ) (Cert.DWInGateRefIdeal.main (F := Ideal))) ⟨m', fun _ => 0, g'⟩ (fun r => ∀ c : Dev Cert.DWInGateRefIdeal.nD,
          r.2.mem ((c.tc : Thread Cert.DWInGateRefIdeal.nD Cert.DWInGateRefIdeal.τ).loc Cert.DWInGateRefIdeal.main_v2) = v0 c
          ∧ r.2.mem ((c.tc : Thread Cert.DWInGateRefIdeal.nD Cert.DWInGateRefIdeal.τ).loc Cert.DWInGateRefIdeal.main_arg0) = m' ((c.tc : Thread Cert.DWInGateRefIdeal.nD Cert.DWInGateRefIdeal.τ).loc Cert.DWInGateRefIdeal.main_arg0)
          ∧ r.2.mem ((c.tc : Thread Cert.DWInGateRefIdeal.nD Cert.DWInGateRefIdeal.τ).loc Cert.DWInGateRefIdeal.main_arg1) = m' ((c.tc : Thread Cert.DWInGateRefIdeal.nD Cert.DWInGateRefIdeal.τ).loc Cert.DWInGateRefIdeal.main_arg1)
          ∧ r.2.mem ((c.tc : Thread Cert.DWInGateRefIdeal.nD Cert.DWInGateRefIdeal.τ).loc Cert.DWInGateRefIdeal.main_arg2) = m' ((c.tc : Thread Cert.DWInGateRefIdeal.nD Cert.DWInGateRefIdeal.τ).loc Cert.DWInGateRefIdeal.main_arg2))

def preserves_DWInRwkv_DWInRwkvIdeal : Prop :=
  True

def algebraic_DWInRwkvIdeal_DWInRwkvRefIdeal [hDWInRwkvIdeal : Cert.DWInRwkvIdeal.Facts] [hDWInRwkvRefIdeal : Cert.DWInRwkvRefIdeal.Facts] : Prop :=
  ∀ (m : (ℓ : Loc Cert.DWInRwkvIdeal.nD Cert.DWInRwkvIdeal.τ Cert.DWInRwkvIdeal.sig) → Buf (Elt Ideal) ℓ) (g : Dev Cert.DWInRwkvIdeal.nD → PrngReg)
    (m' : (ℓ : Loc Cert.DWInRwkvRefIdeal.nD Cert.DWInRwkvRefIdeal.τ Cert.DWInRwkvRefIdeal.sig) → Buf (Elt Ideal) ℓ) (g' : Dev Cert.DWInRwkvRefIdeal.nD → PrngReg), Pre_DWInRwkvIdeal m →
    (∀ c : Dev Cert.DWInRwkvIdeal.nD,
      m' ((c.tc : Thread Cert.DWInRwkvRefIdeal.nD Cert.DWInRwkvRefIdeal.τ).loc Cert.DWInRwkvRefIdeal.main_arg0) = m ((c.tc : Thread Cert.DWInRwkvIdeal.nD Cert.DWInRwkvIdeal.τ).loc Cert.DWInRwkvIdeal.main_arg0)
      ∧ m' ((c.tc : Thread Cert.DWInRwkvRefIdeal.nD Cert.DWInRwkvRefIdeal.τ).loc Cert.DWInRwkvRefIdeal.main_arg1) = m ((c.tc : Thread Cert.DWInRwkvIdeal.nD Cert.DWInRwkvIdeal.τ).loc Cert.DWInRwkvIdeal.main_arg1)
      ∧ m' ((c.tc : Thread Cert.DWInRwkvRefIdeal.nD Cert.DWInRwkvRefIdeal.τ).loc Cert.DWInRwkvRefIdeal.main_arg2) = m ((c.tc : Thread Cert.DWInRwkvIdeal.nD Cert.DWInRwkvIdeal.τ).loc Cert.DWInRwkvIdeal.main_arg2)) →
    ∃ (v0 : (c : Dev Cert.DWInRwkvIdeal.nD) → Buf (Elt Ideal) ((c.tc : Thread Cert.DWInRwkvIdeal.nD Cert.DWInRwkvIdeal.τ).loc Cert.DWInRwkvIdeal.main_v1)),
      θ_run (Cert.DWInRwkvIdeal.defs (F := Ideal)) (onTc (τ := Cert.DWInRwkvIdeal.τ) (Cert.DWInRwkvIdeal.main (F := Ideal))) ⟨m, fun _ => 0, g⟩ (fun r => ∀ c : Dev Cert.DWInRwkvIdeal.nD,
          r.2.mem ((c.tc : Thread Cert.DWInRwkvIdeal.nD Cert.DWInRwkvIdeal.τ).loc Cert.DWInRwkvIdeal.main_v1) = v0 c
          ∧ r.2.mem ((c.tc : Thread Cert.DWInRwkvIdeal.nD Cert.DWInRwkvIdeal.τ).loc Cert.DWInRwkvIdeal.main_arg0) = m ((c.tc : Thread Cert.DWInRwkvIdeal.nD Cert.DWInRwkvIdeal.τ).loc Cert.DWInRwkvIdeal.main_arg0)
          ∧ r.2.mem ((c.tc : Thread Cert.DWInRwkvIdeal.nD Cert.DWInRwkvIdeal.τ).loc Cert.DWInRwkvIdeal.main_arg1) = m ((c.tc : Thread Cert.DWInRwkvIdeal.nD Cert.DWInRwkvIdeal.τ).loc Cert.DWInRwkvIdeal.main_arg1)
          ∧ r.2.mem ((c.tc : Thread Cert.DWInRwkvIdeal.nD Cert.DWInRwkvIdeal.τ).loc Cert.DWInRwkvIdeal.main_arg2) = m ((c.tc : Thread Cert.DWInRwkvIdeal.nD Cert.DWInRwkvIdeal.τ).loc Cert.DWInRwkvIdeal.main_arg2))
      ∧ θ_run (Cert.DWInRwkvRefIdeal.defs (F := Ideal)) (onTc (τ := Cert.DWInRwkvRefIdeal.τ) (Cert.DWInRwkvRefIdeal.main (F := Ideal))) ⟨m', fun _ => 0, g'⟩ (fun r => ∀ c : Dev Cert.DWInRwkvRefIdeal.nD,
          r.2.mem ((c.tc : Thread Cert.DWInRwkvRefIdeal.nD Cert.DWInRwkvRefIdeal.τ).loc Cert.DWInRwkvRefIdeal.main_v2) = v0 c
          ∧ r.2.mem ((c.tc : Thread Cert.DWInRwkvRefIdeal.nD Cert.DWInRwkvRefIdeal.τ).loc Cert.DWInRwkvRefIdeal.main_arg0) = m' ((c.tc : Thread Cert.DWInRwkvRefIdeal.nD Cert.DWInRwkvRefIdeal.τ).loc Cert.DWInRwkvRefIdeal.main_arg0)
          ∧ r.2.mem ((c.tc : Thread Cert.DWInRwkvRefIdeal.nD Cert.DWInRwkvRefIdeal.τ).loc Cert.DWInRwkvRefIdeal.main_arg1) = m' ((c.tc : Thread Cert.DWInRwkvRefIdeal.nD Cert.DWInRwkvRefIdeal.τ).loc Cert.DWInRwkvRefIdeal.main_arg1)
          ∧ r.2.mem ((c.tc : Thread Cert.DWInRwkvRefIdeal.nD Cert.DWInRwkvRefIdeal.τ).loc Cert.DWInRwkvRefIdeal.main_arg2) = m' ((c.tc : Thread Cert.DWInRwkvRefIdeal.nD Cert.DWInRwkvRefIdeal.τ).loc Cert.DWInRwkvRefIdeal.main_arg2))

def preserves_DH2Att_DH2AttIdeal : Prop :=
  True

def algebraic_DH2AttIdeal_DH2AttRefIdeal [hDH2AttIdeal : Cert.DH2AttIdeal.Facts] [hDH2AttRefIdeal : Cert.DH2AttRefIdeal.Facts] : Prop :=
  ∀ (m : (ℓ : Loc Cert.DH2AttIdeal.nD Cert.DH2AttIdeal.τ Cert.DH2AttIdeal.sig) → Buf (Elt Ideal) ℓ) (g : Dev Cert.DH2AttIdeal.nD → PrngReg)
    (m' : (ℓ : Loc Cert.DH2AttRefIdeal.nD Cert.DH2AttRefIdeal.τ Cert.DH2AttRefIdeal.sig) → Buf (Elt Ideal) ℓ) (g' : Dev Cert.DH2AttRefIdeal.nD → PrngReg), Pre_DH2AttIdeal m →
    (∀ c : Dev Cert.DH2AttIdeal.nD,
      m' ((c.tc : Thread Cert.DH2AttRefIdeal.nD Cert.DH2AttRefIdeal.τ).loc Cert.DH2AttRefIdeal.main_arg0) = m ((c.tc : Thread Cert.DH2AttIdeal.nD Cert.DH2AttIdeal.τ).loc Cert.DH2AttIdeal.main_arg0)
      ∧ m' ((c.tc : Thread Cert.DH2AttRefIdeal.nD Cert.DH2AttRefIdeal.τ).loc Cert.DH2AttRefIdeal.main_arg1) = m ((c.tc : Thread Cert.DH2AttIdeal.nD Cert.DH2AttIdeal.τ).loc Cert.DH2AttIdeal.main_arg1)
      ∧ m' ((c.tc : Thread Cert.DH2AttRefIdeal.nD Cert.DH2AttRefIdeal.τ).loc Cert.DH2AttRefIdeal.main_arg2) = m ((c.tc : Thread Cert.DH2AttIdeal.nD Cert.DH2AttIdeal.τ).loc Cert.DH2AttIdeal.main_arg2)
      ∧ m' ((c.tc : Thread Cert.DH2AttRefIdeal.nD Cert.DH2AttRefIdeal.τ).loc Cert.DH2AttRefIdeal.main_arg3) = m ((c.tc : Thread Cert.DH2AttIdeal.nD Cert.DH2AttIdeal.τ).loc Cert.DH2AttIdeal.main_arg3)) →
    ∃ (v0 : (c : Dev Cert.DH2AttIdeal.nD) → Buf (Elt Ideal) ((c.tc : Thread Cert.DH2AttIdeal.nD Cert.DH2AttIdeal.τ).loc Cert.DH2AttIdeal.main_v1)),
      θ_run (Cert.DH2AttIdeal.defs (F := Ideal)) (onTc (τ := Cert.DH2AttIdeal.τ) (Cert.DH2AttIdeal.main (F := Ideal))) ⟨m, fun _ => 0, g⟩ (fun r => ∀ c : Dev Cert.DH2AttIdeal.nD,
          r.2.mem ((c.tc : Thread Cert.DH2AttIdeal.nD Cert.DH2AttIdeal.τ).loc Cert.DH2AttIdeal.main_v1) = v0 c
          ∧ r.2.mem ((c.tc : Thread Cert.DH2AttIdeal.nD Cert.DH2AttIdeal.τ).loc Cert.DH2AttIdeal.main_arg0) = m ((c.tc : Thread Cert.DH2AttIdeal.nD Cert.DH2AttIdeal.τ).loc Cert.DH2AttIdeal.main_arg0)
          ∧ r.2.mem ((c.tc : Thread Cert.DH2AttIdeal.nD Cert.DH2AttIdeal.τ).loc Cert.DH2AttIdeal.main_arg1) = m ((c.tc : Thread Cert.DH2AttIdeal.nD Cert.DH2AttIdeal.τ).loc Cert.DH2AttIdeal.main_arg1)
          ∧ r.2.mem ((c.tc : Thread Cert.DH2AttIdeal.nD Cert.DH2AttIdeal.τ).loc Cert.DH2AttIdeal.main_arg2) = m ((c.tc : Thread Cert.DH2AttIdeal.nD Cert.DH2AttIdeal.τ).loc Cert.DH2AttIdeal.main_arg2)
          ∧ r.2.mem ((c.tc : Thread Cert.DH2AttIdeal.nD Cert.DH2AttIdeal.τ).loc Cert.DH2AttIdeal.main_arg3) = m ((c.tc : Thread Cert.DH2AttIdeal.nD Cert.DH2AttIdeal.τ).loc Cert.DH2AttIdeal.main_arg3))
      ∧ θ_run (Cert.DH2AttRefIdeal.defs (F := Ideal)) (onTc (τ := Cert.DH2AttRefIdeal.τ) (Cert.DH2AttRefIdeal.main (F := Ideal))) ⟨m', fun _ => 0, g'⟩ (fun r => ∀ c : Dev Cert.DH2AttRefIdeal.nD,
          r.2.mem ((c.tc : Thread Cert.DH2AttRefIdeal.nD Cert.DH2AttRefIdeal.τ).loc Cert.DH2AttRefIdeal.main_v2) = v0 c
          ∧ r.2.mem ((c.tc : Thread Cert.DH2AttRefIdeal.nD Cert.DH2AttRefIdeal.τ).loc Cert.DH2AttRefIdeal.main_arg0) = m' ((c.tc : Thread Cert.DH2AttRefIdeal.nD Cert.DH2AttRefIdeal.τ).loc Cert.DH2AttRefIdeal.main_arg0)
          ∧ r.2.mem ((c.tc : Thread Cert.DH2AttRefIdeal.nD Cert.DH2AttRefIdeal.τ).loc Cert.DH2AttRefIdeal.main_arg1) = m' ((c.tc : Thread Cert.DH2AttRefIdeal.nD Cert.DH2AttRefIdeal.τ).loc Cert.DH2AttRefIdeal.main_arg1)
          ∧ r.2.mem ((c.tc : Thread Cert.DH2AttRefIdeal.nD Cert.DH2AttRefIdeal.τ).loc Cert.DH2AttRefIdeal.main_arg2) = m' ((c.tc : Thread Cert.DH2AttRefIdeal.nD Cert.DH2AttRefIdeal.τ).loc Cert.DH2AttRefIdeal.main_arg2)
          ∧ r.2.mem ((c.tc : Thread Cert.DH2AttRefIdeal.nD Cert.DH2AttRefIdeal.τ).loc Cert.DH2AttRefIdeal.main_arg3) = m' ((c.tc : Thread Cert.DH2AttRefIdeal.nD Cert.DH2AttRefIdeal.τ).loc Cert.DH2AttRefIdeal.main_arg3))

def preserves_DhUp_DhUpIdeal : Prop :=
  True

def algebraic_DhUpIdeal_DhUpRefIdeal [hDhUpIdeal : Cert.DhUpIdeal.Facts] [hDhUpRefIdeal : Cert.DhUpRefIdeal.Facts] : Prop :=
  ∀ (m : (ℓ : Loc Cert.DhUpIdeal.nD Cert.DhUpIdeal.τ Cert.DhUpIdeal.sig) → Buf (Elt Ideal) ℓ) (g : Dev Cert.DhUpIdeal.nD → PrngReg)
    (m' : (ℓ : Loc Cert.DhUpRefIdeal.nD Cert.DhUpRefIdeal.τ Cert.DhUpRefIdeal.sig) → Buf (Elt Ideal) ℓ) (g' : Dev Cert.DhUpRefIdeal.nD → PrngReg), Pre_DhUpIdeal m →
    (∀ c : Dev Cert.DhUpIdeal.nD,
      m' ((c.tc : Thread Cert.DhUpRefIdeal.nD Cert.DhUpRefIdeal.τ).loc Cert.DhUpRefIdeal.main_arg0) = m ((c.tc : Thread Cert.DhUpIdeal.nD Cert.DhUpIdeal.τ).loc Cert.DhUpIdeal.main_arg0)
      ∧ m' ((c.tc : Thread Cert.DhUpRefIdeal.nD Cert.DhUpRefIdeal.τ).loc Cert.DhUpRefIdeal.main_arg1) = m ((c.tc : Thread Cert.DhUpIdeal.nD Cert.DhUpIdeal.τ).loc Cert.DhUpIdeal.main_arg1)
      ∧ m' ((c.tc : Thread Cert.DhUpRefIdeal.nD Cert.DhUpRefIdeal.τ).loc Cert.DhUpRefIdeal.main_arg2) = m ((c.tc : Thread Cert.DhUpIdeal.nD Cert.DhUpIdeal.τ).loc Cert.DhUpIdeal.main_arg2)
      ∧ m' ((c.tc : Thread Cert.DhUpRefIdeal.nD Cert.DhUpRefIdeal.τ).loc Cert.DhUpRefIdeal.main_arg3) = m ((c.tc : Thread Cert.DhUpIdeal.nD Cert.DhUpIdeal.τ).loc Cert.DhUpIdeal.main_arg3)
      ∧ m' ((c.tc : Thread Cert.DhUpRefIdeal.nD Cert.DhUpRefIdeal.τ).loc Cert.DhUpRefIdeal.main_arg4) = m ((c.tc : Thread Cert.DhUpIdeal.nD Cert.DhUpIdeal.τ).loc Cert.DhUpIdeal.main_arg4)
      ∧ m' ((c.tc : Thread Cert.DhUpRefIdeal.nD Cert.DhUpRefIdeal.τ).loc Cert.DhUpRefIdeal.main_arg5) = m ((c.tc : Thread Cert.DhUpIdeal.nD Cert.DhUpIdeal.τ).loc Cert.DhUpIdeal.main_arg5)) →
    ∃ (v0 : (c : Dev Cert.DhUpIdeal.nD) → Buf (Elt Ideal) ((c.tc : Thread Cert.DhUpIdeal.nD Cert.DhUpIdeal.τ).loc Cert.DhUpIdeal.main_v4_0)) (v1 : (c : Dev Cert.DhUpIdeal.nD) → Buf (Elt Ideal) ((c.tc : Thread Cert.DhUpIdeal.nD Cert.DhUpIdeal.τ).loc Cert.DhUpIdeal.main_v4_1)),
      θ_run (Cert.DhUpIdeal.defs (F := Ideal)) (onTc (τ := Cert.DhUpIdeal.τ) (Cert.DhUpIdeal.main (F := Ideal))) ⟨m, fun _ => 0, g⟩ (fun r => ∀ c : Dev Cert.DhUpIdeal.nD,
          r.2.mem ((c.tc : Thread Cert.DhUpIdeal.nD Cert.DhUpIdeal.τ).loc Cert.DhUpIdeal.main_v4_0) = v0 c
          ∧ r.2.mem ((c.tc : Thread Cert.DhUpIdeal.nD Cert.DhUpIdeal.τ).loc Cert.DhUpIdeal.main_v4_1) = v1 c
          ∧ r.2.mem ((c.tc : Thread Cert.DhUpIdeal.nD Cert.DhUpIdeal.τ).loc Cert.DhUpIdeal.main_arg0) = m ((c.tc : Thread Cert.DhUpIdeal.nD Cert.DhUpIdeal.τ).loc Cert.DhUpIdeal.main_arg0)
          ∧ r.2.mem ((c.tc : Thread Cert.DhUpIdeal.nD Cert.DhUpIdeal.τ).loc Cert.DhUpIdeal.main_arg1) = m ((c.tc : Thread Cert.DhUpIdeal.nD Cert.DhUpIdeal.τ).loc Cert.DhUpIdeal.main_arg1)
          ∧ r.2.mem ((c.tc : Thread Cert.DhUpIdeal.nD Cert.DhUpIdeal.τ).loc Cert.DhUpIdeal.main_arg2) = m ((c.tc : Thread Cert.DhUpIdeal.nD Cert.DhUpIdeal.τ).loc Cert.DhUpIdeal.main_arg2)
          ∧ r.2.mem ((c.tc : Thread Cert.DhUpIdeal.nD Cert.DhUpIdeal.τ).loc Cert.DhUpIdeal.main_arg3) = m ((c.tc : Thread Cert.DhUpIdeal.nD Cert.DhUpIdeal.τ).loc Cert.DhUpIdeal.main_arg3)
          ∧ r.2.mem ((c.tc : Thread Cert.DhUpIdeal.nD Cert.DhUpIdeal.τ).loc Cert.DhUpIdeal.main_arg4) = m ((c.tc : Thread Cert.DhUpIdeal.nD Cert.DhUpIdeal.τ).loc Cert.DhUpIdeal.main_arg4)
          ∧ r.2.mem ((c.tc : Thread Cert.DhUpIdeal.nD Cert.DhUpIdeal.τ).loc Cert.DhUpIdeal.main_arg5) = m ((c.tc : Thread Cert.DhUpIdeal.nD Cert.DhUpIdeal.τ).loc Cert.DhUpIdeal.main_arg5))
      ∧ θ_run (Cert.DhUpRefIdeal.defs (F := Ideal)) (onTc (τ := Cert.DhUpRefIdeal.τ) (Cert.DhUpRefIdeal.main (F := Ideal))) ⟨m', fun _ => 0, g'⟩ (fun r => ∀ c : Dev Cert.DhUpRefIdeal.nD,
          r.2.mem ((c.tc : Thread Cert.DhUpRefIdeal.nD Cert.DhUpRefIdeal.τ).loc Cert.DhUpRefIdeal.main_v39) = v0 c
          ∧ r.2.mem ((c.tc : Thread Cert.DhUpRefIdeal.nD Cert.DhUpRefIdeal.τ).loc Cert.DhUpRefIdeal.main_v40) = v1 c
          ∧ r.2.mem ((c.tc : Thread Cert.DhUpRefIdeal.nD Cert.DhUpRefIdeal.τ).loc Cert.DhUpRefIdeal.main_arg0) = m' ((c.tc : Thread Cert.DhUpRefIdeal.nD Cert.DhUpRefIdeal.τ).loc Cert.DhUpRefIdeal.main_arg0)
          ∧ r.2.mem ((c.tc : Thread Cert.DhUpRefIdeal.nD Cert.DhUpRefIdeal.τ).loc Cert.DhUpRefIdeal.main_arg1) = m' ((c.tc : Thread Cert.DhUpRefIdeal.nD Cert.DhUpRefIdeal.τ).loc Cert.DhUpRefIdeal.main_arg1)
          ∧ r.2.mem ((c.tc : Thread Cert.DhUpRefIdeal.nD Cert.DhUpRefIdeal.τ).loc Cert.DhUpRefIdeal.main_arg2) = m' ((c.tc : Thread Cert.DhUpRefIdeal.nD Cert.DhUpRefIdeal.τ).loc Cert.DhUpRefIdeal.main_arg2)
          ∧ r.2.mem ((c.tc : Thread Cert.DhUpRefIdeal.nD Cert.DhUpRefIdeal.τ).loc Cert.DhUpRefIdeal.main_arg3) = m' ((c.tc : Thread Cert.DhUpRefIdeal.nD Cert.DhUpRefIdeal.τ).loc Cert.DhUpRefIdeal.main_arg3)
          ∧ r.2.mem ((c.tc : Thread Cert.DhUpRefIdeal.nD Cert.DhUpRefIdeal.τ).loc Cert.DhUpRefIdeal.main_arg4) = m' ((c.tc : Thread Cert.DhUpRefIdeal.nD Cert.DhUpRefIdeal.τ).loc Cert.DhUpRefIdeal.main_arg4)
          ∧ r.2.mem ((c.tc : Thread Cert.DhUpRefIdeal.nD Cert.DhUpRefIdeal.τ).loc Cert.DhUpRefIdeal.main_arg5) = m' ((c.tc : Thread Cert.DhUpRefIdeal.nD Cert.DhUpRefIdeal.τ).loc Cert.DhUpRefIdeal.main_arg5))

def preserves_DH2Gate_DH2GateIdeal : Prop :=
  True

def algebraic_DH2GateIdeal_DH2GateRefIdeal [hDH2GateIdeal : Cert.DH2GateIdeal.Facts] [hDH2GateRefIdeal : Cert.DH2GateRefIdeal.Facts] : Prop :=
  ∀ (m : (ℓ : Loc Cert.DH2GateIdeal.nD Cert.DH2GateIdeal.τ Cert.DH2GateIdeal.sig) → Buf (Elt Ideal) ℓ) (g : Dev Cert.DH2GateIdeal.nD → PrngReg)
    (m' : (ℓ : Loc Cert.DH2GateRefIdeal.nD Cert.DH2GateRefIdeal.τ Cert.DH2GateRefIdeal.sig) → Buf (Elt Ideal) ℓ) (g' : Dev Cert.DH2GateRefIdeal.nD → PrngReg), Pre_DH2GateIdeal m →
    (∀ c : Dev Cert.DH2GateIdeal.nD,
      m' ((c.tc : Thread Cert.DH2GateRefIdeal.nD Cert.DH2GateRefIdeal.τ).loc Cert.DH2GateRefIdeal.main_arg0) = m ((c.tc : Thread Cert.DH2GateIdeal.nD Cert.DH2GateIdeal.τ).loc Cert.DH2GateIdeal.main_arg0)
      ∧ m' ((c.tc : Thread Cert.DH2GateRefIdeal.nD Cert.DH2GateRefIdeal.τ).loc Cert.DH2GateRefIdeal.main_arg1) = m ((c.tc : Thread Cert.DH2GateIdeal.nD Cert.DH2GateIdeal.τ).loc Cert.DH2GateIdeal.main_arg1)
      ∧ m' ((c.tc : Thread Cert.DH2GateRefIdeal.nD Cert.DH2GateRefIdeal.τ).loc Cert.DH2GateRefIdeal.main_arg2) = m ((c.tc : Thread Cert.DH2GateIdeal.nD Cert.DH2GateIdeal.τ).loc Cert.DH2GateIdeal.main_arg2)
      ∧ m' ((c.tc : Thread Cert.DH2GateRefIdeal.nD Cert.DH2GateRefIdeal.τ).loc Cert.DH2GateRefIdeal.main_arg3) = m ((c.tc : Thread Cert.DH2GateIdeal.nD Cert.DH2GateIdeal.τ).loc Cert.DH2GateIdeal.main_arg3)
      ∧ m' ((c.tc : Thread Cert.DH2GateRefIdeal.nD Cert.DH2GateRefIdeal.τ).loc Cert.DH2GateRefIdeal.main_arg4) = m ((c.tc : Thread Cert.DH2GateIdeal.nD Cert.DH2GateIdeal.τ).loc Cert.DH2GateIdeal.main_arg4)
      ∧ m' ((c.tc : Thread Cert.DH2GateRefIdeal.nD Cert.DH2GateRefIdeal.τ).loc Cert.DH2GateRefIdeal.main_arg5) = m ((c.tc : Thread Cert.DH2GateIdeal.nD Cert.DH2GateIdeal.τ).loc Cert.DH2GateIdeal.main_arg5)) →
    ∃ (v0 : (c : Dev Cert.DH2GateIdeal.nD) → Buf (Elt Ideal) ((c.tc : Thread Cert.DH2GateIdeal.nD Cert.DH2GateIdeal.τ).loc Cert.DH2GateIdeal.main_v2_0)) (v1 : (c : Dev Cert.DH2GateIdeal.nD) → Buf (Elt Ideal) ((c.tc : Thread Cert.DH2GateIdeal.nD Cert.DH2GateIdeal.τ).loc Cert.DH2GateIdeal.main_v2_1)),
      θ_run (Cert.DH2GateIdeal.defs (F := Ideal)) (onTc (τ := Cert.DH2GateIdeal.τ) (Cert.DH2GateIdeal.main (F := Ideal))) ⟨m, fun _ => 0, g⟩ (fun r => ∀ c : Dev Cert.DH2GateIdeal.nD,
          r.2.mem ((c.tc : Thread Cert.DH2GateIdeal.nD Cert.DH2GateIdeal.τ).loc Cert.DH2GateIdeal.main_v2_0) = v0 c
          ∧ r.2.mem ((c.tc : Thread Cert.DH2GateIdeal.nD Cert.DH2GateIdeal.τ).loc Cert.DH2GateIdeal.main_v2_1) = v1 c
          ∧ r.2.mem ((c.tc : Thread Cert.DH2GateIdeal.nD Cert.DH2GateIdeal.τ).loc Cert.DH2GateIdeal.main_arg0) = m ((c.tc : Thread Cert.DH2GateIdeal.nD Cert.DH2GateIdeal.τ).loc Cert.DH2GateIdeal.main_arg0)
          ∧ r.2.mem ((c.tc : Thread Cert.DH2GateIdeal.nD Cert.DH2GateIdeal.τ).loc Cert.DH2GateIdeal.main_arg1) = m ((c.tc : Thread Cert.DH2GateIdeal.nD Cert.DH2GateIdeal.τ).loc Cert.DH2GateIdeal.main_arg1)
          ∧ r.2.mem ((c.tc : Thread Cert.DH2GateIdeal.nD Cert.DH2GateIdeal.τ).loc Cert.DH2GateIdeal.main_arg2) = m ((c.tc : Thread Cert.DH2GateIdeal.nD Cert.DH2GateIdeal.τ).loc Cert.DH2GateIdeal.main_arg2)
          ∧ r.2.mem ((c.tc : Thread Cert.DH2GateIdeal.nD Cert.DH2GateIdeal.τ).loc Cert.DH2GateIdeal.main_arg3) = m ((c.tc : Thread Cert.DH2GateIdeal.nD Cert.DH2GateIdeal.τ).loc Cert.DH2GateIdeal.main_arg3)
          ∧ r.2.mem ((c.tc : Thread Cert.DH2GateIdeal.nD Cert.DH2GateIdeal.τ).loc Cert.DH2GateIdeal.main_arg4) = m ((c.tc : Thread Cert.DH2GateIdeal.nD Cert.DH2GateIdeal.τ).loc Cert.DH2GateIdeal.main_arg4)
          ∧ r.2.mem ((c.tc : Thread Cert.DH2GateIdeal.nD Cert.DH2GateIdeal.τ).loc Cert.DH2GateIdeal.main_arg5) = m ((c.tc : Thread Cert.DH2GateIdeal.nD Cert.DH2GateIdeal.τ).loc Cert.DH2GateIdeal.main_arg5))
      ∧ θ_run (Cert.DH2GateRefIdeal.defs (F := Ideal)) (onTc (τ := Cert.DH2GateRefIdeal.τ) (Cert.DH2GateRefIdeal.main (F := Ideal))) ⟨m', fun _ => 0, g'⟩ (fun r => ∀ c : Dev Cert.DH2GateRefIdeal.nD,
          r.2.mem ((c.tc : Thread Cert.DH2GateRefIdeal.nD Cert.DH2GateRefIdeal.τ).loc Cert.DH2GateRefIdeal.main_v39) = v0 c
          ∧ r.2.mem ((c.tc : Thread Cert.DH2GateRefIdeal.nD Cert.DH2GateRefIdeal.τ).loc Cert.DH2GateRefIdeal.main_v40) = v1 c
          ∧ r.2.mem ((c.tc : Thread Cert.DH2GateRefIdeal.nD Cert.DH2GateRefIdeal.τ).loc Cert.DH2GateRefIdeal.main_arg0) = m' ((c.tc : Thread Cert.DH2GateRefIdeal.nD Cert.DH2GateRefIdeal.τ).loc Cert.DH2GateRefIdeal.main_arg0)
          ∧ r.2.mem ((c.tc : Thread Cert.DH2GateRefIdeal.nD Cert.DH2GateRefIdeal.τ).loc Cert.DH2GateRefIdeal.main_arg1) = m' ((c.tc : Thread Cert.DH2GateRefIdeal.nD Cert.DH2GateRefIdeal.τ).loc Cert.DH2GateRefIdeal.main_arg1)
          ∧ r.2.mem ((c.tc : Thread Cert.DH2GateRefIdeal.nD Cert.DH2GateRefIdeal.τ).loc Cert.DH2GateRefIdeal.main_arg2) = m' ((c.tc : Thread Cert.DH2GateRefIdeal.nD Cert.DH2GateRefIdeal.τ).loc Cert.DH2GateRefIdeal.main_arg2)
          ∧ r.2.mem ((c.tc : Thread Cert.DH2GateRefIdeal.nD Cert.DH2GateRefIdeal.τ).loc Cert.DH2GateRefIdeal.main_arg3) = m' ((c.tc : Thread Cert.DH2GateRefIdeal.nD Cert.DH2GateRefIdeal.τ).loc Cert.DH2GateRefIdeal.main_arg3)
          ∧ r.2.mem ((c.tc : Thread Cert.DH2GateRefIdeal.nD Cert.DH2GateRefIdeal.τ).loc Cert.DH2GateRefIdeal.main_arg4) = m' ((c.tc : Thread Cert.DH2GateRefIdeal.nD Cert.DH2GateRefIdeal.τ).loc Cert.DH2GateRefIdeal.main_arg4)
          ∧ r.2.mem ((c.tc : Thread Cert.DH2GateRefIdeal.nD Cert.DH2GateRefIdeal.τ).loc Cert.DH2GateRefIdeal.main_arg5) = m' ((c.tc : Thread Cert.DH2GateRefIdeal.nD Cert.DH2GateRefIdeal.τ).loc Cert.DH2GateRefIdeal.main_arg5))

def preserves_AttBwd_AttBwdIdeal : Prop :=
  IdealRules.named_const.Statement Cert.AttBwdIdeal.κ "mask" .f32 0xF149F2CA#32 ⊥

def algebraic_AttBwdIdeal_AttBwdRefIdeal_pre_finite_sequence [hAttBwdIdeal : Cert.AttBwdIdeal.Facts] [hAttBwdRefIdeal : Cert.AttBwdRefIdeal.Facts] [hPre_finite_sequence : Cert.Pre_finite_sequence.Facts] : Prop :=
  ∀ (m : (ℓ : Loc Cert.AttBwdIdeal.nD Cert.AttBwdIdeal.τ Cert.AttBwdIdeal.sig) → Buf (Elt Ideal) ℓ) (g : Dev Cert.AttBwdIdeal.nD → PrngReg)
    (m' : (ℓ : Loc Cert.AttBwdRefIdeal.nD Cert.AttBwdRefIdeal.τ Cert.AttBwdRefIdeal.sig) → Buf (Elt Ideal) ℓ) (g' : Dev Cert.AttBwdRefIdeal.nD → PrngReg), Pre_AttBwdIdeal_finite_sequence m →
    (∀ c : Dev Cert.AttBwdIdeal.nD,
      m' ((c.tc : Thread Cert.AttBwdRefIdeal.nD Cert.AttBwdRefIdeal.τ).loc Cert.AttBwdRefIdeal.main_arg0) = m ((c.tc : Thread Cert.AttBwdIdeal.nD Cert.AttBwdIdeal.τ).loc Cert.AttBwdIdeal.main_arg0)
      ∧ m' ((c.tc : Thread Cert.AttBwdRefIdeal.nD Cert.AttBwdRefIdeal.τ).loc Cert.AttBwdRefIdeal.main_arg1) = m ((c.tc : Thread Cert.AttBwdIdeal.nD Cert.AttBwdIdeal.τ).loc Cert.AttBwdIdeal.main_arg1)
      ∧ m' ((c.tc : Thread Cert.AttBwdRefIdeal.nD Cert.AttBwdRefIdeal.τ).loc Cert.AttBwdRefIdeal.main_arg2) = m ((c.tc : Thread Cert.AttBwdIdeal.nD Cert.AttBwdIdeal.τ).loc Cert.AttBwdIdeal.main_arg2)
      ∧ m' ((c.tc : Thread Cert.AttBwdRefIdeal.nD Cert.AttBwdRefIdeal.τ).loc Cert.AttBwdRefIdeal.main_arg3) = m ((c.tc : Thread Cert.AttBwdIdeal.nD Cert.AttBwdIdeal.τ).loc Cert.AttBwdIdeal.main_arg3)
      ∧ m' ((c.tc : Thread Cert.AttBwdRefIdeal.nD Cert.AttBwdRefIdeal.τ).loc Cert.AttBwdRefIdeal.main_arg4) = m ((c.tc : Thread Cert.AttBwdIdeal.nD Cert.AttBwdIdeal.τ).loc Cert.AttBwdIdeal.main_arg4)) →
    ∃ (v0 : (c : Dev Cert.AttBwdIdeal.nD) → Buf (Elt Ideal) ((c.tc : Thread Cert.AttBwdIdeal.nD Cert.AttBwdIdeal.τ).loc Cert.AttBwdIdeal.main_v10_1)) (v1 : (c : Dev Cert.AttBwdIdeal.nD) → Buf (Elt Ideal) ((c.tc : Thread Cert.AttBwdIdeal.nD Cert.AttBwdIdeal.τ).loc Cert.AttBwdIdeal.main_v10_2)) (v2 : (c : Dev Cert.AttBwdIdeal.nD) → Buf (Elt Ideal) ((c.tc : Thread Cert.AttBwdIdeal.nD Cert.AttBwdIdeal.τ).loc Cert.AttBwdIdeal.main_v10_3)) (v3 : (c : Dev Cert.AttBwdIdeal.nD) → Buf (Elt Ideal) ((c.tc : Thread Cert.AttBwdIdeal.nD Cert.AttBwdIdeal.τ).loc Cert.AttBwdIdeal.main_v10_4)),
      θ_run (Cert.AttBwdIdeal.defs (F := Ideal)) (onTc (τ := Cert.AttBwdIdeal.τ) (Cert.AttBwdIdeal.main (F := Ideal))) ⟨m, fun _ => 0, g⟩ (fun r => ∀ c : Dev Cert.AttBwdIdeal.nD,
          r.2.mem ((c.tc : Thread Cert.AttBwdIdeal.nD Cert.AttBwdIdeal.τ).loc Cert.AttBwdIdeal.main_v10_1) = v0 c
          ∧ r.2.mem ((c.tc : Thread Cert.AttBwdIdeal.nD Cert.AttBwdIdeal.τ).loc Cert.AttBwdIdeal.main_v10_2) = v1 c
          ∧ r.2.mem ((c.tc : Thread Cert.AttBwdIdeal.nD Cert.AttBwdIdeal.τ).loc Cert.AttBwdIdeal.main_v10_3) = v2 c
          ∧ r.2.mem ((c.tc : Thread Cert.AttBwdIdeal.nD Cert.AttBwdIdeal.τ).loc Cert.AttBwdIdeal.main_v10_4) = v3 c
          ∧ r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
          ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
          ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
          ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3)
          ∧ r.2.mem ((c.tc : Thread Cert.AttBwdIdeal.nD Cert.AttBwdIdeal.τ).loc Cert.AttBwdIdeal.main_arg4) = m ((c.tc : Thread Cert.AttBwdIdeal.nD Cert.AttBwdIdeal.τ).loc Cert.AttBwdIdeal.main_arg4))
      ∧ θ_run (Cert.AttBwdRefIdeal.defs (F := Ideal)) (onTc (τ := Cert.AttBwdRefIdeal.τ) (Cert.AttBwdRefIdeal.main (F := Ideal))) ⟨m', fun _ => 0, g'⟩ (fun r => ∀ c : Dev Cert.AttBwdRefIdeal.nD,
          r.2.mem ((c.tc : Thread Cert.AttBwdRefIdeal.nD Cert.AttBwdRefIdeal.τ).loc Cert.AttBwdRefIdeal.main_v157) = v0 c
          ∧ r.2.mem ((c.tc : Thread Cert.AttBwdRefIdeal.nD Cert.AttBwdRefIdeal.τ).loc Cert.AttBwdRefIdeal.main_v158) = v1 c
          ∧ r.2.mem ((c.tc : Thread Cert.AttBwdRefIdeal.nD Cert.AttBwdRefIdeal.τ).loc Cert.AttBwdRefIdeal.main_v161) = v2 c
          ∧ r.2.mem ((c.tc : Thread Cert.AttBwdRefIdeal.nD Cert.AttBwdRefIdeal.τ).loc Cert.AttBwdRefIdeal.main_v162) = v3 c
          ∧ r.2.mem ((c.tc : Thread Cert.AttBwdRefIdeal.nD Cert.AttBwdRefIdeal.τ).loc Cert.AttBwdRefIdeal.main_arg0) = m' ((c.tc : Thread Cert.AttBwdRefIdeal.nD Cert.AttBwdRefIdeal.τ).loc Cert.AttBwdRefIdeal.main_arg0)
          ∧ r.2.mem ((c.tc : Thread Cert.AttBwdRefIdeal.nD Cert.AttBwdRefIdeal.τ).loc Cert.AttBwdRefIdeal.main_arg1) = m' ((c.tc : Thread Cert.AttBwdRefIdeal.nD Cert.AttBwdRefIdeal.τ).loc Cert.AttBwdRefIdeal.main_arg1)
          ∧ r.2.mem ((c.tc : Thread Cert.AttBwdRefIdeal.nD Cert.AttBwdRefIdeal.τ).loc Cert.AttBwdRefIdeal.main_arg2) = m' ((c.tc : Thread Cert.AttBwdRefIdeal.nD Cert.AttBwdRefIdeal.τ).loc Cert.AttBwdRefIdeal.main_arg2)
          ∧ r.2.mem ((c.tc : Thread Cert.AttBwdRefIdeal.nD Cert.AttBwdRefIdeal.τ).loc Cert.AttBwdRefIdeal.main_arg3) = m' ((c.tc : Thread Cert.AttBwdRefIdeal.nD Cert.AttBwdRefIdeal.τ).loc Cert.AttBwdRefIdeal.main_arg3)
          ∧ r.2.mem ((c.tc : Thread Cert.AttBwdRefIdeal.nD Cert.AttBwdRefIdeal.τ).loc Cert.AttBwdRefIdeal.main_arg4) = m' ((c.tc : Thread Cert.AttBwdRefIdeal.nD Cert.AttBwdRefIdeal.τ).loc Cert.AttBwdRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def Claim : Prop :=
  ∃ (hMerge : Cert.Merge.Facts) (hMergeIdeal : Cert.MergeIdeal.Facts) (hMergeRefIdeal : Cert.MergeRefIdeal.Facts) (hGateUp : Cert.GateUp.Facts) (hGateUpIdeal : Cert.GateUpIdeal.Facts) (hGateUpRefIdeal : Cert.GateUpRefIdeal.Facts) (hDact : Cert.Dact.Facts) (hDactIdeal : Cert.DactIdeal.Facts) (hDactRefIdeal : Cert.DactRefIdeal.Facts) (hDown : Cert.Down.Facts) (hDownIdeal : Cert.DownIdeal.Facts) (hDownRefIdeal : Cert.DownRefIdeal.Facts) (hDwd : Cert.Dwd.Facts) (hDwdIdeal : Cert.DwdIdeal.Facts) (hDwdRefIdeal : Cert.DwdRefIdeal.Facts) (hDw : Cert.Dw.Facts) (hDwIdeal : Cert.DwIdeal.Facts) (hDwRefIdeal : Cert.DwRefIdeal.Facts) (hDh : Cert.Dh.Facts) (hDhIdeal : Cert.DhIdeal.Facts) (hDhRefIdeal : Cert.DhRefIdeal.Facts) (hProjAtt : Cert.ProjAtt.Facts) (hProjAttIdeal : Cert.ProjAttIdeal.Facts) (hProjAttRefIdeal : Cert.ProjAttRefIdeal.Facts) (hProjGate : Cert.ProjGate.Facts) (hProjGateIdeal : Cert.ProjGateIdeal.Facts) (hProjGateRefIdeal : Cert.ProjGateRefIdeal.Facts) (hProjRwkv : Cert.ProjRwkv.Facts) (hProjRwkvIdeal : Cert.ProjRwkvIdeal.Facts) (hProjRwkvRefIdeal : Cert.ProjRwkvRefIdeal.Facts) (hBranchRwkv : Cert.BranchRwkv.Facts) (hBranchRwkvIdeal : Cert.BranchRwkvIdeal.Facts) (hBranchRwkvRefIdeal : Cert.BranchRwkvRefIdeal.Facts) (hBranchAtt : Cert.BranchAtt.Facts) (hBranchAttIdeal : Cert.BranchAttIdeal.Facts) (hBranchAttRefIdeal : Cert.BranchAttRefIdeal.Facts) (hMixOut : Cert.MixOut.Facts) (hMixOutIdeal : Cert.MixOutIdeal.Facts) (hMixOutRefIdeal : Cert.MixOutRefIdeal.Facts) (hDMerge : Cert.DMerge.Facts) (hDMergeIdeal : Cert.DMergeIdeal.Facts) (hDMergeRefIdeal : Cert.DMergeRefIdeal.Facts) (hDWOut : Cert.DWOut.Facts) (hDWOutIdeal : Cert.DWOutIdeal.Facts) (hDWOutRefIdeal : Cert.DWOutRefIdeal.Facts) (hDY : Cert.DY.Facts) (hDYIdeal : Cert.DYIdeal.Facts) (hDYRefIdeal : Cert.DYRefIdeal.Facts) (hDWBranchRwkv : Cert.DWBranchRwkv.Facts) (hDWBranchRwkvIdeal : Cert.DWBranchRwkvIdeal.Facts) (hDWBranchRwkvRefIdeal : Cert.DWBranchRwkvRefIdeal.Facts) (hDWBranchAtt : Cert.DWBranchAtt.Facts) (hDWBranchAttIdeal : Cert.DWBranchAttIdeal.Facts) (hDWBranchAttRefIdeal : Cert.DWBranchAttRefIdeal.Facts) (hDWInAtt : Cert.DWInAtt.Facts) (hDWInAttIdeal : Cert.DWInAttIdeal.Facts) (hDWInAttRefIdeal : Cert.DWInAttRefIdeal.Facts) (hDWInGate : Cert.DWInGate.Facts) (hDWInGateIdeal : Cert.DWInGateIdeal.Facts) (hDWInGateRefIdeal : Cert.DWInGateRefIdeal.Facts) (hDWInRwkv : Cert.DWInRwkv.Facts) (hDWInRwkvIdeal : Cert.DWInRwkvIdeal.Facts) (hDWInRwkvRefIdeal : Cert.DWInRwkvRefIdeal.Facts) (hDH2Att : Cert.DH2Att.Facts) (hDH2AttIdeal : Cert.DH2AttIdeal.Facts) (hDH2AttRefIdeal : Cert.DH2AttRefIdeal.Facts) (hDhUp : Cert.DhUp.Facts) (hDhUpIdeal : Cert.DhUpIdeal.Facts) (hDhUpRefIdeal : Cert.DhUpRefIdeal.Facts) (hDH2Gate : Cert.DH2Gate.Facts) (hDH2GateIdeal : Cert.DH2GateIdeal.Facts) (hDH2GateRefIdeal : Cert.DH2GateRefIdeal.Facts) (hAttBwd : Cert.AttBwd.Facts) (hAttBwdIdeal : Cert.AttBwdIdeal.Facts) (hAttBwdRefIdeal : Cert.AttBwdRefIdeal.Facts) (hRmsFwd : Cert.RmsFwd.Facts) (hRmsFwdIdeal : Cert.RmsFwdIdeal.Facts) (hRmsFwdRefIdeal : Cert.RmsFwdRefIdeal.Facts) (hMergeFwd : Cert.MergeFwd.Facts) (hMergeFwdIdeal : Cert.MergeFwdIdeal.Facts) (hMergeFwdRefIdeal : Cert.MergeFwdRefIdeal.Facts) (hPre_finite_factors : Cert.Pre_finite_factors.Facts) (hPre_finite_sequence : Cert.Pre_finite_sequence.Facts),
    quiescent_Merge (hMerge := hMerge)
    ∧ quiescent_MergeIdeal (hMergeIdeal := hMergeIdeal)
    ∧ quiescent_MergeRefIdeal (hMergeRefIdeal := hMergeRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Dact (hDact := hDact)
    ∧ quiescent_DactIdeal (hDactIdeal := hDactIdeal)
    ∧ quiescent_DactIdeal_pre_finite_factors (hDactIdeal := hDactIdeal) (hPre_finite_factors := hPre_finite_factors)
    ∧ quiescent_DactRefIdeal (hDactRefIdeal := hDactRefIdeal)
    ∧ quiescent_DactRefIdeal_pre_finite_factors (hDactRefIdeal := hDactRefIdeal) (hPre_finite_factors := hPre_finite_factors)
    ∧ quiescent_Down (hDown := hDown)
    ∧ quiescent_DownIdeal (hDownIdeal := hDownIdeal)
    ∧ quiescent_DownRefIdeal (hDownRefIdeal := hDownRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dw (hDw := hDw)
    ∧ quiescent_DwIdeal (hDwIdeal := hDwIdeal)
    ∧ quiescent_DwRefIdeal (hDwRefIdeal := hDwRefIdeal)
    ∧ quiescent_Dh (hDh := hDh)
    ∧ quiescent_DhIdeal (hDhIdeal := hDhIdeal)
    ∧ quiescent_DhRefIdeal (hDhRefIdeal := hDhRefIdeal)
    ∧ quiescent_ProjAtt (hProjAtt := hProjAtt)
    ∧ quiescent_ProjAttIdeal (hProjAttIdeal := hProjAttIdeal)
    ∧ quiescent_ProjAttRefIdeal (hProjAttRefIdeal := hProjAttRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_ProjRwkv (hProjRwkv := hProjRwkv)
    ∧ quiescent_ProjRwkvIdeal (hProjRwkvIdeal := hProjRwkvIdeal)
    ∧ quiescent_ProjRwkvRefIdeal (hProjRwkvRefIdeal := hProjRwkvRefIdeal)
    ∧ quiescent_BranchRwkv (hBranchRwkv := hBranchRwkv)
    ∧ quiescent_BranchRwkvIdeal (hBranchRwkvIdeal := hBranchRwkvIdeal)
    ∧ quiescent_BranchRwkvRefIdeal (hBranchRwkvRefIdeal := hBranchRwkvRefIdeal)
    ∧ quiescent_BranchAtt (hBranchAtt := hBranchAtt)
    ∧ quiescent_BranchAttIdeal (hBranchAttIdeal := hBranchAttIdeal)
    ∧ quiescent_BranchAttRefIdeal (hBranchAttRefIdeal := hBranchAttRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DMerge (hDMerge := hDMerge)
    ∧ quiescent_DMergeIdeal (hDMergeIdeal := hDMergeIdeal)
    ∧ quiescent_DMergeRefIdeal (hDMergeRefIdeal := hDMergeRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DY (hDY := hDY)
    ∧ quiescent_DYIdeal (hDYIdeal := hDYIdeal)
    ∧ quiescent_DYRefIdeal (hDYRefIdeal := hDYRefIdeal)
    ∧ quiescent_DWBranchRwkv (hDWBranchRwkv := hDWBranchRwkv)
    ∧ quiescent_DWBranchRwkvIdeal (hDWBranchRwkvIdeal := hDWBranchRwkvIdeal)
    ∧ quiescent_DWBranchRwkvRefIdeal (hDWBranchRwkvRefIdeal := hDWBranchRwkvRefIdeal)
    ∧ quiescent_DWBranchAtt (hDWBranchAtt := hDWBranchAtt)
    ∧ quiescent_DWBranchAttIdeal (hDWBranchAttIdeal := hDWBranchAttIdeal)
    ∧ quiescent_DWBranchAttRefIdeal (hDWBranchAttRefIdeal := hDWBranchAttRefIdeal)
    ∧ quiescent_DWInAtt (hDWInAtt := hDWInAtt)
    ∧ quiescent_DWInAttIdeal (hDWInAttIdeal := hDWInAttIdeal)
    ∧ quiescent_DWInAttRefIdeal (hDWInAttRefIdeal := hDWInAttRefIdeal)
    ∧ quiescent_DWInGate (hDWInGate := hDWInGate)
    ∧ quiescent_DWInGateIdeal (hDWInGateIdeal := hDWInGateIdeal)
    ∧ quiescent_DWInGateRefIdeal (hDWInGateRefIdeal := hDWInGateRefIdeal)
    ∧ quiescent_DWInRwkv (hDWInRwkv := hDWInRwkv)
    ∧ quiescent_DWInRwkvIdeal (hDWInRwkvIdeal := hDWInRwkvIdeal)
    ∧ quiescent_DWInRwkvRefIdeal (hDWInRwkvRefIdeal := hDWInRwkvRefIdeal)
    ∧ quiescent_DH2Att (hDH2Att := hDH2Att)
    ∧ quiescent_DH2AttIdeal (hDH2AttIdeal := hDH2AttIdeal)
    ∧ quiescent_DH2AttRefIdeal (hDH2AttRefIdeal := hDH2AttRefIdeal)
    ∧ quiescent_DhUp (hDhUp := hDhUp)
    ∧ quiescent_DhUpIdeal (hDhUpIdeal := hDhUpIdeal)
    ∧ quiescent_DhUpRefIdeal (hDhUpRefIdeal := hDhUpRefIdeal)
    ∧ quiescent_DH2Gate (hDH2Gate := hDH2Gate)
    ∧ quiescent_DH2GateIdeal (hDH2GateIdeal := hDH2GateIdeal)
    ∧ quiescent_DH2GateRefIdeal (hDH2GateRefIdeal := hDH2GateRefIdeal)
    ∧ quiescent_AttBwd (hAttBwd := hAttBwd)
    ∧ quiescent_AttBwdIdeal (hAttBwdIdeal := hAttBwdIdeal)
    ∧ quiescent_AttBwdIdeal_pre_finite_sequence (hAttBwdIdeal := hAttBwdIdeal) (hPre_finite_sequence := hPre_finite_sequence)
    ∧ quiescent_AttBwdRefIdeal (hAttBwdRefIdeal := hAttBwdRefIdeal)
    ∧ quiescent_AttBwdRefIdeal_pre_finite_sequence (hAttBwdRefIdeal := hAttBwdRefIdeal) (hPre_finite_sequence := hPre_finite_sequence)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ preserves_Merge_MergeIdeal
    ∧ algebraic_MergeIdeal_MergeRefIdeal (hMergeIdeal := hMergeIdeal) (hMergeRefIdeal := hMergeRefIdeal)
    ∧ preserves_GateUp_GateUpIdeal
    ∧ algebraic_GateUpIdeal_GateUpRefIdeal (hGateUpIdeal := hGateUpIdeal) (hGateUpRefIdeal := hGateUpRefIdeal)
    ∧ preserves_Dact_DactIdeal
    ∧ algebraic_DactIdeal_DactRefIdeal_pre_finite_factors (hDactIdeal := hDactIdeal) (hDactRefIdeal := hDactRefIdeal) (hPre_finite_factors := hPre_finite_factors)
    ∧ preserves_Down_DownIdeal
    ∧ algebraic_DownIdeal_DownRefIdeal (hDownIdeal := hDownIdeal) (hDownRefIdeal := hDownRefIdeal)
    ∧ preserves_Dwd_DwdIdeal
    ∧ algebraic_DwdIdeal_DwdRefIdeal (hDwdIdeal := hDwdIdeal) (hDwdRefIdeal := hDwdRefIdeal)
    ∧ preserves_Dw_DwIdeal
    ∧ algebraic_DwIdeal_DwRefIdeal (hDwIdeal := hDwIdeal) (hDwRefIdeal := hDwRefIdeal)
    ∧ preserves_Dh_DhIdeal
    ∧ algebraic_DhIdeal_DhRefIdeal (hDhIdeal := hDhIdeal) (hDhRefIdeal := hDhRefIdeal)
    ∧ preserves_ProjAtt_ProjAttIdeal
    ∧ algebraic_ProjAttIdeal_ProjAttRefIdeal (hProjAttIdeal := hProjAttIdeal) (hProjAttRefIdeal := hProjAttRefIdeal)
    ∧ preserves_ProjGate_ProjGateIdeal
    ∧ algebraic_ProjGateIdeal_ProjGateRefIdeal (hProjGateIdeal := hProjGateIdeal) (hProjGateRefIdeal := hProjGateRefIdeal)
    ∧ preserves_ProjRwkv_ProjRwkvIdeal
    ∧ algebraic_ProjRwkvIdeal_ProjRwkvRefIdeal (hProjRwkvIdeal := hProjRwkvIdeal) (hProjRwkvRefIdeal := hProjRwkvRefIdeal)
    ∧ preserves_BranchRwkv_BranchRwkvIdeal
    ∧ algebraic_BranchRwkvIdeal_BranchRwkvRefIdeal (hBranchRwkvIdeal := hBranchRwkvIdeal) (hBranchRwkvRefIdeal := hBranchRwkvRefIdeal)
    ∧ preserves_BranchAtt_BranchAttIdeal
    ∧ algebraic_BranchAttIdeal_BranchAttRefIdeal (hBranchAttIdeal := hBranchAttIdeal) (hBranchAttRefIdeal := hBranchAttRefIdeal)
    ∧ preserves_MixOut_MixOutIdeal
    ∧ algebraic_MixOutIdeal_MixOutRefIdeal (hMixOutIdeal := hMixOutIdeal) (hMixOutRefIdeal := hMixOutRefIdeal)
    ∧ preserves_DMerge_DMergeIdeal
    ∧ algebraic_DMergeIdeal_DMergeRefIdeal (hDMergeIdeal := hDMergeIdeal) (hDMergeRefIdeal := hDMergeRefIdeal)
    ∧ preserves_DWOut_DWOutIdeal
    ∧ algebraic_DWOutIdeal_DWOutRefIdeal (hDWOutIdeal := hDWOutIdeal) (hDWOutRefIdeal := hDWOutRefIdeal)
    ∧ preserves_DY_DYIdeal
    ∧ algebraic_DYIdeal_DYRefIdeal (hDYIdeal := hDYIdeal) (hDYRefIdeal := hDYRefIdeal)
    ∧ preserves_DWBranchRwkv_DWBranchRwkvIdeal
    ∧ algebraic_DWBranchRwkvIdeal_DWBranchRwkvRefIdeal (hDWBranchRwkvIdeal := hDWBranchRwkvIdeal) (hDWBranchRwkvRefIdeal := hDWBranchRwkvRefIdeal)
    ∧ preserves_DWBranchAtt_DWBranchAttIdeal
    ∧ algebraic_DWBranchAttIdeal_DWBranchAttRefIdeal (hDWBranchAttIdeal := hDWBranchAttIdeal) (hDWBranchAttRefIdeal := hDWBranchAttRefIdeal)
    ∧ preserves_DWInAtt_DWInAttIdeal
    ∧ algebraic_DWInAttIdeal_DWInAttRefIdeal (hDWInAttIdeal := hDWInAttIdeal) (hDWInAttRefIdeal := hDWInAttRefIdeal)
    ∧ preserves_DWInGate_DWInGateIdeal
    ∧ algebraic_DWInGateIdeal_DWInGateRefIdeal (hDWInGateIdeal := hDWInGateIdeal) (hDWInGateRefIdeal := hDWInGateRefIdeal)
    ∧ preserves_DWInRwkv_DWInRwkvIdeal
    ∧ algebraic_DWInRwkvIdeal_DWInRwkvRefIdeal (hDWInRwkvIdeal := hDWInRwkvIdeal) (hDWInRwkvRefIdeal := hDWInRwkvRefIdeal)
    ∧ preserves_DH2Att_DH2AttIdeal
    ∧ algebraic_DH2AttIdeal_DH2AttRefIdeal (hDH2AttIdeal := hDH2AttIdeal) (hDH2AttRefIdeal := hDH2AttRefIdeal)
    ∧ preserves_DhUp_DhUpIdeal
    ∧ algebraic_DhUpIdeal_DhUpRefIdeal (hDhUpIdeal := hDhUpIdeal) (hDhUpRefIdeal := hDhUpRefIdeal)
    ∧ preserves_DH2Gate_DH2GateIdeal
    ∧ algebraic_DH2GateIdeal_DH2GateRefIdeal (hDH2GateIdeal := hDH2GateIdeal) (hDH2GateRefIdeal := hDH2GateRefIdeal)
    ∧ preserves_AttBwd_AttBwdIdeal
    ∧ algebraic_AttBwdIdeal_AttBwdRefIdeal_pre_finite_sequence (hAttBwdIdeal := hAttBwdIdeal) (hAttBwdRefIdeal := hAttBwdRefIdeal) (hPre_finite_sequence := hPre_finite_sequence)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
-- ==== Pre_finite_factors.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .f32) (main_arg2 : FVec F S4096x2816 .f32) (main_arg3 : FVec F S2816x1024 .f32) : IVec S4096x1024 1 × IVec S4096x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg2
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  (main_v2, main_v5, main_v8)
-- ==== Pre_finite_sequence.lean ====
abbrev S4096x768 : Shape := ⟨2, ![4096, 768]⟩
abbrev S64 : Shape := ⟨1, ![64]⟩
abbrev S8 : Shape := ⟨1, ![8]⟩
abbrev S4096x512 : Shape := ⟨2, ![4096, 512]⟩
abbrev S_ : Shape := ⟨0, ![]⟩

class Facts : Prop where
  bcast_S_S4096x768 : S_.BroadcastsInDim S4096x768 (![] : Fin 0 → Fin S4096x768.rank)
  bcast_S_S64 : S_.BroadcastsInDim S64 (![] : Fin 0 → Fin S64.rank)
  bcast_S_S8 : S_.BroadcastsInDim S8 (![] : Fin 0 → Fin S8.rank)
  bcast_S_S4096x512 : S_.BroadcastsInDim S4096x512 (![] : Fin 0 → Fin S4096x512.rank)

variable [Facts]

def fn {F : FTy → Type} [FloatOps F] (main_arg0 : FVec F S4096x768 .f32) (main_arg1 : FVec F S64 .f32) (main_arg2 : FVec F S64 .f32) (main_arg3 : FVec F S8 .f32) (main_arg4 : FVec F S4096x512 .f32) : IVec S4096x768 1 × IVec S64 1 × IVec S64 1 × IVec S8 1 × IVec S4096x512 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Merge.lean ====
abbrev S4096x1024 : Shape := ⟨2, ![4096, 1024]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .bf16⟩
  | .hbm, ⟨5, _⟩ => ⟨S4096x1024, .bf16⟩
  | .hbm, ⟨6, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== GateUp.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S4096x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Dact.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Down.lean ====
abbrev S4096x1024 : Shape := ⟨2, ![4096, 1024]⟩
abbrev S4096x2816 : Shape := ⟨2, ![4096, 2816]⟩
abbrev S2816x1024 : Shape := ⟨2, ![2816, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Dwd.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Dw.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | .hbm, ⟨4, _⟩ => ⟨S4096x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S1024x2816, .f32⟩
  | .hbm, ⟨6, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dh.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | .hbm, ⟨4, _⟩ => ⟨S2816x1024, .f32⟩
  | .hbm, ⟨5, _⟩ => ⟨S2816x1024, .bf16⟩
  | .hbm, ⟨6, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjAtt.lean ====
abbrev S4096x1024 : Shape := ⟨2, ![4096, 1024]⟩
abbrev S1024x768 : Shape := ⟨2, ![1024, 768]⟩
abbrev S4096x768 : Shape := ⟨2, ![4096, 768]⟩
abbrev S512x1024 : Shape := ⟨2, ![512, 1024]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x1024, .bf16⟩
  | .hbm, ⟨3, _⟩ => ⟨S1024x768, .bf16⟩
  | .hbm, ⟨4, _⟩ => ⟨S4096x768, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x768, .f32⟩
  | .local _ .vmem, ⟨4, _⟩ => ⟨S512x768, .f32⟩
  | .local _ .vmem, ⟨5, _⟩ => ⟨S512x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttRefIdeal.lean ====
abbrev S4096x1024 : Shape := ⟨2, ![4096, 1024]⟩
abbrev S1024x768 : Shape := ⟨2, ![1024, 768]⟩
abbrev S4096x768 : Shape := ⟨2, ![4096, 768]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjGate.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjRwkv.lean ====
abbrev S4096x1024 : Shape := ⟨2, ![4096, 1024]⟩
abbrev S1024x1920 : Shape := ⟨2, ![1024, 1920]⟩
abbrev S4096x1920 : Shape := ⟨2, ![4096, 1920]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1920, .f32⟩
  | .hbm, ⟨2, _⟩ => ⟨S4096x1024, .bf16⟩
  | .hbm, ⟨3, _⟩ => ⟨S1024x1920, .bf16⟩
  | .hbm, ⟨4, _⟩ => ⟨S4096x1920, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRwkvRefIdeal.lean ====
abbrev S4096x1024 : Shape := ⟨2, ![4096, 1024]⟩
abbrev S1024x1920 : Shape := ⟨2, ![1024, 1920]⟩
abbrev S4096x1920 : Shape := ⟨2, ![4096, 1920]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1920, .f32⟩
  | .hbm, ⟨2, _⟩ => ⟨S4096x1920, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchRwkv.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRwkvRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchAtt.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S512x1024, .bf16⟩
  | .hbm, ⟨3, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAttRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DMerge.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergeRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DWOut.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWOutRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DY.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .bf16⟩
  | .hbm, ⟨5, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DWBranchRwkv.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S4096x1024, .bf16⟩
  | .hbm, ⟨5, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWBranchRwkvRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWBranchAtt.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWBranchAttRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWInAtt.lean ====
abbrev S4096x1024 : Shape := ⟨2, ![4096, 1024]⟩
abbrev S1024x768 : Shape := ⟨2, ![1024, 768]⟩
abbrev S4096x768 : Shape := ⟨2, ![4096, 768]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x768, .f32⟩
  | .hbm, ⟨3, _⟩ => ⟨S4096x1024, .bf16⟩
  | .hbm, ⟨4, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWInAttRefIdeal.lean ====
abbrev S4096x1024 : Shape := ⟨2, ![4096, 1024]⟩
abbrev S1024x768 : Shape := ⟨2, ![1024, 768]⟩
abbrev S4096x768 : Shape := ⟨2, ![4096, 768]⟩
abbrev S768x1024 : Shape := ⟨2, ![768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x768, .f32⟩
  | .hbm, ⟨3, _⟩ => ⟨S4096x768, .f32⟩
  | .hbm, ⟨4, _⟩ => ⟨S768x1024, .f32⟩
  | .hbm, ⟨5, _⟩ => ⟨S1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWInGate.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInGateRefIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWInRwkv.lean ====
abbrev S4096x1024 : Shape := ⟨2, ![4096, 1024]⟩
abbrev S1024x1920 : Shape := ⟨2, ![1024, 1920]⟩
abbrev S4096x1920 : Shape := ⟨2, ![4096, 1920]⟩
abbrev S1024x1024 : Shape := ⟨2, ![1024, 1024]⟩
abbrev S1024x640 : Shape := ⟨2, ![1024, 640]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1920, .f32⟩
  | .hbm, ⟨2, _⟩ => ⟨S4096x1920, .f32⟩
  | .hbm, ⟨3, _⟩ => ⟨S4096x1024, .bf16⟩
  | .hbm, ⟨4, _⟩ => ⟨S1024x1920, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .f32⟩
  | .local _ .vmem, ⟨3, _⟩ => ⟨S1024x640, .f32⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRwkvRefIdeal.lean ====
abbrev S4096x1024 : Shape := ⟨2, ![4096, 1024]⟩
abbrev S1024x1920 : Shape := ⟨2, ![1024, 1920]⟩
abbrev S4096x1920 : Shape := ⟨2, ![4096, 1920]⟩
abbrev S1920x1024 : Shape := ⟨2, ![1920, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1920, .f32⟩
  | .hbm, ⟨2, _⟩ => ⟨S4096x1920, .f32⟩
  | .hbm, ⟨3, _⟩ => ⟨S4096x1920, .f32⟩
  | .hbm, ⟨4, _⟩ => ⟨S1920x1024, .f32⟩
  | .hbm, ⟨5, _⟩ => ⟨S1024x1920, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DH2Att.lean ====
abbrev S4096x1024 : Shape := ⟨2, ![4096, 1024]⟩
abbrev S1024x768 : Shape := ⟨2, ![1024, 768]⟩
abbrev S4096x768 : Shape := ⟨2, ![4096, 768]⟩
abbrev S512x768 : Shape := ⟨2, ![512, 768]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x1024, .f32⟩
  | .hbm, ⟨3, _⟩ => ⟨S4096x768, .f32⟩
  | .hbm, ⟨4, _⟩ => ⟨S1024x768, .bf16⟩
  | .hbm, ⟨5, _⟩ => ⟨S4096x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH2AttRefIdeal.lean ====
abbrev S4096x1024 : Shape := ⟨2, ![4096, 1024]⟩
abbrev S1024x768 : Shape := ⟨2, ![1024, 768]⟩
abbrev S4096x768 : Shape := ⟨2, ![4096, 768]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x1024, .f32⟩
  | .hbm, ⟨3, _⟩ => ⟨S4096x768, .f32⟩
  | .hbm, ⟨4, _⟩ => ⟨S4096x768, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== DhUp.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x2816, .bf16⟩
  | .hbm, ⟨7, _⟩ => ⟨S2816x1024, .f32⟩
  | .hbm, ⟨8, _⟩ => ⟨S2816x1024, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_19 : BitVec 32 := 0#32
  let v35 : BitVec 1 := Scalar.cmpi .eq arg0 c0_i32_19
  let v36 : BitVec 32 := Scalar.extui v35
  let c0_i32_20 : BitVec 32 := 0#32
  let v37 : BitVec 1 := Scalar.cmpi .ne v36 c0_i32_20
  v37

def k0_cond5 (i : grid0.Coords) : BitVec 1 :=
  let arg0 : BitVec 32 := BitVec.ofNat 32 (i 0).val
  let c0_i32_21 : BitVec 32 := 0#32
  let v38 : BitVec 1 := Scalar.cmpi .sgt arg0 c0_i32_21
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DhUpRefIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== DH2Gate.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S1024x2048, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_19 : BitVec 32 := 0#32
  let v35 : BitVec 1 := Scalar.cmpi .eq arg0 c0_i32_19
  let v36 : BitVec 32 := Scalar.extui v35
  let c0_i32_20 : BitVec 32 := 0#32
  let v37 : BitVec 1 := Scalar.cmpi .ne v36 c0_i32_20
  v37

def k0_cond5 (i : grid0.Coords) : BitVec 1 :=
  let arg0 : BitVec 32 := BitVec.ofNat 32 (i 0).val
  let c0_i32_21 : BitVec 32 := 0#32
  let v38 : BitVec 1 := Scalar.cmpi .sgt arg0 c0_i32_21
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DH2GateRefIdeal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== AttBwd.lean ====
abbrev S4096x768 : Shape := ⟨2, ![4096, 768]⟩
abbrev S64 : Shape := ⟨1, ![64]⟩
abbrev S8 : Shape := ⟨1, ![8]⟩
abbrev S4096x512 : Shape := ⟨2, ![4096, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S1x8 : Shape := ⟨2, ![1, 8]⟩
abbrev S_ : Shape := ⟨0, ![]⟩
abbrev S4096x128 : Shape := ⟨2, ![4096, 128]⟩
abbrev S256x768 : Shape := ⟨2, ![256, 768]⟩
abbrev S128x768 : Shape := ⟨2, ![128, 768]⟩
abbrev S256x512 : Shape := ⟨2, ![256, 512]⟩
abbrev S256x128 : Shape := ⟨2, ![256, 128]⟩
abbrev S128x512 : Shape := ⟨2, ![128, 512]⟩
abbrev S512x512 : Shape := ⟨2, ![512, 512]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S256x64 : Shape := ⟨2, ![256, 64]⟩
abbrev S1x256x64 : Shape := ⟨3, ![1, 256, 64]⟩
abbrev S2x256x64 : Shape := ⟨3, ![2, 256, 64]⟩
abbrev S8x256x64 : Shape := ⟨3, ![8, 256, 64]⟩
abbrev S128x256 : Shape := ⟨2, ![128, 256]⟩
abbrev S1x1 : Shape := ⟨2, ![1, 1]⟩
abbrev S1x1x1 : Shape := ⟨3, ![1, 1, 1]⟩
abbrev S8x1x1 : Shape := ⟨3, ![8, 1, 1]⟩
abbrev S8x128x256 : Shape := ⟨3, ![8, 128, 256]⟩
abbrev S1x128x256 : Shape := ⟨3, ![1, 128, 256]⟩
abbrev S8x128 : Shape := ⟨2, ![8, 128]⟩
abbrev S8x128x1 : Shape := ⟨3, ![8, 128, 1]⟩
abbrev S8x1 : Shape := ⟨2, ![8, 1]⟩

abbrev nBuf : Space → Nat
  | .hbm => 24
  | .vmem => 21
  | .smem => 0
  | _ => 0

abbrev bufTy : (tb : Table) → Fin (tcTables nBuf tb) → BufTy
  | .hbm, ⟨0, _⟩ => ⟨S4096x768, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S4096x512, .f32⟩
  | .hbm, ⟨5, _⟩ => ⟨S1x64, .f32⟩
  | .hbm, ⟨6, _⟩ => ⟨S1x1x1x64, .f32⟩
  | .hbm, ⟨7, _⟩ => ⟨S1x1x8x64, .f32⟩
  | .hbm, ⟨8, _⟩ => ⟨S1x512, .f32⟩
  | .hbm, ⟨9, _⟩ => ⟨S1x64, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S4096x512, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S1x64, .f32⟩
  | .hbm, ⟨23, _⟩ => ⟨S1x128, .f32⟩
  | .local _ .vmem, ⟨0, _⟩ => ⟨S256x768, .f32⟩
  | .local _ .vmem, ⟨1, _⟩ => ⟨S256x768, .f32⟩
  | .local _ .vmem, ⟨2, _⟩ => ⟨S128x768, .f32⟩
  | .local _ .vmem, ⟨3, _⟩ => ⟨S128x768, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S256x512, .f32⟩
  | .local _ .vmem, ⟨10, _⟩ => ⟨S256x512, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S1x64, .f32⟩
  | .local _ .vmem, ⟨20, _⟩ => ⟨S1x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_170 : BitVec 32 := 0#32
  let v882 : BitVec 1 := Scalar.cmpi .eq arg0 c0_i32_170
  let v883 : BitVec 32 := Scalar.extui v882
  let c0_i32_171 : BitVec 32 := 0#32
  let v884 : BitVec 1 := Scalar.cmpi .ne v883 c0_i32_171
  v884

def k0_cond2 (i : grid0.Coords) : BitVec 1 :=
  let arg0 : BitVec 32 := BitVec.ofNat 32 (i 0).val
  let c0_i32_172 : BitVec 32 := 0#32
  let v885 : BitVec 1 := Scalar.cmpi .sgt arg0 c0_i32_172
  let v886 : BitVec 32 := Scalar.extui v885
  let c0_i32_173 : BitVec 32 := 0#32
  let v887 : BitVec 1 := Scalar.cmpi .ne v886 c0_i32_173
  v887

def k0_cond3 (i : grid0.Coords) : BitVec 1 :=
  let arg0 : BitVec 32 := BitVec.ofNat 32 (i 0).val
  let c0_i32_174 : BitVec 32 := 0#32
  let v888 : BitVec 1 := Scalar.cmpi .eq arg0 c0_i32_174
  let v889 : BitVec 32 := Scalar.extui v888
  let c0_i32_175 : BitVec 32 := 0#32
  let v890 : BitVec 1 := Scalar.cmpi .ne v889 c0_i32_175
  v890

def k0_cond4 (i : grid0.Coords) : BitVec 1 :=
  let arg0 : BitVec 32 := BitVec.ofNat 32 (i 0).val
  let c0_i32_176 : BitVec 32 := 0#32
  let v891 : BitVec 1 := Scalar.cmpi .sgt arg0 c0_i32_176
  let v892 : BitVec 32 := Scalar.extui v891
  let c0_i32_177 : BitVec 32 := 0#32
  let v893 : BitVec 1 := Scalar.cmpi .ne v892 c0_i32_177
  v893

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttBwdIdeal.lean ====
variable {F : FTy → Type} [FloatOps F] [Named F]
def κ : String → Option EReal := fun
  | "mask" => some ⊥
  | _ => none
-- ==== AttBwdRefIdeal.lean ====
abbrev S4096x768 : Shape := ⟨2, ![4096, 768]⟩
abbrev S64 : Shape := ⟨1, ![64]⟩
abbrev S8 : Shape := ⟨1, ![8]⟩
abbrev S4096x512 : Shape := ⟨2, ![4096, 512]⟩
abbrev S4096x128 : Shape := ⟨2, ![4096, 128]⟩
abbrev S1x4096x8x64 : Shape := ⟨4, ![1, 4096, 8, 64]⟩
abbrev S1x4096x2x64 : Shape := ⟨4, ![1, 4096, 2, 64]⟩
abbrev S_ : Shape := ⟨0, ![]⟩
abbrev S1x4096x8 : Shape := ⟨3, ![1, 4096, 8]⟩
abbrev S1x4096x8x1 : Shape := ⟨4, ![1, 4096, 8, 1]⟩
abbrev S1x1x1x64 : Shape := ⟨4, ![1, 1, 1, 64]⟩
abbrev S1x4096x2 : Shape := ⟨3, ![1, 4096, 2]⟩
abbrev S1x4096x2x1 : Shape := ⟨4, ![1, 4096, 2, 1]⟩
abbrev S1x32x128x2x64 : Shape := ⟨5, ![1, 32, 128, 2, 64]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x128x2x4x64 : Shape := ⟨6, ![1, 32, 128, 2, 4, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x32x2x64x256 : Shape := ⟨5, ![1, 32, 2, 64, 256]⟩
abbrev S32x2x4x128 : Shape := ⟨4, ![32, 2, 4, 128]⟩
abbrev S1x32x2x256x64 : Shape := ⟨5, ![1, 32, 2, 256, 64]⟩

abbrev nBuf : Space → Nat
  | .hbm => 202
  | .vmem => 0
  | .smem => 0
  | _ => 0

abbrev hbmTy0_0 (i : Nat) : BufTy := match i % 128 with
  | 0 => ⟨S4096x768, .f32⟩
  | 1 => ⟨S64, .f32⟩
  | 2 => ⟨S64, .f32⟩
  | 3 => ⟨S8, .f32⟩
  | 4 => ⟨S4096x512, .f32⟩
  | 5 => ⟨S4096x512, .f32⟩
  | 6 => ⟨S4096x128, .f32⟩
  | 7 => ⟨S4096x128, .f32⟩
  | 8 => ⟨S1x4096x8x64, .f32⟩
  | 9 => ⟨S1x4096x2x64, .f32⟩
  | 10 => ⟨S1x4096x2x64, .f32⟩
  | 11 => ⟨S1x4096x8x64, .f32⟩
  | 12 => ⟨S_, .f32⟩
  | 13 => ⟨S1x4096x8, .f32⟩
  | 14 => ⟨S1x4096x8x1, .f32⟩
  | 15 => ⟨S_, .f32⟩
  | 16 => ⟨S1x4096x8x1, .f32⟩
  | 17 => ⟨S1x4096x8x1, .f32⟩
  | 18 => ⟨S_, .f32⟩
  | 19 => ⟨S1x4096x8x1, .f32⟩
  | 20 => ⟨S1x4096x8x1, .f32⟩
  | 21 => ⟨S1x4096x8x1, .f32⟩
  | 22 => ⟨S1x4096x8x64, .f32⟩
  | 23 => ⟨S1x4096x8x64, .f32⟩
  | 24 => ⟨S1x1x1x64, .f32⟩
  | 25 => ⟨S1x4096x8x64, .f32⟩
  | 26 => ⟨S1x4096x8x64, .f32⟩
  | 27 => ⟨S1x4096x2x64, .f32⟩
  | 28 => ⟨S_, .f32⟩
  | 29 => ⟨S1x4096x2, .f32⟩
  | 30 => ⟨S1x4096x2x1, .f32⟩
  | 31 => ⟨S_, .f32⟩
  | 32 => ⟨S1x4096x2x1, .f32⟩
  | 33 => ⟨S1x4096x2x1, .f32⟩
  | 34 => ⟨S_, .f32⟩
  | 35 => ⟨S1x4096x2x1, .f32⟩
  | 36 => ⟨S1x4096x2x1, .f32⟩
  | 37 => ⟨S1x4096x2x1, .f32⟩
  | 38 => ⟨S1x4096x2x64, .f32⟩
  | 39 => ⟨S1x4096x2x64, .f32⟩
  | 40 => ⟨S1x1x1x64, .f32⟩
  | 41 => ⟨S1x4096x2x64, .f32⟩
  | 42 => ⟨S1x4096x2x64, .f32⟩
  | 43 => ⟨S1x32x128x2x64, .f32⟩
  | 44 => ⟨S1x1x128x2x64, .f32⟩
  | 45 => ⟨S_, .f32⟩
  | 46 => ⟨S1x1x128x2x64, .f32⟩
  | 47 => ⟨S1x31x128x2x64, .f32⟩
  | 48 => ⟨S1x32x128x2x64, .f32⟩
  | 49 => ⟨S1x32x256x2x64, .f32⟩
  | 50 => ⟨S1x32x128x2x64, .f32⟩
  | 51 => ⟨S1x1x128x2x64, .f32⟩
  | 52 => ⟨S_, .f32⟩
  | 53 => ⟨S1x1x128x2x64, .f32⟩
  | 54 => ⟨S1x31x128x2x64, .f32⟩
  | 55 => ⟨S1x32x128x2x64, .f32⟩
  | 56 => ⟨S1x32x256x2x64, .f32⟩
  | 57 => ⟨S1x32x128x2x4x64, .f32⟩
  | 58 => ⟨S1x32x2x256x128x4, .f32⟩
  | 59 => ⟨S1x32x2x4x128x256, .f32⟩
  | 60 => ⟨S_, .f32⟩
  | 61 => ⟨S1x32x2x4x128x256, .f32⟩
  | 62 => ⟨S1x32x2x4x128x256, .f32⟩
  | 63 => ⟨S128, .i32⟩
  | 64 => ⟨S128x1, .i32⟩
  | 65 => ⟨S256, .i32⟩
  | 66 => ⟨S1x256, .i32⟩
  | 67 => ⟨S_, .i32⟩
  | 68 => ⟨S128x1, .i32⟩
  | 69 => ⟨S128x1, .i32⟩
  | 70 => ⟨S128x256, .i32⟩
  | 71 => ⟨S128x256, .i32⟩
  | 72 => ⟨S128x256, .i1⟩
  | 73 => ⟨S_, .i32⟩
  | 74 => ⟨S128x1, .i32⟩
  | 75 => ⟨S128x1, .i32⟩
  | 76 => ⟨S_, .i32⟩
  | 77 => ⟨S128x1, .i32⟩
  | 78 => ⟨S128x1, .i32⟩
  | 79 => ⟨S128x256, .i32⟩
  | 80 => ⟨S128x256, .i32⟩
  | 81 => ⟨S128x256, .i1⟩
  | 82 => ⟨S128x256, .i1⟩
  | 83 => ⟨S32, .i32⟩
  | 84 => ⟨S32x1x1, .i32⟩
  | 85 => ⟨S_, .i32⟩
  | 86 => ⟨S32x1x1, .i32⟩
  | 87 => ⟨S32x1x1, .i1⟩
  | 88 => ⟨S_, .i32⟩
  | 89 => ⟨S1x256, .i32⟩
  | 90 => ⟨S1x256, .i1⟩
  | 91 => ⟨S1x1x256, .i1⟩
  | 92 => ⟨S32x1x256, .i1⟩
  | 93 => ⟨S32x1x256, .i1⟩
  | 94 => ⟨S32x1x256, .i1⟩
  | 95 => ⟨S1x128x256, .i1⟩
  | 96 => ⟨S32x128x256, .i1⟩
  | 97 => ⟨S32x128x256, .i1⟩
  | 98 => ⟨S32x128x256, .i1⟩
  | 99 => ⟨S1x32x1x1x128x256, .i1⟩
  | 100 => ⟨S_, .f32⟩
  | 101 => ⟨S_, .f32⟩
  | 102 => ⟨S1x32x2x4x128x256, .i1⟩
  | 103 => ⟨S1x32x2x4x128x256, .f32⟩
  | 104 => ⟨S1x32x2x4x128x256, .f32⟩
  | 105 => ⟨S_, .f32⟩
  | 106 => ⟨S1x32x2x4x128x256, .f32⟩
  | 107 => ⟨S1x1x2x4x1x1, .f32⟩
  | 108 => ⟨S_, .f32⟩
  | 109 => ⟨S1x32x2x4x128, .f32⟩
  | 110 => ⟨S1x32x2x4x128x1, .f32⟩
  | 111 => ⟨S1x32x2x4x128x256, .f32⟩
  | 112 => ⟨S1x32x2x4x128x256, .i1⟩
  | 113 => ⟨S1x32x2x4x128x256, .f32⟩
  | 114 => ⟨S_, .f32⟩
  | 115 => ⟨S1x32x2x4x128, .f32⟩
  | 116 => ⟨S1x32x2x4x128x1, .f32⟩
  | 117 => ⟨S1x32x2x4x128x1, .f32⟩
  | 118 => ⟨S1x32x2x4x128x1, .f32⟩
  | 119 => ⟨S1x32x2x4x128x1, .f32⟩
  | 120 => ⟨S1x32x2x4x128x1, .i1⟩
  | 121 => ⟨S1x32x2x4x128x1, .f32⟩
  | 122 => ⟨S1x32x2x4x128x1, .i1⟩
  | 123 => ⟨S_, .f32⟩
  | 124 => ⟨S1x32x2x4x128x1, .f32⟩
  | 125 => ⟨S_, .f32⟩
  | 126 => ⟨S1x32x2x4x128x1, .f32⟩
  | 127 => ⟨S_, .f32⟩
  | _ => ⟨S4096x768, .f32⟩

abbrev hbmTy0_1 (i : Nat) : BufTy := match i % 128 with
  | 0 => ⟨S1x32x2x4x128x1, .f32⟩
  | 1 => ⟨S1x32x2x4x128x1, .f32⟩
  | 2 => ⟨S1x32x2x4x128x1, .f32⟩
  | 3 => ⟨S1x32x2x4x128x256, .f32⟩
  | 4 => ⟨S1x32x2x4x128x256, .f32⟩
  | 5 => ⟨S1x32x2x4x128x256, .f32⟩
  | 6 => ⟨S_, .f32⟩
  | 7 => ⟨S1x32x2x4x128, .f32⟩
  | 8 => ⟨S1x32x2x4x128x1, .f32⟩
  | 9 => ⟨S1x32x2x4x128x1, .f32⟩
  | 10 => ⟨S1x32x2x4x128x1, .f32⟩
  | 11 => ⟨S1x32x2x4x128x1, .f32⟩
  | 12 => ⟨S1x32x2x4x128x1, .f32⟩
  | 13 => ⟨S1x32x2x4x128x256, .f32⟩
  | 14 => ⟨S1x32x2x4x128x256, .f32⟩
  | 15 => ⟨S1x32x2x4x128x1, .f32⟩
  | 16 => ⟨S_, .f32⟩
  | 17 => ⟨S1x32x2x4x128x1, .f32⟩
  | 18 => ⟨S1x32x2x4x128x1, .f32⟩
  | 19 => ⟨S1x32x2x64x4x128, .f32⟩
  | 20 => ⟨S1x32x128x2x4x64, .f32⟩
  | 21 => ⟨S4096x512, .f32⟩
  | 22 => ⟨S1x32x128x2x4x64, .f32⟩
  | 23 => ⟨S1x32x2x64x4x128, .f32⟩
  | 24 => ⟨S1x32x2x4x128x256, .f32⟩
  | 25 => ⟨S1x32x2x64x256, .f32⟩
  | 26 => ⟨S1x32x256x2x64, .f32⟩
  | 27 => ⟨S1x32x2x4x128x256, .f32⟩
  | 28 => ⟨S1x32x2x4x128x256, .f32⟩
  | 29 => ⟨S1x32x2x4x128x256, .f32⟩
  | 30 => ⟨S_, .f32⟩
  | 31 => ⟨S1x32x2x4x128, .f32⟩
  | 32 => ⟨S1x32x2x4x128x1, .f32⟩
  | 33 => ⟨S1x32x2x4x128x1, .f32⟩
  | 34 => ⟨S1x32x2x4x128x256, .f32⟩
  | 35 => ⟨S1x32x2x4x128x256, .f32⟩
  | 36 => ⟨S1x32x2x4x128x1, .f32⟩
  | 37 => ⟨S1x32x2x4x128x1, .f32⟩
  | 38 => ⟨S_, .f32⟩
  | 39 => ⟨S32x2x4x128, .f32⟩
  | 40 => ⟨S1x32x2x4x128, .f32⟩
  | 41 => ⟨S1x32x2x4x128x256, .f32⟩
  | 42 => ⟨S1x32x2x4x128x256, .f32⟩
  | 43 => ⟨S1x32x2x4x128x256, .f32⟩
  | 44 => ⟨S1x32x2x4x128x256, .f32⟩
  | 45 => ⟨S_, .f32⟩
  | 46 => ⟨S1x32x2x4x128, .f32⟩
  | 47 => ⟨S1x32x2x4x128x1, .f32⟩
  | 48 => ⟨S1x32x2x4x128x1, .f32⟩
  | 49 => ⟨S1x32x2x4x128x1, .f32⟩
  | 50 => ⟨S_, .f32⟩
  | 51 => ⟨S32x2x4x128, .f32⟩
  | 52 => ⟨S1x32x2x4x128, .f32⟩
  | 53 => ⟨S1x32x2x4x128, .f32⟩
  | 54 => ⟨S1x32x2x4x128x256, .f32⟩
  | 55 => ⟨S1x32x2x4x128x256, .f32⟩
  | 56 => ⟨S1x32x2x4x128x256, .f32⟩
  | 57 => ⟨S_, .f32⟩
  | 58 => ⟨S1x32x2x4x128x256, .f32⟩
  | 59 => ⟨S1x32x2x4x128x256, .f32⟩
  | 60 => ⟨S_, .f32⟩
  | 61 => ⟨S1x32x2x4x128x256, .f32⟩
  | 62 => ⟨S1x32x2x4x128x256, .f32⟩
  | 63 => ⟨S1x32x2x256x128x4, .f32⟩
  | 64 => ⟨S1x32x2x256x64, .f32⟩
  | 65 => ⟨S1x32x256x2x64, .f32⟩
  | 66 => ⟨S1x32x128x2x64, .f32⟩
  | 67 => ⟨S1x32x128x2x64, .f32⟩
  | 68 => ⟨S4096x128, .f32⟩
  | 69 => ⟨S4096x128, .f32⟩
  | 70 => ⟨S1x32x128x2x64, .f32⟩
  | 71 => ⟨S1x32x128x2x64, .f32⟩
  | 72 => ⟨S4096x128, .f32⟩
  | 73 => ⟨S4096x128, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_c_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_10 : Ref sig .tc := ⟨.hbm, 85, rfl⟩
abbrev main_v68 : Ref sig .tc := ⟨.hbm, 86, rfl⟩
abbrev main_v69 : Ref sig .tc := ⟨.hbm, 87, rfl⟩
abbrev main_c_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_call0_v0 : Ref sig .tc := ⟨.hbm, 101, rfl⟩
abbrev main_v81_1 : Ref sig .tc := ⟨.hbm, 102, rfl⟩
abbrev main_call0_v2 : Ref sig .tc := ⟨.hbm, 103, rfl⟩
abbrev main_v81_0 : Ref sig .tc := ⟨.hbm, 104, rfl⟩
abbrev main_call0_cst : Ref sig .tc := ⟨.hbm, 105, rfl⟩
abbrev main_v81_2 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_cst_16 : Ref sig .tc := ⟨.hbm, 125, rfl⟩
abbrev main_v97 : Ref sig .tc := ⟨.hbm, 126, rfl⟩
abbrev main_cst_17 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_18 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_19 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_20 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_21 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_22 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_23 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_call1_cst : Ref sig .tc := ⟨.hbm, 185, rfl⟩
abbrev main_call1_v0 : Ref sig .tc := ⟨.hbm, 186, rfl⟩
abbrev main_v149 : Ref sig .tc := ⟨.hbm, 187, rfl⟩
abbrev main_cst_24 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MergeFwd.lean ====
abbrev S4096x1024 : Shape := ⟨2, ![4096, 1024]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeFwdRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Merge.lean ====
/- The gradient of the gated sum: what the kernel leaves in its three result arrays is what the
   reference's operations compute, element by element. -/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit

@[expose] public section

set_option maxRecDepth 16384

noncomputable section

namespace Cert.MergeIdeal.Merge

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final4 (c : Dev nD) : (dats m 0 c).arrAt 4 cfg0.N
    = Cert.MergeRefIdeal.Read.val_main_v22 (F := Ideal) (V m c main_arg0) (V m c main_arg3) := by
  refine (dats m 0 c).arrAt_eq_of_covers 4 _ (by decide +kernel) fun t hf y => ?_
  blk_simp
  rw [after0_4]
  frame_out
  pointwise [k0_pay4, k0_pay2, Cert.MergeRefIdeal.Read.val_main_v0, Cert.MergeRefIdeal.Read.val_main_v1, Cert.MergeRefIdeal.Read.val_main_cst, Cert.MergeRefIdeal.Read.val_main_v2, Cert.MergeRefIdeal.Read.val_main_v3, Cert.MergeRefIdeal.Read.val_main_cst_0, Cert.MergeRefIdeal.Read.val_main_v4, Cert.MergeRefIdeal.Read.val_main_v5, Cert.MergeRefIdeal.Read.val_main_cst_1, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23]
  simp only [zero_sub]
  blk_point [iblk, V, idx t]

theorem final5 (c : Dev nD) : (dats m 0 c).arrAt 5 cfg0.N
    = Cert.MergeRefIdeal.Read.val_main_v23 (F := Ideal) (V m c main_arg0) (V m c main_arg3) := by
  refine (dats m 0 c).arrAt_eq_of_covers 5 _ (by decide +kernel) fun t hf y => ?_
  blk_simp
  rw [after0_5]
  frame_out
  pointwise [k0_pay5, k0_pay3, Cert.MergeRefIdeal.Read.val_main_v0, Cert.MergeRefIdeal.Read.val_main_v1, Cert.MergeRefIdeal.Read.val_main_cst, Cert.MergeRefIdeal.Read.val_main_v2, Cert.MergeRefIdeal.Read.val_main_v3, Cert.MergeRefIdeal.Read.val_main_cst_0, Cert.MergeRefIdeal.Read.val_main_v4, Cert.MergeRefIdeal.Read.val_main_v5, Cert.MergeRefIdeal.Read.val_main_cst_1, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23]
  simp only [zero_sub]
  blk_point [iblk, V, idx t]

theorem final6 (c : Dev nD) : (dats m 0 c).arrAt 6 cfg0.N
    = Cert.MergeRefIdeal.Read.val_main_v21 (F := Ideal) (V m c main_arg0) (V m c main_arg1) (V m c main_arg2) (V m c main_arg3) := by
  refine (dats m 0 c).arrAt_eq_of_covers 6 _ (by decide +kernel) fun t hf y => ?_
  blk_simp
  rw [after0_6]
  frame_out
  canon_tiles x
  · pointwise [k0_pay1, k0_pay7, k0_pay3, Cert.MergeRefIdeal.Read.val_main_v0, Cert.MergeRefIdeal.Read.val_main_v1, Cert.MergeRefIdeal.Read.val_main_cst, Cert.MergeRefIdeal.Read.val_main_v2, Cert.MergeRefIdeal.Read.val_main_v3, Cert.MergeRefIdeal.Read.val_main_cst_0, Cert.MergeRefIdeal.Read.val_main_v4, Cert.MergeRefIdeal.Read.val_main_v5, Cert.MergeRefIdeal.Read.val_main_cst_1, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23]
    simp only [zero_sub]
    rw [dif_neg (by blk_simp [idx t]; simp only [Matrix.cons_val_one, Matrix.cons_val_zero]; omega), mul_assoc]
    blk_point [iblk, V, idx t]
  · pointwise [k0_pay6, k0_pay2, Cert.MergeRefIdeal.Read.val_main_v0, Cert.MergeRefIdeal.Read.val_main_v1, Cert.MergeRefIdeal.Read.val_main_cst, Cert.MergeRefIdeal.Read.val_main_v2, Cert.MergeRefIdeal.Read.val_main_v3, Cert.MergeRefIdeal.Read.val_main_cst_0, Cert.MergeRefIdeal.Read.val_main_v4, Cert.MergeRefIdeal.Read.val_main_v5, Cert.MergeRefIdeal.Read.val_main_cst_1, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23]
    simp only [zero_sub]
    rw [dif_pos (by blk_simp [idx t]; simp only [Matrix.cons_val_one, Matrix.cons_val_zero]; omega), mul_assoc]
    blk_point [iblk, V, idx t]

end Cert.MergeIdeal.Merge

end
-- ==== Proof.GateUp.lean ====
/- The gated unit's forward products: what the kernel leaves in its three result arrays is what the
   reference's operations compute, element by element. -/
module

public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pipeline.ValueKit
public import Idealize.ShloMosaic.Lib.Claim

@[expose] public section

set_option maxRecDepth 16384

noncomputable section

namespace Cert.GateUpIdeal.Final

open Cert.GateUpIdeal Cert.GateUpIdeal.Gen Cert.GateUpRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The blocks of grid point `t`: row block `t / 2`, column block `t % 2`. -/
theorem idx : ∀ t : Fin cfg0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2] ∧ win0_5.index t = ![t.val / 2, t.val % 2] :=
  (by decide +kernel : ∀ t : Fin grid0.N, _)

theorem final3 (c : Dev nD) : (dats m 0 c).arrAt 3 cfg0.N
    = val_main_v2 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, k0_pay2, k0_pay4, val_main_v0, val_main_v2]
  blk_point [iblk, V, idx t]

theorem final4 (c : Dev nD) : (dats m 0 c).arrAt 4 cfg0.N
    = val_main_v3 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  pointwise [k0_pay1, k0_pay3, k0_pay5, val_main_v1, val_main_v3]
  blk_point [iblk, V, idx t]

theorem final5 (c : Dev nD) : (dats m 0 c).arrAt 5 cfg0.N
    = val_main_v6 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay6, val_main_v0, val_main_v1, val_main_v2, val_main_v3, val_main_call0_v0, val_main_call0_v1, val_main_call0_cst, val_main_call0_v2, val_main_call0_v3, val_main_call0_cst_0, val_main_call0_v4, val_main_call0_v5, val_main_v4, val_main_v5, val_main_v6]
  simp only [zero_sub]
  blk_point [iblk, V, idx t]

end Cert.GateUpIdeal.Final

end
-- ==== Proof.Sums.lean ====
/- Sums of extended reals: a factor that is a nonnegative real moves across a finite sum, whatever the terms. -/
module

public import Idealize.ShloMosaic.Lib.Pipeline.ValueKit

@[expose] public section

namespace Cert.Sums

/-- A nonnegative real factor, on the right of a sum, is a factor of each term. -/
theorem sum_mul_of_nonneg {ι : Type} (s : Finset ι) (f : ι → EReal) (r : EReal) (h0 : 0 ≤ r) (h : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 h, ih]

/-- The same for a sum of sums. -/
theorem sum_sum_mul_of_nonneg {S n : ℕ} (f : Fin S → Fin n → EReal) (r : EReal) (h0 : 0 ≤ r) (h : r ≠ ⊤) :
    (∑ s, ∑ k, f s k) * r = ∑ s, ∑ k, f s k * r := by
  rw [sum_mul_of_nonneg _ _ _ h0 h]
  exact Finset.sum_congr rfl fun s _ => sum_mul_of_nonneg _ _ _ h0 h

/-- A product of three, read from the other end. -/
theorem mul_rev (a b c : EReal) : a * b * c = c * b * a := by
  rw [mul_comm (a * b), mul_comm a, mul_assoc]

/-- The literal one half is the real number one half. -/
theorem half_eq : Idealize.ShloMosaic.Ideal.ofBits .f32 0x3F000000#32 = ((1 / 2 : ℝ) : EReal) := by
  simp [Idealize.ShloMosaic.Ideal.ofBits, Idealize.ShloMosaic.Ideal.ieee, -EReal.coe_mul]; norm_num

theorem half_nonneg : 0 ≤ Idealize.ShloMosaic.Ideal.ofBits .f32 0x3F000000#32 := by
  rw [half_eq]; exact_mod_cast (by norm_num : (0 : ℝ) ≤ 1 / 2)

theorem half_ne_top : Idealize.ShloMosaic.Ideal.ofBits .f32 0x3F000000#32 ≠ ⊤ := by
  rw [half_eq]; exact EReal.coe_ne_top _

end Cert.Sums
-- ==== Proof.Gating.lean ====
/- The derivative of the gate `x ↦ x · s(x)`, `s` the logistic function, on extended reals: two ways to spell it, equal
   when the factor that comes from above is a real number. -/
module

public import proofs.«01_k».proof.Proof.Sums

@[expose] public section

noncomputable section

namespace Cert.Gating

open Idealize.ShloMosaic Cert.Sums

/-- A number that is real. -/
abbrev Real' (x : EReal) : Prop := ∃ r : ℝ, x = (r : EReal)

theorem real_mul {x y : EReal} (hx : Real' x) (hy : Real' y) : Real' (x * y) := by
  obtain ⟨a, rfl⟩ := hx
  obtain ⟨b, rfl⟩ := hy
  exact ⟨a * b, (EReal.coe_mul a b).symm⟩

theorem real_sum {ι : Type} (s : Finset ι) (f : ι → EReal) (h : ∀ i, Real' (f i)) : Real' (∑ i ∈ s, f i) := by
  choose g hg using h
  refine ⟨∑ i ∈ s, g i, ?_⟩
  rw [Finset.sum_congr rfl fun i _ => hg i]
  exact (map_sum (⟨⟨fun r : ℝ => (r : EReal), EReal.coe_zero⟩, EReal.coe_add⟩ : ℝ →+ EReal) g s).symm

/-- An absolute value below infinity: the number is real. -/
theorem real_of_abs_lt {x : EReal} (h : max x (-x) < ⊤) : Real' x := by
  induction x using EReal.rec with
  | bot => simp at h
  | top => simp at h
  | coe r => exact ⟨r, rfl⟩

/-- The logistic function, as it is computed. -/
abbrev logistic (g : EReal) : EReal := Ideal.div 1 (1 + Ideal.exp (-g))

theorem logistic_top : logistic ⊤ = 1 := by
  show Ideal.div 1 (1 + Ideal.exp (-⊤)) = 1
  rw [EReal.neg_top, Ideal.exp_bot, add_zero, ← EReal.coe_one, Ideal.div_coe one_ne_zero]
  norm_num

theorem logistic_bot : logistic ⊥ = 0 := by
  show Ideal.div 1 (1 + Ideal.exp (-⊥)) = 0
  rw [EReal.neg_bot, Ideal.exp_top, EReal.add_top_of_ne_bot (by decide)]
  simp [Ideal.div]

theorem logistic_coe (r : ℝ) : Real' (logistic r) := by
  refine ⟨1 / (1 + Real.exp (-r)), ?_⟩
  have h : (1 + Real.exp (-r) : ℝ) ≠ 0 := by positivity
  show Ideal.div 1 (1 + Ideal.exp (-(r : EReal))) = _
  rw [← EReal.coe_neg, Ideal.exp_coe, ← EReal.coe_one, ← EReal.coe_add, Ideal.div_coe h, EReal.coe_one, one_mul]

/-- The two spellings of the derivative. -/
theorem gate_deriv {c : EReal} (hc : Real' c) (g : EReal) :
    c * logistic g * (1 + g * (1 - logistic g)) = c * logistic g + g * c * (logistic g * (1 - logistic g)) := by
  obtain ⟨c, rfl⟩ := hc
  induction g using EReal.rec with
  | bot => simp [logistic_bot]
  | top =>
    have h : (1 : EReal) - 1 = 0 := by rw [← EReal.coe_one, ← EReal.coe_sub]; simp
    simp [logistic_top, h]
  | coe r =>
    obtain ⟨s, hs⟩ := logistic_coe r
    rw [hs]
    norm_cast
    ring

/-- A literal half on one factor of every term, or once on the sum. -/
theorem half_sum {n : ℕ} (h : EReal) (h0 : 0 ≤ h) (ht : h ≠ ⊤) (a b : Fin n → EReal) : ∑ k, h * a k * b k = (∑ k, a k * b k) * h := by
  rw [sum_mul_of_nonneg _ _ _ h0 ht]
  exact Finset.sum_congr rfl fun k _ => by rw [mul_assoc, mul_comm]

/-- The gradient of the gate branch at one element: `a` and `b` the factors of the summed product, `u` the other
    branch, `g` the gate's own. -/
theorem dgate {n : ℕ} (a b : Fin n → EReal) (u g : EReal) (ha : ∀ k, Real' (a k)) (hb : ∀ k, Real' (b k)) (hu : Real' u) :
    (∑ k, a k * b k) * Ideal.ofBits .f32 0x3F000000#32 * u * logistic g * (1 + g * (1 - logistic g))
      = (∑ k, Ideal.ofBits .f32 0x3F000000#32 * a k * b k) * u * logistic g
        + g * ((∑ k, Ideal.ofBits .f32 0x3F000000#32 * a k * b k) * u) * (logistic g * (1 - logistic g)) := by
  rw [half_sum _ half_nonneg half_ne_top]
  exact gate_deriv (real_mul (real_mul (real_sum _ _ fun k => real_mul (ha k) (hb k)) ⟨_, half_eq⟩) hu) g

/-- The gradient of the linear branch. -/
theorem dlinear {n : ℕ} (a b : Fin n → EReal) (g : EReal) :
    (∑ k, a k * b k) * Ideal.ofBits .f32 0x3F000000#32 * g * logistic g
      = g * logistic g * ∑ k, Ideal.ofBits .f32 0x3F000000#32 * a k * b k := by
  rw [half_sum _ half_nonneg half_ne_top, mul_comm (g * logistic g), mul_assoc _ g]

end Cert.Gating

end
-- ==== Proof.Dact.lean ====
/- The backward product through the gated unit: the two gradients the kernel writes are those of the reference, the
   gate branch's where the cotangent, the weights and the linear branch are finite. -/
module

public import proofs.«01_k».proof.Proof.Gen.DactIdeal.Value
public import proofs.«01_k».proof.Proof.Gen.DactRefIdeal.Run
public import proofs.«01_k».proof.Proof.Gen.DactRefIdeal.Read
public import proofs.«01_k».proof.Proof.Gating
public import Idealize.ShloMosaic.Lib.Pipeline.ValueKit
public import Idealize.ShloMosaic.Lib.Claim

@[expose] public section

set_option maxRecDepth 16384

noncomputable section

namespace Cert.DactIdeal.Final

open Cert.DactIdeal Cert.DactIdeal.Gen Cert.DactRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The blocks of grid point `t`: row block `t / 2`, column block `t % 2`. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

theorem final4 (c : Dev nD) (h0 : ∀ i, Cert.Gating.Real' (m ((c : Thread nD τ).loc main_arg0) i)) (h2 : ∀ i, Cert.Gating.Real' (m ((c : Thread nD τ).loc main_arg2) i))
    (h3 : ∀ i, Cert.Gating.Real' (m ((c : Thread nD τ).loc main_arg3) i)) : (dats m 0 c).arrAt 4 cfg0.N
    = val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_cst, val_main_v3, val_main_v4, val_main_cst_0, val_main_v5, val_main_v6, val_main_v7, val_main_v8, val_main_v9, val_main_call1_v0, val_main_call1_v1, val_main_call1_v2, val_main_v10, val_main_v11, val_main_v12]
  simp only [zero_sub]
  refine Eq.trans ?_ (Cert.Gating.dgate _ _ _ _ (fun k => h0 _) (fun k => h3 _) (h2 _))
  simp only [Cert.Gating.logistic]
  blk_point [iblk, V, idx t]

theorem final5 (c : Dev nD) : (dats m 0 c).arrAt 5 cfg0.N
    = val_main_v12 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay5, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_cst, val_main_v3, val_main_v4, val_main_cst_0, val_main_v5, val_main_v6, val_main_v7, val_main_v8, val_main_v9, val_main_call1_v0, val_main_call1_v1, val_main_call1_v2, val_main_v10, val_main_v11, val_main_v12]
  simp only [zero_sub]
  refine Eq.trans ?_ (Cert.Gating.dlinear _ _ _)
  simp only [Cert.Gating.logistic]
  blk_point [iblk, V, idx t]

end Cert.DactIdeal.Final

end
-- ==== Proof.DactPre.lean ====
/- What the precondition of the gated unit's backward product says: the cotangent, the linear branch and the weights
   hold real numbers. -/
module

public import proofs.«01_k».proof.Defs
public import proofs.«01_k».proof.Proof.Gen.DactIdeal.Value
public import proofs.«01_k».proof.Proof.Gating

@[expose] public section

noncomputable section

open Idealize.ShloMosaic Cert.Gating

/-- The shapes the precondition's operations meet fit together. -/
instance Cert.Pre_finite_factors.facts : Cert.Pre_finite_factors.Facts :=
  ⟨by decide, by decide, by decide⟩

namespace Cert.Proof

/-- The literal for infinity. -/
theorem inf_eq : Ideal.ofBits .f32 0x7F800000#32 = ⊤ := by
  simp [Ideal.ofBits, Ideal.ieee]

/-- A mask of ones, of absolute values below infinity: every element is real. -/
theorem real_of_mask {s : Shape} (x : FVec Ideal s .f32) (b : FVec Ideal s .f32) (hb : ∀ i, b i = ⊤)
    (h : cmpf .olt (Host.absf x) b = fun _ => 1#1) (i : s.Idx) : Real' (x i) := by
  have e := congrFun h i
  pointwise at e
  rw [hb i] at e
  by_cases hx : FloatOps.absf (x i) < (⊤ : EReal)
  · exact real_of_abs_lt hx
  · rw [decide_eq_false hx] at e
    exact absurd e (by decide)

/-- What is known of the three arrays. -/
theorem real_of_pre (m : (ℓ : Loc Cert.DactIdeal.nD Cert.DactIdeal.τ Cert.DactIdeal.sig) → Buf (Elt Ideal) ℓ)
    (h : Cert.Pre_DactIdeal_finite_factors m) (c : Dev Cert.DactIdeal.nD) :
    (∀ i, Real' (m ((c.tc : Thread Cert.DactIdeal.nD Cert.DactIdeal.τ).loc Cert.DactIdeal.main_arg0) i))
      ∧ (∀ i, Real' (m ((c.tc : Thread Cert.DactIdeal.nD Cert.DactIdeal.τ).loc Cert.DactIdeal.main_arg2) i))
      ∧ (∀ i, Real' (m ((c.tc : Thread Cert.DactIdeal.nD Cert.DactIdeal.τ).loc Cert.DactIdeal.main_arg3) i)) := by
  obtain ⟨h0, h2, h3⟩ := h c
  exact ⟨real_of_mask _ _ (fun i => by pointwise; exact inf_eq) h0, real_of_mask _ _ (fun i => by pointwise; exact inf_eq) h2, real_of_mask _ _ (fun i => by pointwise; exact inf_eq) h3⟩

end Cert.Proof

end
-- ==== Proof.Down.lean ====
/- The product down to the model's width, halved and added to the residual rows: summed over two ranges in an
   accumulator, and written out at the second. -/
module

public import proofs.«01_k».proof.Proof.Gen.DownIdeal.Value
public import proofs.«01_k».proof.Proof.Gen.DownRefIdeal.Run
public import proofs.«01_k».proof.Proof.Gen.DownRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DownIdeal.Final

open Cert.DownIdeal Cert.DownIdeal.Gen Cert.DownRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

/-- The product of the two blocks at hand, one element of it. -/
abbrev part (v0 : Vec Ideal S512x1408 .bf16) (v2 : Vec Ideal S1408x1024 .bf16) (j : S512x1024.Idx) : EReal :=
  ∑ k : Fin 1408, v0 (ix2 (j 0) k) * v2 (ix2 k (j 1))

theorem pay2 (v0 : Vec Ideal S512x1408 .bf16) (v2 : Vec Ideal S1408x1024 .bf16) (j : S512x1024.Idx) :
    k0_pay2 v0 v2 j = part v0 v2 j := by
  pointwise [k0_pay1, k0_pay2]

theorem pay3 (v0 : Vec Ideal S512x1408 .bf16) (v2 : Vec Ideal S1408x1024 .bf16) (acc : Vec Ideal S512x1024 .f32) (j : S512x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 2 = 0) (j : S512x1024.Idx) :
    (outsAt0 m c t.val t.isLt).2 j = part (iblk m c 0 t) (iblk m c 1 t) j := by
  rw [outsAt0_A m c t h (by omega) (by omega)]
  frame_out
  rw [pay2]

/-- The accumulator after a later range: one product more. -/
theorem scr_next (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j + part (iblk m c 0 t) (iblk m c 1 t) j := by
  rw [outsAt0_B m c t h (by omega) (by omega)]
  frame_out
  rw [pay3, read_unread_whole]

/-- What is written out at the last range. -/
theorem out_last (c : Dev nD) (t : Fin cfg0.N) (h : t.val % 2 = 2 - 1) (j : S512x1024.Idx) :
    (outsAt0 m c t.val t.isLt).1 j = (outsAt0 m c t.val t.isLt).2 j * FloatOps.ofBits (F := Ideal) .f32 0x3F000000#32 + (iblk m c 2 t : Vec Ideal S512x1024 .f32) j := by
  rw [outsAt0_B m c t (by omega) (by omega) h]
  frame_out
  pointwise [k0_pay4]

theorem final3 (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hr := (flush0_3 t).mp hf
  rw [after0_3, out_last m c t hr,
    Pipeline.eq_sum_fin_of_reset_step_apply_of_flush (fun n h => (outsAt0 m c n h).2) 2 (fun _ => (0 : EReal)) _
      (fun t h j => (scr_first m c t h j).trans (zero_add _).symm) (fun t h j => scr_next m c t h j) t hr _, zero_add]
  pointwise [val_main_v0, val_main_v1, val_main_v2, val_main_v3, val_main_cst]
  refine (add_comm (_ : EReal) _).trans (congrArg₂ (fun a b : EReal => a + b) ?_ ((mul_comm (_ : EReal) _).trans (congrArg (fun a : EReal => Ideal.ofBits .f32 0x3F000000#32 * a) ?_)))
  · blk_point [iblk, V, idx t]
  · refine Fin.sum_mul_add_congr fun s k hl => ?_
    blk_point [iblk, V, idx t, idx ⟨_, Pipeline.run_point_lt_of_flush t hr s⟩]

end Cert.DownIdeal.Final

end
-- ==== Proof.Dwd.lean ====
/- The backward product with respect to the weights of the product down, halved: summed over four ranges of the rows
   in an accumulator, and written out, halved, at the last; the reference halves the cotangent instead. -/
module

public import proofs.«01_k».proof.Proof.Gen.DwdIdeal.Value
public import proofs.«01_k».proof.Proof.Gen.DwdRefIdeal.Run
public import proofs.«01_k».proof.Proof.Gen.DwdRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DwdIdeal.Final

open Cert.DwdIdeal Cert.DwdIdeal.Gen Cert.DwdRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The product of the two blocks at hand, one element of it. -/
abbrev part (v0 : Vec Ideal S1024x1408 .bf16) (v2 : Vec Ideal S1024x1024 .f32) (j : S1408x1024.Idx) : EReal :=
  ∑ k : Fin 1024, v0 (ix2 k (j 0)) * v2 (ix2 k (j 1))

theorem pay2 (v0 : Vec Ideal S1024x1408 .bf16) (v2 : Vec Ideal S1024x1024 .f32) (j : S1408x1024.Idx) :
    k0_pay2 v0 v2 j = part v0 v2 j := by
  pointwise [k0_pay1, k0_pay2]

theorem pay3 (v0 : Vec Ideal S1024x1408 .bf16) (v2 : Vec Ideal S1024x1024 .f32) (acc : Vec Ideal S1408x1024 .f32) (j : S1408x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S1408x1024.Idx) :
    (outsAt0 m c t.val t.isLt).2 j = part (iblk m c 0 t) (iblk m c 1 t) j := by
  rw [outsAt0_A m c t h (by omega) (by omega)]
  frame_out
  rw [pay2]

/-- The accumulator after a later range: one product more. -/
theorem scr_next (c : Dev nD) (t : Fin cfg0.N) (h : ¬t.val % 4 = 0) (j : S1408x1024.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) (j : S1408x1024.Idx) :
    (outsAt0 m c t.val t.isLt).1 j = (outsAt0 m c t.val t.isLt).2 j * FloatOps.ofBits (F := Ideal) .f32 0x3F000000#32 := by
  rw [outsAt0_C m c t (by omega) (by omega) h]
  frame_out
  pointwise [k0_pay4]

theorem final2 (c : Dev nD) : (dats m 0 c).arrAt 2 cfg0.N
    = val_main_v6 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v6_apply, val_main_v5_apply]
  pointwise [val_main_v4, val_main_v3, val_main_cst_0]
  rw [Cert.Sums.sum_sum_mul_of_nonneg _ _ Cert.Sums.half_nonneg Cert.Sums.half_ne_top]
  refine Fin.sum_mul_add_congr fun s k hl => (Cert.Sums.mul_rev _ _ _).trans ?_
  blk_point [iblk, V, idx t, idx ⟨_, Pipeline.run_point_lt_of_flush t hr s⟩]

end Cert.DwdIdeal.Final

end
-- ==== Proof.Dw.lean ====
/- The backward product with respect to the weights (the gradient transposed, as it is kept): summed over four
   ranges of the rows in an accumulator, and written out at the last. -/
module

public import proofs.«01_k».proof.Proof.Gen.DwIdeal.Value
public import proofs.«01_k».proof.Proof.Gen.DwRefIdeal.Run
public import proofs.«01_k».proof.Proof.Gen.DwRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DwIdeal.Final

open Cert.DwIdeal Cert.DwIdeal.Gen Cert.DwRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The product of the two blocks at hand, one element of it. -/
abbrev part (v0 : Vec Ideal S1024x1408 .bf16) (v2 : Vec Ideal S1024x1024 .bf16) (j : S1408x1024.Idx) : EReal :=
  ∑ k : Fin 1024, v0 (ix2 k (j 0)) * v2 (ix2 k (j 1))

theorem pay2 (v0 : Vec Ideal S1024x1408 .bf16) (v2 : Vec Ideal S1024x1024 .bf16) (j : S1408x1024.Idx) :
    k0_pay2 v0 v2 j = part v0 v2 j := by
  pointwise [k0_pay1, k0_pay2]

theorem pay3 (v0 : Vec Ideal S1024x1408 .bf16) (v2 : Vec Ideal S1024x1024 .bf16) (acc : Vec Ideal S1408x1024 .f32) (j : S1408x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S1408x1024.Idx) :
    (outsAt0 m c t.val t.isLt).2 j = part (iblk m c 0 t) (iblk m c 1 t) j := by
  rw [outsAt0_A m c t h (by omega) (by omega)]
  frame_out
  rw [pay2]

/-- The accumulator after a later range: one product more. -/
theorem scr_next (c : Dev nD) (t : Fin cfg0.N) (h : ¬t.val % 4 = 0) (j : S1408x1024.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v3 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v3_apply, val_main_v2_apply, val_main_v1_apply]
  refine Fin.sum_mul_add_congr fun s k hl => ?_
  blk_point [iblk, V, idx t, idx ⟨_, Pipeline.run_point_lt_of_flush t hr s⟩]

end Cert.DwIdeal.Final

end
-- ==== Proof.Dh.lean ====
/- The backward product with respect to the hidden rows: the blocks are summed over two column ranges of the
   cotangent, in an accumulator, and written out at the second. -/
module

public import proofs.«01_k».proof.Proof.Gen.DhIdeal.Value
public import proofs.«01_k».proof.Proof.Gen.DhRefIdeal.Run
public import proofs.«01_k».proof.Proof.Gen.DhRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DhIdeal.Final

open Cert.DhIdeal Cert.DhIdeal.Gen Cert.DhRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The product of the two blocks at hand, one element of it. -/
abbrev part (v0 : Vec Ideal S512x1408 .bf16) (v2 : Vec Ideal S1408x1024 .bf16) (j : S512x1024.Idx) : EReal :=
  ∑ k : Fin 1408, v0 (ix2 (j 0) k) * v2 (ix2 k (j 1))

theorem pay2 (v0 : Vec Ideal S512x1408 .bf16) (v2 : Vec Ideal S1408x1024 .bf16) (j : S512x1024.Idx) :
    k0_pay2 v0 v2 j = part v0 v2 j := by
  pointwise [k0_pay1, k0_pay2]

theorem pay3 (v0 : Vec Ideal S512x1408 .bf16) (v2 : Vec Ideal S1408x1024 .bf16) (acc : Vec Ideal S512x1024 .f32) (j : S512x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 2 = 0) (j : S512x1024.Idx) :
    (outsAt0 m c t.val t.isLt).2 j = part (iblk m c 0 t) (iblk m c 1 t) j := by
  rw [outsAt0_A m c t h (by omega) (by omega)]
  frame_out
  rw [pay2]

/-- The accumulator after a later range: one product more. -/
theorem scr_next (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j + part (iblk m c 0 t) (iblk m c 1 t) j := by
  rw [outsAt0_B m c t h (by omega) (by omega)]
  frame_out
  rw [pay3, read_unread_whole]

/-- What is written out at the last range. -/
theorem out_last (c : Dev nD) (t : Fin cfg0.N) (h : t.val % 2 = 2 - 1) :
    (outsAt0 m c t.val t.isLt).1 = (outsAt0 m c t.val t.isLt).2 := by
  rw [outsAt0_B m c t (by omega) (by omega) h]
  frame_out

theorem final2 (c : Dev nD) : (dats m 0 c).arrAt 2 cfg0.N
    = val_main_v1 (F := Ideal) (m ((c : Thread nD τ).loc main_arg1)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 2 (fun _ => (0 : EReal)) _
      (fun t h j => (scr_first m c t h j).trans (zero_add _).symm) (fun t h j => scr_next m c t h j) t hr _, zero_add]
  rw [val_main_v1_apply]
  refine Fin.sum_mul_add_congr fun s k hl => ?_
  blk_point [iblk, V, idx t, idx ⟨_, Pipeline.run_point_lt_of_flush t hr s⟩]

end Cert.DhIdeal.Final

end
-- ==== Proof.ProjAtt.lean ====
/- The columns of the projection that the attention takes: one product for each block of rows. -/
module

public import proofs.«01_k».proof.Proof.Gen.ProjAttIdeal.Value
public import proofs.«01_k».proof.Proof.Gen.ProjAttRefIdeal.Run
public import proofs.«01_k».proof.Proof.Gen.ProjAttRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjAttIdeal.Final

open Cert.ProjAttIdeal Cert.ProjAttIdeal.Gen Cert.ProjAttRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem final2 (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, val_main_v0]
  blk_point [iblk, V, idx t]

end Cert.ProjAttIdeal.Final

end
-- ==== Proof.ProjGate.lean ====
/- The columns of the projection that the gates take: one product for each block of rows and of columns. -/
module

public import proofs.«01_k».proof.Proof.Gen.ProjGateIdeal.Value
public import proofs.«01_k».proof.Proof.Gen.ProjGateRefIdeal.Run
public import proofs.«01_k».proof.Proof.Gen.ProjGateRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjGateIdeal.Final

open Cert.ProjGateIdeal Cert.ProjGateIdeal.Gen Cert.ProjGateRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem final2 (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, val_main_v0]
  blk_point [iblk, V, idx t]

end Cert.ProjGateIdeal.Final

end
-- ==== Proof.ProjRwkv.lean ====
/- The columns of the projection that the recurrence takes: one product for each block of rows and of columns. -/
module

public import proofs.«01_k».proof.Proof.Gen.ProjRwkvIdeal.Value
public import proofs.«01_k».proof.Proof.Gen.ProjRwkvRefIdeal.Run
public import proofs.«01_k».proof.Proof.Gen.ProjRwkvRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjRwkvIdeal.Final

open Cert.ProjRwkvIdeal Cert.ProjRwkvIdeal.Gen Cert.ProjRwkvRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

theorem final2 (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, val_main_v0]
  blk_point [iblk, V, idx t]

end Cert.ProjRwkvIdeal.Final

end
-- ==== Proof.BranchRwkv.lean ====
/- The product after the recurrence: one product for each block of rows. -/
module

public import proofs.«01_k».proof.Proof.Gen.BranchRwkvIdeal.Value
public import proofs.«01_k».proof.Proof.Gen.BranchRwkvRefIdeal.Run
public import proofs.«01_k».proof.Proof.Gen.BranchRwkvRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchRwkvIdeal.Final

open Cert.BranchRwkvIdeal Cert.BranchRwkvIdeal.Gen Cert.BranchRwkvRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem final2 (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, val_main_v0]
  blk_point [iblk, V, idx t]

end Cert.BranchRwkvIdeal.Final

end
-- ==== Proof.BranchAtt.lean ====
/- The product after the attention: one product for each block of rows. -/
module

public import proofs.«01_k».proof.Proof.Gen.BranchAttIdeal.Value
public import proofs.«01_k».proof.Proof.Gen.BranchAttRefIdeal.Run
public import proofs.«01_k».proof.Proof.Gen.BranchAttRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchAttIdeal.Final

open Cert.BranchAttIdeal Cert.BranchAttIdeal.Gen Cert.BranchAttRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem final2 (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, val_main_v0]
  blk_point [iblk, V, idx t]

end Cert.BranchAttIdeal.Final

end
-- ==== Proof.MixOut.lean ====
/- The mixing block's last product, added to the residual rows: one product for each block of rows. -/
module

public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.MixOutIdeal.Final

open Cert.MixOutIdeal Cert.MixOutIdeal.Gen Cert.MixOutRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem final3 (c : Dev nD) : (dats m 0 c).arrAt 3 cfg0.N
    = val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, k0_pay2, k0_pay4, val_main_v0, val_main_v1]
  blk_point [iblk, V, idx t]

end Cert.MixOutIdeal.Final

end
-- ==== Proof.DMerge.lean ====
/- The gradient of the merged branches: one product for each block of rows. -/
module

public import proofs.«01_k».proof.Proof.Gen.DMergeIdeal.Value
public import proofs.«01_k».proof.Proof.Gen.DMergeRefIdeal.Run
public import proofs.«01_k».proof.Proof.Gen.DMergeRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.DMergeIdeal.Final

open Cert.DMergeIdeal Cert.DMergeIdeal.Gen Cert.DMergeRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem final2 (c : Dev nD) : (dats m 0 c).arrAt 2 cfg0.N
    = val_main_v1 (F := Ideal) (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  pointwise [k0_pay1, k0_pay2, val_main_v0, val_main_v1]
  blk_point [iblk, V, idx t]

end Cert.DMergeIdeal.Final

end
-- ==== Proof.DWOut.lean ====
/- The gradient of the mixing block's last weights: summed over four ranges of the rows
   in an accumulator, and written out at the last. -/
module

public import proofs.«01_k».proof.Proof.Gen.DWOutIdeal.Value
public import proofs.«01_k».proof.Proof.Gen.DWOutRefIdeal.Run
public import proofs.«01_k».proof.Proof.Gen.DWOutRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DWOutIdeal.Final

open Cert.DWOutIdeal Cert.DWOutIdeal.Gen Cert.DWOutRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![t.val, 0]
    ∧ win0_2.index t = ![0, 0] :=
  (by decide +kernel : ∀ t : Fin grid0.N, _)

/-- The product of the two blocks at hand, one element of it. -/
abbrev part (v0 : Vec Ideal S1024x1024 .bf16) (v2 : Vec Ideal S1024x1024 .f32) (j : S1024x1024.Idx) : EReal :=
  ∑ k : Fin 1024, v0 (ix2 k (j 0)) * v2 (ix2 k (j 1))

theorem pay2 (v0 : Vec Ideal S1024x1024 .bf16) (v2 : Vec Ideal S1024x1024 .f32) (j : S1024x1024.Idx) :
    k0_pay2 v0 v2 j = part v0 v2 j := by
  pointwise [k0_pay1, k0_pay2]

theorem pay3 (v0 : Vec Ideal S1024x1024 .bf16) (v2 : Vec Ideal S1024x1024 .f32) (acc : Vec Ideal S1024x1024 .f32) (j : S1024x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S1024x1024.Idx) :
    (outsAt0 m c t.val t.isLt).2 j = part (iblk m c 0 t) (iblk m c 1 t) j := by
  have hN : t.val < 4 := lt_of_lt_of_eq t.isLt (by decide)
  rw [outsAt0_A m c t h (by omega) (by omega)]
  frame_out
  rw [pay2]

/-- The accumulator after a later range: one product more. -/
theorem scr_next (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v2 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v2_apply, val_main_v1_apply]
  refine Fin.sum_mul_add_congr fun s k hl => (mul_comm (_ : EReal) _).trans ?_
  blk_point [iblk, V, idx t, idx ⟨_, Pipeline.run_point_lt_of_flush t hr s⟩]

end Cert.DWOutIdeal.Final

end
-- ==== Proof.DY.lean ====
/- The gradient of a branch's own result: one product for each block of rows. -/
module

public import proofs.«01_k».proof.Proof.Gen.DYIdeal.Value
public import proofs.«01_k».proof.Proof.Gen.DYRefIdeal.Run
public import proofs.«01_k».proof.Proof.Gen.DYRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.DYIdeal.Final

open Cert.DYIdeal Cert.DYIdeal.Gen Cert.DYRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem final2 (c : Dev nD) : (dats m 0 c).arrAt 2 cfg0.N
    = val_main_v1 (F := Ideal) (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  pointwise [k0_pay1, k0_pay2, val_main_v0, val_main_v1]
  blk_point [iblk, V, idx t]

end Cert.DYIdeal.Final

end
-- ==== Proof.DWBranchRwkv.lean ====
/- The gradient of the weights after the recurrence: summed over four ranges of the rows
   in an accumulator, and written out at the last. -/
module

public import proofs.«01_k».proof.Proof.Gen.DWBranchRwkvIdeal.Value
public import proofs.«01_k».proof.Proof.Gen.DWBranchRwkvRefIdeal.Run
public import proofs.«01_k».proof.Proof.Gen.DWBranchRwkvRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DWBranchRwkvIdeal.Final

open Cert.DWBranchRwkvIdeal Cert.DWBranchRwkvIdeal.Gen Cert.DWBranchRwkvRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![t.val, 0]
    ∧ win0_2.index t = ![0, 0] :=
  (by decide +kernel : ∀ t : Fin grid0.N, _)

/-- The product of the two blocks at hand, one element of it. -/
abbrev part (v0 : Vec Ideal S1024x512 .bf16) (v2 : Vec Ideal S1024x1024 .bf16) (j : S512x1024.Idx) : EReal :=
  ∑ k : Fin 1024, v0 (ix2 k (j 0)) * v2 (ix2 k (j 1))

theorem pay2 (v0 : Vec Ideal S1024x512 .bf16) (v2 : Vec Ideal S1024x1024 .bf16) (j : S512x1024.Idx) :
    k0_pay2 v0 v2 j = part v0 v2 j := by
  pointwise [k0_pay1, k0_pay2]

theorem pay3 (v0 : Vec Ideal S1024x512 .bf16) (v2 : Vec Ideal S1024x1024 .bf16) (acc : Vec Ideal S512x1024 .f32) (j : S512x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S512x1024.Idx) :
    (outsAt0 m c t.val t.isLt).2 j = part (iblk m c 0 t) (iblk m c 1 t) j := by
  have hN : t.val < 4 := lt_of_lt_of_eq t.isLt (by decide)
  rw [outsAt0_A m c t h (by omega) (by omega)]
  frame_out
  rw [pay2]

/-- The accumulator after a later range: one product more. -/
theorem scr_next (c : Dev nD) (t : Fin cfg0.N) (h : ¬t.val % 4 = 0) (j : S512x1024.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v2 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v2_apply, val_main_v1_apply]
  refine Fin.sum_mul_add_congr fun s k hl => (mul_comm (_ : EReal) _).trans ?_
  blk_point [iblk, V, idx t, idx ⟨_, Pipeline.run_point_lt_of_flush t hr s⟩]

end Cert.DWBranchRwkvIdeal.Final

end
-- ==== Proof.DWBranchAtt.lean ====
/- The gradient of the weights after the attention: summed over four ranges of the rows
   in an accumulator, and written out at the last. -/
module

public import proofs.«01_k».proof.Proof.Gen.DWBranchAttIdeal.Value
public import proofs.«01_k».proof.Proof.Gen.DWBranchAttRefIdeal.Run
public import proofs.«01_k».proof.Proof.Gen.DWBranchAttRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DWBranchAttIdeal.Final

open Cert.DWBranchAttIdeal Cert.DWBranchAttIdeal.Gen Cert.DWBranchAttRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![t.val, 0]
    ∧ win0_2.index t = ![0, 0] :=
  (by decide +kernel : ∀ t : Fin grid0.N, _)

/-- The product of the two blocks at hand, one element of it. -/
abbrev part (v0 : Vec Ideal S1024x512 .f32) (v2 : Vec Ideal S1024x1024 .bf16) (j : S512x1024.Idx) : EReal :=
  ∑ k : Fin 1024, v0 (ix2 k (j 0)) * v2 (ix2 k (j 1))

theorem pay2 (v0 : Vec Ideal S1024x512 .f32) (v2 : Vec Ideal S1024x1024 .bf16) (j : S512x1024.Idx) :
    k0_pay2 v0 v2 j = part v0 v2 j := by
  pointwise [k0_pay1, k0_pay2]

theorem pay3 (v0 : Vec Ideal S1024x512 .f32) (v2 : Vec Ideal S1024x1024 .bf16) (acc : Vec Ideal S512x1024 .f32) (j : S512x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S512x1024.Idx) :
    (outsAt0 m c t.val t.isLt).2 j = part (iblk m c 0 t) (iblk m c 1 t) j := by
  have hN : t.val < 4 := lt_of_lt_of_eq t.isLt (by decide)
  rw [outsAt0_A m c t h (by omega) (by omega)]
  frame_out
  rw [pay2]

/-- The accumulator after a later range: one product more. -/
theorem scr_next (c : Dev nD) (t : Fin cfg0.N) (h : ¬t.val % 4 = 0) (j : S512x1024.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v2 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v2_apply, val_main_v1_apply]
  refine Fin.sum_mul_add_congr fun s k hl => (mul_comm (_ : EReal) _).trans ?_
  blk_point [iblk, V, idx t, idx ⟨_, Pipeline.run_point_lt_of_flush t hr s⟩]

end Cert.DWBranchAttIdeal.Final

end
-- ==== Proof.DWInAtt.lean ====
/- The gradient of the attention's columns of the projection: summed over four ranges of the rows
   in an accumulator, and written out at the last. -/
module

public import proofs.«01_k».proof.Proof.Gen.DWInAttIdeal.Value
public import proofs.«01_k».proof.Proof.Gen.DWInAttRefIdeal.Run
public import proofs.«01_k».proof.Proof.Gen.DWInAttRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DWInAttIdeal.Final

open Cert.DWInAttIdeal Cert.DWInAttIdeal.Gen Cert.DWInAttRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![t.val, 0]
    ∧ win0_2.index t = ![0, 0] :=
  (by decide +kernel : ∀ t : Fin grid0.N, _)

/-- The product of the two blocks at hand, one element of it. -/
abbrev part (v0 : Vec Ideal S1024x1024 .bf16) (v2 : Vec Ideal S1024x768 .f32) (j : S1024x768.Idx) : EReal :=
  ∑ k : Fin 1024, v0 (ix2 k (j 0)) * v2 (ix2 k (j 1))

theorem pay2 (v0 : Vec Ideal S1024x1024 .bf16) (v2 : Vec Ideal S1024x768 .f32) (j : S1024x768.Idx) :
    k0_pay2 v0 v2 j = part v0 v2 j := by
  pointwise [k0_pay1, k0_pay2]

theorem pay3 (v0 : Vec Ideal S1024x1024 .bf16) (v2 : Vec Ideal S1024x768 .f32) (acc : Vec Ideal S1024x768 .f32) (j : S1024x768.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S1024x768.Idx) :
    (outsAt0 m c t.val t.isLt).2 j = part (iblk m c 0 t) (iblk m c 1 t) j := by
  have hN : t.val < 4 := lt_of_lt_of_eq t.isLt (by decide)
  rw [outsAt0_A m c t h (by omega) (by omega)]
  frame_out
  rw [pay2]

/-- The accumulator after a later range: one product more. -/
theorem scr_next (c : Dev nD) (t : Fin cfg0.N) (h : ¬t.val % 4 = 0) (j : S1024x768.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v2 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v2_apply, val_main_v1_apply]
  refine Fin.sum_mul_add_congr fun s k hl => (mul_comm (_ : EReal) _).trans ?_
  blk_point [iblk, V, idx t, idx ⟨_, Pipeline.run_point_lt_of_flush t hr s⟩]

end Cert.DWInAttIdeal.Final

end
-- ==== Proof.DWInGate.lean ====
/- The gradient of the gates' columns of the projection: summed over four ranges of the rows
   in an accumulator, and written out at the last. -/
module

public import proofs.«01_k».proof.Proof.Gen.DWInGateIdeal.Value
public import proofs.«01_k».proof.Proof.Gen.DWInGateRefIdeal.Run
public import proofs.«01_k».proof.Proof.Gen.DWInGateRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DWInGateIdeal.Final

open Cert.DWInGateIdeal Cert.DWInGateIdeal.Gen Cert.DWInGateRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The product of the two blocks at hand, one element of it. -/
abbrev part (v0 : Vec Ideal S1024x1024 .bf16) (v2 : Vec Ideal S1024x1024 .f32) (j : S1024x1024.Idx) : EReal :=
  ∑ k : Fin 1024, v0 (ix2 k (j 0)) * v2 (ix2 k (j 1))

theorem pay2 (v0 : Vec Ideal S1024x1024 .bf16) (v2 : Vec Ideal S1024x1024 .f32) (j : S1024x1024.Idx) :
    k0_pay2 v0 v2 j = part v0 v2 j := by
  pointwise [k0_pay1, k0_pay2]

theorem pay3 (v0 : Vec Ideal S1024x1024 .bf16) (v2 : Vec Ideal S1024x1024 .f32) (acc : Vec Ideal S1024x1024 .f32) (j : S1024x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S1024x1024.Idx) :
    (outsAt0 m c t.val t.isLt).2 j = part (iblk m c 0 t) (iblk m c 1 t) j := by
  rw [outsAt0_A m c t h (by omega) (by omega)]
  frame_out
  rw [pay2]

/-- The accumulator after a later range: one product more. -/
theorem scr_next (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v2 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v2_apply, val_main_v1_apply]
  refine Fin.sum_mul_add_congr fun s k hl => (mul_comm (_ : EReal) _).trans ?_
  blk_point [iblk, V, idx t, idx ⟨_, Pipeline.run_point_lt_of_flush t hr s⟩]

end Cert.DWInGateIdeal.Final

end
-- ==== Proof.DWInRwkv.lean ====
/- The gradient of the recurrence's columns of the projection: summed over four ranges of the rows
   in an accumulator, and written out at the last. -/
module

public import proofs.«01_k».proof.Proof.Gen.DWInRwkvIdeal.Value
public import proofs.«01_k».proof.Proof.Gen.DWInRwkvRefIdeal.Run
public import proofs.«01_k».proof.Proof.Gen.DWInRwkvRefIdeal.Read
public import proofs.«01_k».proof.Proof.Sums
public import Idealize.ShloMosaic.Lib.Pipeline.ValueKit
public import Idealize.ShloMosaic.Lib.Pipeline.ReadBack
public import Idealize.ShloMosaic.Lib.Claim

@[expose] public section

set_option maxRecDepth 16384

noncomputable section

namespace Cert.DWInRwkvIdeal.Final

open Cert.DWInRwkvIdeal Cert.DWInRwkvIdeal.Gen Cert.DWInRwkvRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The product of the two blocks at hand, one element of it. -/
abbrev part (v0 : Vec Ideal S1024x1024 .bf16) (v2 : Vec Ideal S1024x640 .f32) (j : S1024x640.Idx) : EReal :=
  ∑ k : Fin 1024, v0 (ix2 k (j 0)) * v2 (ix2 k (j 1))

theorem pay2 (v0 : Vec Ideal S1024x1024 .bf16) (v2 : Vec Ideal S1024x640 .f32) (j : S1024x640.Idx) :
    k0_pay2 v0 v2 j = part v0 v2 j := by
  pointwise [k0_pay1, k0_pay2]

theorem pay3 (v0 : Vec Ideal S1024x1024 .bf16) (v2 : Vec Ideal S1024x640 .f32) (acc : Vec Ideal S1024x640 .f32) (j : S1024x640.Idx) :
    k0_pay3 v0 v2 acc j = acc j + part v0 v2 j := by
  pointwise [k0_pay1, k0_pay3]

/-- The accumulator after the first range: the product of that range alone. -/
theorem scr_first (c : Dev nD) (t : Fin cfg0.N) (h : t.val % 4 = 0) (j : S1024x640.Idx) :
    (outsAt0 m c t.val t.isLt).2 j = part (iblk m c 0 t) (iblk m c 1 t) j := by
  rw [outsAt0_A m c t h (by omega) (by omega)]
  frame_out
  rw [pay2]

/-- The accumulator after a later range: one product more. -/
theorem scr_next (c : Dev nD) (t : Fin cfg0.N) (h : ¬t.val % 4 = 0) (j : S1024x640.Idx) :
    (outsAt0 m c t.val t.isLt).2 j
      = (outsAt0 m c (t.val - 1) (Nat.lt_of_le_of_lt (Nat.sub_le _ _) t.isLt)).2 j + part (iblk m c 0 t) (iblk m c 1 t) j := by
  by_cases hl : t.val % 4 = 3
  · rw [outsAt0_C m c t h (by omega) hl]
    frame_out
    rw [pay3, read_unread_whole]
  · rw [outsAt0_B m c t h (by omega) hl]
    frame_out
    rw [pay3, read_unread_whole]

/-- What is written out at the last range. -/
theorem out_last (c : Dev nD) (t : Fin cfg0.N) (h : t.val % 4 = 4 - 1) :
    (outsAt0 m c t.val t.isLt).1 = (outsAt0 m c t.val t.isLt).2 := by
  rw [outsAt0_C m c t (by omega) (by omega) h]
  frame_out

theorem final2 (c : Dev nD) : (dats m 0 c).arrAt 2 cfg0.N
    = val_main_v2 (F := Ideal) (m ((c : Thread nD τ).loc main_arg0)) (m ((c : Thread nD τ).loc main_arg2)) := by
  refine (dats m 0 c).arrAt_eq_of_covers 2 _ (by decide +kernel) fun t hf y => ?_
  blk_simp
  have hr := (flush0_2 t).mp hf
  rw [after0_2, out_last m c t hr,
    Pipeline.eq_sum_fin_of_reset_step_apply_of_flush (fun n h => (outsAt0 m c n h).2) 4 (fun _ => (0 : EReal)) _
      (fun t h j => (scr_first m c t h j).trans (zero_add _).symm) (fun t h j => scr_next m c t h j) t hr _, zero_add]
  rw [val_main_v2_apply, val_main_v1_apply]
  refine Fin.sum_mul_add_congr fun s k hl => (mul_comm (_ : EReal) _).trans ?_
  blk_point [iblk, V, idx t, idx ⟨_, Pipeline.run_point_lt_of_flush t hr s⟩]

end Cert.DWInRwkvIdeal.Final

end
-- ==== Proof.DH2Att.lean ====
/- What the attention's columns add to the gradient of the normed rows: one product for each block of rows. -/
module

public import proofs.«01_k».proof.Proof.Gen.DH2AttIdeal.Value
public import proofs.«01_k».proof.Proof.Gen.DH2AttRefIdeal.Run
public import proofs.«01_k».proof.Proof.Gen.DH2AttRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.DH2AttIdeal.Final

open Cert.DH2AttIdeal Cert.DH2AttIdeal.Gen Cert.DH2AttRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem final3 (c : Dev nD) : (dats m 0 c).arrAt 3 cfg0.N
    = val_main_v2 (F := Ideal) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  unfold outsAt0
  frame_out
  pointwise [k0_pay1, k0_pay2, k0_pay4, val_main_v0, val_main_v1, val_main_v2]
  blk_point [iblk, V, idx t]

end Cert.DH2AttIdeal.Final

end
-- ==== Proof.RowNorm.lean ====
/- The gradient of one row through a norm by its root mean square, on extended reals: the form that uses the normed row,
   and the form that differentiates the root of the mean. They are equal, infinite elements included. -/
module

public import proofs.«01_k».proof.Proof.Gating

@[expose] public section

noncomputable section

namespace Cert.RowNorm

open Idealize.ShloMosaic Cert.Gating

/-- The row length, as a literal. -/
theorem len_eq : Ideal.ofBits .f32 0x44800000#32 = ((1024 : ℝ) : EReal) := by
  simp [Ideal.ofBits, Ideal.ieee, -EReal.coe_mul]; norm_num

/-- Minus one half, as a literal. -/
theorem neg_half_eq : Ideal.ofBits .f32 0xBF000000#32 = ((-(1 / 2) : ℝ) : EReal) := by
  simp [Ideal.ofBits, Ideal.ieee, -EReal.coe_mul, -EReal.coe_neg]; norm_num

/-- The term added to the mean is a positive number. -/
theorem eps_eq : ∃ e : ℝ, 0 < e ∧ Ideal.ofBits .f32 0x358637BD#32 = (e : EReal) := by
  refine ⟨(8796093 * (2 ^ 43)⁻¹ : ℝ), by positivity, ?_⟩
  simp [Ideal.ofBits, Ideal.ieee, -EReal.coe_mul]

theorem coe_sum {n : ℕ} (f : Fin n → ℝ) : ∑ k, (f k : EReal) = ((∑ k, f k : ℝ) : EReal) :=
  (map_sum (⟨⟨fun r : ℝ => (r : EReal), EReal.coe_zero⟩, EReal.coe_add⟩ : ℝ →+ EReal) f Finset.univ).symm

/-- The mean of the squares, and the small term. -/
abbrev meanSq {n : ℕ} (x : Fin n → EReal) : EReal :=
  Ideal.div (∑ k, x k * x k) (Ideal.ofBits .f32 0x44800000#32) + Ideal.ofBits .f32 0x358637BD#32

/-- One over its root. -/
abbrev inv {n : ℕ} (x : Fin n → EReal) : EReal := Ideal.rsqrt (meanSq x)

theorem meanSq_coe {n : ℕ} (x : Fin n → ℝ) : ∃ M : ℝ, 0 < M ∧ meanSq (fun k => (x k : EReal)) = (M : EReal) := by
  obtain ⟨e, he, h⟩ := eps_eq
  refine ⟨(∑ k, x k * x k) * (1 / 1024) + e, ?_, ?_⟩
  · have : 0 ≤ ∑ k, x k * x k := Finset.sum_nonneg fun k _ => mul_self_nonneg _
    positivity
  · show Ideal.div _ _ + _ = _
    rw [h, len_eq, Ideal.div_coe (by norm_num)]
    simp only [← EReal.coe_mul]
    rw [coe_sum, ← EReal.coe_mul, ← EReal.coe_add]

/-- A row with an infinite element: the mean of its squares is infinite. -/
theorem meanSq_top {n : ℕ} (x : Fin n → EReal) (k : Fin n) (hk : x k = ⊤ ∨ x k = ⊥) : meanSq x = ⊤ := by
  obtain ⟨e, he, h⟩ := eps_eq
  have h0 : ∀ q, 0 ≤ x q * x q := fun q => by
    induction x q using EReal.rec with
    | bot => simp
    | top => simp
    | coe r => exact_mod_cast mul_self_nonneg r
  have hs : ∑ q, x q * x q = ⊤ := by
    refine top_le_iff.mp ((?_ : ⊤ ≤ x k * x k).trans (Finset.single_le_sum (fun q _ => h0 q) (Finset.mem_univ k)))
    rcases hk with hk | hk <;> simp [hk]
  show Ideal.div _ _ + _ = _
  rw [hs, h, len_eq, Ideal.div_coe (by norm_num), EReal.top_mul_coe_of_pos (by norm_num), EReal.top_add_coe]

theorem twice (S : EReal) (a : ℝ) : S * (a : EReal) + S * (a : EReal) = S * ((2 * a : ℝ) : EReal) := by
  have h : ∀ y : EReal, y + y = y * ((2 : ℝ) : EReal) := fun y => by
    induction y using EReal.rec with
    | bot => rw [EReal.bot_mul_coe_of_pos (by norm_num)]; rfl
    | top => rw [EReal.top_mul_coe_of_pos (by norm_num)]; rfl
    | coe r => rw [← EReal.coe_add, ← EReal.coe_mul]; congr 1; ring
  rw [h, mul_assoc, ← EReal.coe_mul, mul_comm a]

/-- The two forms of the gradient at one element of the row, added to `e`. -/
theorem grad {n : ℕ} (x d : Fin n → EReal) (e : EReal) (j : Fin n) :
    e + inv x * (d j - x j * inv x * Ideal.div (∑ k, d k * (x k * inv x)) (Ideal.ofBits .f32 0x44800000#32))
      = e + d j * inv x
        + x j * Ideal.div ((∑ k, x k * d k) * (Ideal.ofBits .f32 0xBF000000#32 * Ideal.div (inv x) (meanSq x))) (Ideal.ofBits .f32 0x44800000#32)
        + Ideal.div ((∑ k, x k * d k) * (Ideal.ofBits .f32 0xBF000000#32 * Ideal.div (inv x) (meanSq x))) (Ideal.ofBits .f32 0x44800000#32) * x j := by
  rw [len_eq, neg_half_eq, Ideal.div_coe (by norm_num), Ideal.div_coe (by norm_num)]
  by_cases hx : ∃ k, x k = ⊤ ∨ x k = ⊥
  · obtain ⟨k, hk⟩ := hx
    have h0 : inv x = 0 := by
      show Ideal.rsqrt (meanSq x) = 0
      rw [meanSq_top x k hk, Ideal.rsqrt_top]
    rw [h0, meanSq_top x k hk, Ideal.zero_div (by simp)]
    simp
  have hr : ∀ k, Real' (x k) := fun k => by
    exact ⟨(x k).toReal, (EReal.coe_toReal (fun h => hx ⟨k, .inl h⟩) (fun h => hx ⟨k, .inr h⟩)).symm⟩
  choose X hX using hr
  obtain rfl : x = fun k => (X k : EReal) := funext hX
  obtain ⟨M, hM, hm⟩ := meanSq_coe X
  have hi : inv (fun k => (X k : EReal)) = (((Real.sqrt M)⁻¹ : ℝ) : EReal) := by
    show Ideal.rsqrt (meanSq _) = _
    rw [hm, Ideal.rsqrt_coe, if_neg (not_lt.mpr hM.le), if_neg hM.ne']
  have hs : Real.sqrt M * Real.sqrt M = M := Real.mul_self_sqrt hM.le
  have hp : 0 < Real.sqrt M := Real.sqrt_pos.mpr hM
  rw [hi, hm, Ideal.div_coe hM.ne']
  set s := Real.sqrt M
  have h0 : (0 : EReal) ≤ ((s⁻¹ : ℝ) : EReal) := by exact_mod_cast (inv_pos.mpr hp).le
  have hsum : ∑ k, d k * ((X k : EReal) * ((s⁻¹ : ℝ) : EReal)) = (∑ k, (X k : EReal) * d k) * ((s⁻¹ : ℝ) : EReal) := by
    rw [Sums.sum_mul_of_nonneg _ _ _ h0 (EReal.coe_ne_top _)]
    exact Finset.sum_congr rfl fun k _ => by rw [← mul_assoc, mul_comm (d k)]
  rw [hsum]
  generalize ∑ k, (X k : EReal) * d k = S
  have hl : (X j : EReal) * ((s⁻¹ : ℝ) : EReal) * (S * ((s⁻¹ : ℝ) : EReal) * ((1 / 1024 : ℝ) : EReal))
      = S * ((X j * s⁻¹ * s⁻¹ * (1 / 1024) : ℝ) : EReal) := by
    simp only [EReal.coe_mul]
    ac_rfl
  have hT : (X j : EReal) * (S * (((-(1 / 2) : ℝ) : EReal) * (((s⁻¹ : ℝ) : EReal) * ((1 / M : ℝ) : EReal))) * ((1 / 1024 : ℝ) : EReal))
      = S * ((X j * (-(1 / 2)) * s⁻¹ * (1 / M) * (1 / 1024) : ℝ) : EReal) := by
    simp only [EReal.coe_mul]
    ac_rfl
  rw [mul_comm _ (X j : EReal), hT, hl, add_assoc (e + _), twice, sub_eq_add_neg,
    EReal.left_distrib_of_nonneg_of_ne_top h0 (EReal.coe_ne_top _), ← add_assoc, mul_comm (d j), ← mul_neg, ← EReal.coe_neg,
    mul_left_comm, ← EReal.coe_mul]
  congr 3
  rw [← hs]
  field_simp

end Cert.RowNorm

end
-- ==== Proof.DhUp.lean ====
/- The products of the two ranges are added up; the second range carries the sum through the gradient of the norm of its
   rows and adds up the gradient of the norm's weights. The two forms of the first gradient are equal. -/
module

public import proofs.«01_k».proof.Proof.Gen.DhUpIdeal.Value
public import proofs.«01_k».proof.Proof.Gen.DhUpRefIdeal.Run
public import proofs.«01_k».proof.Proof.Gen.DhUpRefIdeal.Read
public import proofs.«01_k».proof.Proof.RowNorm
public import Idealize.ShloMosaic.Lib.Pipeline.ValueKit
public import Idealize.ShloMosaic.Lib.Pipeline.ReadBack
public import Idealize.ShloMosaic.Lib.Claim

@[expose] public section

set_option maxRecDepth 16384

noncomputable section

namespace Cert.DhUpIdeal.Final

open Cert.DhUpIdeal Cert.DhUpIdeal.Gen Cert.DhUpRefIdeal.Read
open Idealize.ShloMosaic Idealize.ShloMosaic.TcCoe Idealize.SL.Sem
open Idealize.ShloMosaic.Pipeline (Dat)
open Cert.RowNorm

variable (m : (ℓ : Loc nD τ sig) → Buf (Elt Ideal) ℓ) (ρ : Dev nD → PrngReg)

/-- The block of each window at grid point `t`. -/
theorem idx : ∀ t : Fin cfg0.N, win0_0.index t = ![t.val / 2, t.val % 2] ∧ win0_1.index t = ![t.val % 2, 0]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

/-- The product of the two blocks at hand, one element of it. -/
abbrev part (v0 : Vec Ideal S512x1408 .bf16) (v2 : Vec Ideal S1408x1024 .bf16) (j : S512x1024.Idx) : EReal :=
  ∑ k : Fin 1408, v0 (ix2 (j 0) k) * v2 (ix2 k (j 1))

theorem pay2 (v0 : Vec Ideal S512x1408 .bf16) (v2 : Vec Ideal S1408x1024 .bf16) (j : S512x1024.Idx) :
    k0_pay2 v0 v2 j = part v0 v2 j := by
  pointwise [k0_pay1, k0_pay2]

theorem pay3 (v0 : Vec Ideal S512x1408 .bf16) (v2 : Vec Ideal S1408x1024 .bf16) (acc : Vec Ideal S512x1024 .f32) (j : S512x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 2 = 0) (j : S512x1024.Idx) :
    (outsAt0 m c t.val t.isLt).2.2 j = part (iblk m c 0 t) (iblk m c 1 t) j := by
  rw [outsAt0_A m c t h (by omega) (by omega)]
  frame_out
  rw [pay2]

/-- The accumulator after the second range: one product more. -/
theorem scr_next (c : Dev nD) (t : Fin cfg0.N) (h : ¬t.val % 2 = 0) (j : S512x1024.Idx) :
    (outsAt0 m c t.val t.isLt).2.2 j
      = (outsAt0 m c (t.val - 1) (Nat.lt_of_le_of_lt (Nat.sub_le _ _) t.isLt)).2.2 j + part (iblk m c 0 t) (iblk m c 1 t) j := by
  by_cases hl : t.val < 2
  · rw [outsAt0_B m c t h (by omega) (by omega) hl (by omega)]
    frame_out
    rw [pay3, read_unread_whole]
  · rw [outsAt0_C m c t h (by omega) (by omega) hl (by omega)]
    frame_out
    rw [pay3, read_unread_whole]

theorem scr_upd (c : Dev nD) (t : Fin cfg0.N) (h : ¬t.val % 2 = 0) :
    k0_pay3 (iblk m c 0 t) (iblk m c 1 t) (outsAt0 m c (t.val - 1) (Nat.lt_of_le_of_lt (Nat.sub_le _ _) t.isLt)).2.2
      = (outsAt0 m c t.val t.isLt).2.2 :=
  funext fun j => (pay3 _ _ _ j).trans (scr_next m c t h j).symm

/-- The whole product, once both ranges are in. -/
theorem acc (c : Dev nD) (t : Fin cfg0.N) (hr : t.val % 2 = 2 - 1) (j : S512x1024.Idx) (i : S4096x1024.Idx)
    (h0 : (i 0).val = t.val / 2 * 512 + (j 0).val) (h1 : (i 1).val = (j 1).val) :
    (outsAt0 m c t.val t.isLt).2.2 j = val_main_v17 (F := Ideal) (m ((c : Thread nD τ).loc main_arg2)) (m ((c : Thread nD τ).loc main_arg4)) i := by
  rw [Pipeline.eq_sum_fin_of_reset_step_apply_of_flush (fun n h => (outsAt0 m c n h).2.2) 2 (fun _ => (0 : EReal)) _
      (fun t h j => (scr_first m c t h j).trans (zero_add _).symm) (fun t h j => scr_next m c t h j) t hr _, zero_add,
    val_main_v17_apply]
  refine Fin.sum_mul_add_congr fun s k hl => ?_
  blk_point [iblk, V, idx t, idx ⟨_, Pipeline.run_point_lt_of_flush t hr s⟩]

/-- The gradient that reaches the normed rows: the product and what came from elsewhere. -/
abbrev o (c : Dev nD) (t : Fin cfg0.N) (j : S512x1024.Idx) : EReal :=
  (outsAt0 m c t.val t.isLt).2.2 j + (iblk m c 2 t : Vec Ideal S512x1024 .f32) j

/-- One row. -/
abbrev row (c : Dev nD) (t : Fin cfg0.N) (a : Fin 512) (k : Fin 1024) : EReal :=
  (iblk m c 3 t : Vec Ideal S512x1024 .f32) (ix2 a k)

/-- The gradient before the norm's weights. -/
abbrev d (c : Dev nD) (t : Fin cfg0.N) (a : Fin 512) (k : Fin 1024) : EReal :=
  o m c t (ix2 a k) * (iblk m c 4 t : Vec Ideal S1x1024 .f32) (ix2 0 k)

/-- The gradient that reaches the row past the block. -/
abbrev e (c : Dev nD) (t : Fin cfg0.N) (j : S512x1024.Idx) : EReal := (iblk m c 5 t : Vec Ideal S512x1024 .f32) j

/-- What is written to the rows at the second range. -/
theorem out_row (c : Dev nD) (t : Fin cfg0.N) (h : t.val % 2 = 1) (j : S512x1024.Idx) :
    (outsAt0 m c t.val t.isLt).1 j = e m c t j
      + inv (row m c t (j 0)) * (d m c t (j 0) (j 1) - row m c t (j 0) (j 1) * inv (row m c t (j 0))
        * Ideal.div (∑ q, d m c t (j 0) q * (row m c t (j 0) q * inv (row m c t (j 0)))) (Ideal.ofBits .f32 0x44800000#32)) := by
  have hz : ¬t.val % 2 = 0 := by omega
  obtain ⟨a, k, rfl⟩ : ∃ (a : Fin 512) (k : Fin 1024), j = ix2 a k :=
    ⟨j 0, j 1, funext fun i => by match i with | ⟨0, _⟩ => rfl | ⟨1, _⟩ => rfl⟩
  by_cases hl : t.val < 2
  · rw [outsAt0_B m c t (by omega) h h hl (by omega)]
    frame_out
    rw [read_unread_whole, scr_upd m c t hz]
    pointwise [k0_pay4, k0_pay5, k0_pay6, k0_pay7, k0_pay10]
  · rw [outsAt0_C m c t (by omega) h h hl (by omega)]
    frame_out
    rw [read_unread_whole, scr_upd m c t hz]
    pointwise [k0_pay4, k0_pay5, k0_pay6, k0_pay7, k0_pay10]

/-- The sum of one column of a block. -/
abbrev col (c : Dev nD) (t : Fin cfg0.N) (k : Fin 1024) : EReal :=
  ∑ a : Fin 512, o m c t (ix2 a k) * (row m c t a k * inv (row m c t a))

theorem col_first (c : Dev nD) (t : Fin cfg0.N) (h : t.val = 1) (k : Fin 1024) :
    (outsAt0 m c t.val t.isLt).2.1 (ix2 0 k) = col m c t k := by
  rw [outsAt0_B m c t (by omega) (by omega) (by omega) (by omega) (by omega)]
  frame_out
  rw [read_unread_whole, scr_upd m c t (by omega)]
  pointwise [k0_pay5, k0_pay6, k0_pay7, k0_pay8]

theorem col_next (c : Dev nD) (t : Fin cfg0.N) (h : t.val % 2 = 1) (hl : 2 ≤ t.val) (k : Fin 1024) :
    (outsAt0 m c t.val t.isLt).2.1 (ix2 0 k)
      = (outsAt0 m c (t.val - 1) (Nat.lt_of_le_of_lt (Nat.sub_le _ _) t.isLt)).2.1 (ix2 0 k) + col m c t k := by
  rw [outsAt0_C m c t (by omega) h h (by omega) hl]
  frame_out
  rw [read_unread_whole, scr_upd m c t (by omega)]
  pointwise [k0_pay5, k0_pay6, k0_pay7, k0_pay8, k0_pay9]

theorem col_stay (c : Dev nD) (t : Fin cfg0.N) (h : t.val % 2 = 0) (hl : 2 ≤ t.val) (k : Fin 1024) :
    (outsAt0 m c t.val t.isLt).2.1 (ix2 0 k)
      = (outsAt0 m c (t.val - 1) (Nat.lt_of_le_of_lt (Nat.sub_le _ _) t.isLt)).2.1 (ix2 0 k) := by
  rw [outsAt0_A m c t h (by omega) (by omega)]
  frame_out
  unfold out0_A_7
  rfl

/-- The sum of a column over the blocks so far. -/
theorem cols (c : Dev nD) (k : Fin 1024) : ∀ (n : ℕ) (h : 2 * n + 1 < cfg0.N), (outsAt0 m c (2 * n + 1) h).2.1 (ix2 0 k)
    = ∑ s ∈ Finset.range (n + 1), if hs : 2 * s + 1 < cfg0.N then col m c ⟨2 * s + 1, hs⟩ k else 0
  | 0, h => by
    rw [Finset.sum_range_one, dif_pos h]
    exact col_first m c ⟨1, h⟩ rfl k
  | n + 1, h => by
    rw [Finset.sum_range_succ, dif_pos h, ← cols c k n (by omega)]
    refine (col_next m c ⟨2 * (n + 1) + 1, h⟩ (show (2 * (n + 1) + 1) % 2 = 1 by omega) (show 2 ≤ 2 * (n + 1) + 1 by omega) k).trans ?_
    exact congrArg (· + _) (col_stay m c ⟨2 * (n + 1), by omega⟩ (show (2 * (n + 1)) % 2 = 0 by omega) (show 2 ≤ 2 * (n + 1) by omega) k)

theorem point_lt (s : Fin 8) : 2 * s.val + 1 < cfg0.N := lt_of_lt_of_eq (by omega : 2 * s.val + 1 < 16) (by decide)

/-- The sum of a column over all blocks. -/
theorem cols_all (c : Dev nD) (k : Fin 1024) (n : ℕ) (h : n < cfg0.N) (hn : n = 15) :
    (outsAt0 m c n h).2.1 (ix2 0 k) = ∑ s : Fin 8, col m c ⟨2 * s.val + 1, point_lt s⟩ k := by
  obtain rfl : n = 2 * 7 + 1 := hn
  rw [cols m c k 7 h, Finset.sum_range]
  exact Finset.sum_congr rfl fun s _ => dif_pos (point_lt s)

/-- The norm's weights as a row. -/
theorem reshape_val (j : S1x1024.Idx) : ((Shape.reshapeEquiv shapeCasts_S1024_S1x1024 j) 0).val = (j 1).val := by
  pointwise

/-- The reference's gradient before the norm's weights. -/
abbrev dRef (g : Vec Ideal S1024 .f32) (w : Vec Ideal S1024x2816 .f32) (dh : Vec Ideal S4096x1024 .f32) (dy : Vec Ideal S4096x2816 .f32)
    (r : Fin 4096) (k : Fin 1024) : EReal :=
  (dh (ix2 r k) + val_main_v17 (F := Ideal) w dy (ix2 r k)) * g (ix1 k)

/-- The reference's rows. -/
theorem ref_row (x : Vec Ideal S4096x1024 .f32) (g : Vec Ideal S1024 .f32) (w : Vec Ideal S1024x2816 .f32)
    (dh : Vec Ideal S4096x1024 .f32) (dy : Vec Ideal S4096x2816 .f32) (dx : Vec Ideal S4096x1024 .f32) (i : S4096x1024.Idx)
    (X D : Fin 1024 → EReal) (hX : ∀ k, x (ix2 (i 0) k) = X k) (hD : ∀ k, dRef g w dh dy (i 0) k = D k) :
    val_main_v39 (F := Ideal) x g w dh dy dx i = dx i + D (i 1) * inv X
      + X (i 1) * Ideal.div ((∑ k, X k * D k) * (Ideal.ofBits .f32 0xBF000000#32 * Ideal.div (inv X) (meanSq X))) (Ideal.ofBits .f32 0x44800000#32)
      + Ideal.div ((∑ k, X k * D k) * (Ideal.ofBits .f32 0xBF000000#32 * Ideal.div (inv X) (meanSq X))) (Ideal.ofBits .f32 0x44800000#32) * X (i 1) := by
  obtain rfl : (fun k => x (ix2 (i 0) k)) = X := funext hX
  obtain rfl : dRef g w dh dy (i 0) = D := funext hD
  obtain ⟨a, k, rfl⟩ : ∃ (a : Fin 4096) (k : Fin 1024), i = ix2 a k :=
    ⟨i 0, i 1, funext fun q => by match q with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
  simp only [Fin.sum_univ_one]

/-- The reference's column sums. -/
theorem ref_col (x : Vec Ideal S4096x1024 .f32) (w : Vec Ideal S1024x2816 .f32)
    (dh : Vec Ideal S4096x1024 .f32) (dy : Vec Ideal S4096x2816 .f32) (i : S1x1024.Idx) :
    val_main_v40 (F := Ideal) x w dh dy i = ∑ q : Fin 4096, x (ix2 q (i 1)) * inv (fun k => x (ix2 q k))
      * (dh (ix2 q (i 1)) + val_main_v17 (F := Ideal) w dy (ix2 q (i 1))) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
  simp only [Fin.sum_univ_one]

/-- The blocks written are the reference's rows. -/
theorem final6 (c : Dev nD) : (dats m 0 c).arrAt 6 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have hr := (flush0_6 t).mp hf
  blk_simp
  rw [after0_6, out_row m c t hr]
  have h0 : (((win0_6.blk t).view.emb y) 0).val = t.val / 2 * 512 + (y 0).val := by blk_point [idx t]
  have h1 : (((win0_6.blk t).view.emb y) 1).val = (y 1).val := by blk_point [idx t]
  generalize (win0_6.blk t).view.emb y = i at h0 h1
  have hX : ∀ k, (m ((c : Thread nD τ).loc main_arg0)) (ix2 (i 0) k) = row m c t (y 0) k := fun k => by blk_point [row, iblk, V, idx t]
  have hh : ∀ k, (m ((c : Thread nD τ).loc main_arg3)) (ix2 (i 0) k) = (iblk m c 2 t : Vec Ideal S512x1024 .f32) (ix2 (y 0) k) := fun k => by blk_point [iblk, V, idx t]
  have hG : ∀ k, (m ((c : Thread nD τ).loc main_arg1)) (ix1 k) = (iblk m c 4 t : Vec Ideal S1x1024 .f32) (ix2 0 k) := fun k => by
    blk_point [iblk, V, idx t]
    rw [reshape_val]
    blk_point [idx t]
  have hE : (m ((c : Thread nD τ).loc main_arg5)) i = e m c t y := by blk_point [e, iblk, V, idx t]
  have hA : ∀ k : Fin 1024, val_main_v17 (F := Ideal) (m ((c : Thread nD τ).loc main_arg2)) (m ((c : Thread nD τ).loc main_arg4)) (ix2 (i 0) k) = (outsAt0 m c t.val t.isLt).2.2 (ix2 (y 0) k) :=
    fun k => (acc m c t hr (ix2 (y 0) k) (ix2 (i 0) k) h0 rfl).symm
  have hD : ∀ k : Fin 1024, dRef (m ((c : Thread nD τ).loc main_arg1)) (m ((c : Thread nD τ).loc main_arg2)) (m ((c : Thread nD τ).loc main_arg3)) (m ((c : Thread nD τ).loc main_arg4)) (i 0) k = d m c t (y 0) k :=
    fun k => congrArg₂ (fun a b : EReal => a * b) ((congrArg₂ (fun a b : EReal => a + b) (hh k) (hA k)).trans (add_comm (G := EReal) _ _)) (hG k)
  have hi : (i 1 : Fin 1024) = y 1 := Fin.ext h1
  refine (RowNorm.grad (row m c t (y 0)) (d m c t (y 0)) (e m c t y) (y 1)).trans ?_
  rw [ref_row _ _ _ _ _ _ i _ _ hX hD, hi, hE]

/-- The block of column sums is written once. -/
theorem final7 (c : Dev nD) : (dats m 0 c).arrAt 7 cfg0.N = val_main_v40 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hr := (flush0_7 t).mp hf
  have ht : t.val = 15 := by
    have hN : t.val < 16 := lt_of_lt_of_eq t.isLt (by decide)
    omega
  blk_simp
  rw [after0_7, ref_col]
  have h1 : (((win0_7.blk t).view.emb y) 1 : Fin 1024) = y 1 := Fin.ext (by blk_point [idx t])
  rw [h1]
  obtain ⟨k, rfl⟩ : ∃ k : Fin 1024, y = ix2 0 k :=
    ⟨y 1, funext fun i => by match i with | ⟨0, _⟩ => exact Subsingleton.elim (α := Fin 1) _ _ | ⟨1, _⟩ => rfl⟩
  refine (cols_all m c k t.val t.isLt ht).trans ?_
  refine Fin.sum_mul_add_congr fun s a hl => ?_
  have hd : (2 * s.val + 1) / 2 = s.val := by omega
  have hX : ∀ q, (m ((c : Thread nD τ).loc main_arg0)) (ix2 ⟨s.val * 512 + a.val, hl⟩ q) = row m c ⟨2 * s.val + 1, point_lt s⟩ a q :=
    fun q => by blk_point [row, iblk, V, idx ⟨2 * s.val + 1, point_lt s⟩, hd]
  have hh : (m ((c : Thread nD τ).loc main_arg3)) (ix2 ⟨s.val * 512 + a.val, hl⟩ k) = (iblk m c 2 ⟨2 * s.val + 1, point_lt s⟩ : Vec Ideal S512x1024 .f32) (ix2 a k) := by
    blk_point [iblk, V, idx ⟨2 * s.val + 1, point_lt s⟩, hd]
  have hA := acc m c ⟨2 * s.val + 1, point_lt s⟩ (show (2 * s.val + 1) % 2 = 1 by omega) (ix2 a k) (ix2 ⟨s.val * 512 + a.val, hl⟩ k)
    (show s.val * 512 + a.val = (2 * s.val + 1) / 2 * 512 + a.val by rw [hd]) rfl
  refine (mul_comm (G := EReal) _ _).trans (congrArg₂ (fun a b : EReal => a * b)
    (congrArg₂ (fun (u : EReal) (v : Fin 1024 → EReal) => u * inv v) (hX k).symm (funext hX).symm)
    ((add_comm (G := EReal) _ _).trans (congrArg₂ (fun a b : EReal => a + b) hh.symm hA)))

end Cert.DhUpIdeal.Final

end
-- ==== Proof.DH2Gate.lean ====
/- The products of the two ranges are added up; the second range carries the sum through the gradient of the norm of its
   rows and adds up the gradient of the norm's weights. The two forms of the first gradient are equal. -/
module

public import proofs.«01_k».proof.Proof.Gen.DH2GateIdeal.Value
public import proofs.«01_k».proof.Proof.Gen.DH2GateRefIdeal.Run
public import proofs.«01_k».proof.Proof.Gen.DH2GateRefIdeal.Read
public import proofs.«01_k».proof.Proof.RowNorm
public import Idealize.ShloMosaic.Lib.Pipeline.ValueKit
public import Idealize.ShloMosaic.Lib.Pipeline.ReadBack
public import Idealize.ShloMosaic.Lib.Claim

@[expose] public section

set_option maxRecDepth 16384

noncomputable section

namespace Cert.DH2GateIdeal.Final

open Cert.DH2GateIdeal Cert.DH2GateIdeal.Gen Cert.DH2GateRefIdeal.Read
open Idealize.ShloMosaic Idealize.ShloMosaic.TcCoe Idealize.SL.Sem
open Idealize.ShloMosaic.Pipeline (Dat)
open Cert.RowNorm

variable (m : (ℓ : Loc nD τ sig) → Buf (Elt Ideal) ℓ) (ρ : Dev nD → PrngReg)

/-- The block of each window at grid point `t`. -/
theorem idx : ∀ t : Fin cfg0.N, win0_0.index t = ![t.val / 2, t.val % 2] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

/-- The product of the two blocks at hand, one element of it. -/
abbrev part (v0 : Vec Ideal S512x1024 .f32) (v2 : Vec Ideal S1024x1024 .bf16) (j : S512x1024.Idx) : EReal :=
  ∑ k : Fin 1024, v0 (ix2 (j 0) k) * v2 (ix2 (j 1) k)

theorem pay2 (v0 : Vec Ideal S512x1024 .f32) (v2 : Vec Ideal S1024x1024 .bf16) (j : S512x1024.Idx) :
    k0_pay2 v0 v2 j = part v0 v2 j := by
  pointwise [k0_pay1, k0_pay2]

theorem pay3 (v0 : Vec Ideal S512x1024 .f32) (v2 : Vec Ideal S1024x1024 .bf16) (acc : Vec Ideal S512x1024 .f32) (j : S512x1024.Idx) :
    k0_pay3 v0 v2 acc j = acc j + part v0 v2 j := by
  pointwise [k0_pay1, k0_pay3]

/-- The accumulator after the first range: the product of that range alone. -/
theorem scr_first (c : Dev nD) (t : Fin cfg0.N) (h : t.val % 2 = 0) (j : S512x1024.Idx) :
    (outsAt0 m c t.val t.isLt).2.2 j = part (iblk m c 0 t) (iblk m c 1 t) j := by
  rw [outsAt0_A m c t h (by omega) (by omega)]
  frame_out
  rw [pay2]

/-- The accumulator after the second range: one product more. -/
theorem scr_next (c : Dev nD) (t : Fin cfg0.N) (h : ¬t.val % 2 = 0) (j : S512x1024.Idx) :
    (outsAt0 m c t.val t.isLt).2.2 j
      = (outsAt0 m c (t.val - 1) (Nat.lt_of_le_of_lt (Nat.sub_le _ _) t.isLt)).2.2 j + part (iblk m c 0 t) (iblk m c 1 t) j := by
  by_cases hl : t.val < 2
  · rw [outsAt0_B m c t h (by omega) (by omega) hl (by omega)]
    frame_out
    rw [pay3, read_unread_whole]
  · rw [outsAt0_C m c t h (by omega) (by omega) hl (by omega)]
    frame_out
    rw [pay3, read_unread_whole]

theorem scr_upd (c : Dev nD) (t : Fin cfg0.N) (h : ¬t.val % 2 = 0) :
    k0_pay3 (iblk m c 0 t) (iblk m c 1 t) (outsAt0 m c (t.val - 1) (Nat.lt_of_le_of_lt (Nat.sub_le _ _) t.isLt)).2.2
      = (outsAt0 m c t.val t.isLt).2.2 :=
  funext fun j => (pay3 _ _ _ j).trans (scr_next m c t h j).symm

/-- The whole product, once both ranges are in. -/
theorem acc (c : Dev nD) (t : Fin cfg0.N) (hr : t.val % 2 = 2 - 1) (j : S512x1024.Idx) (i : S4096x1024.Idx)
    (h0 : (i 0).val = t.val / 2 * 512 + (j 0).val) (h1 : (i 1).val = (j 1).val) :
    (outsAt0 m c t.val t.isLt).2.2 j = val_main_v17 (F := Ideal) (m ((c : Thread nD τ).loc main_arg2)) (m ((c : Thread nD τ).loc main_arg4)) i := by
  rw [Pipeline.eq_sum_fin_of_reset_step_apply_of_flush (fun n h => (outsAt0 m c n h).2.2) 2 (fun _ => (0 : EReal)) _
      (fun t h j => (scr_first m c t h j).trans (zero_add _).symm) (fun t h j => scr_next m c t h j) t hr _, zero_add,
    val_main_v17_apply]
  refine Fin.sum_mul_add_congr fun s k hl => ?_
  blk_point [iblk, V, idx t, idx ⟨_, Pipeline.run_point_lt_of_flush t hr s⟩]

/-- The gradient that reaches the normed rows: the product and what came from elsewhere. -/
abbrev o (c : Dev nD) (t : Fin cfg0.N) (j : S512x1024.Idx) : EReal :=
  (outsAt0 m c t.val t.isLt).2.2 j + (iblk m c 2 t : Vec Ideal S512x1024 .f32) j

/-- One row. -/
abbrev row (c : Dev nD) (t : Fin cfg0.N) (a : Fin 512) (k : Fin 1024) : EReal :=
  (iblk m c 3 t : Vec Ideal S512x1024 .f32) (ix2 a k)

/-- The gradient before the norm's weights. -/
abbrev d (c : Dev nD) (t : Fin cfg0.N) (a : Fin 512) (k : Fin 1024) : EReal :=
  o m c t (ix2 a k) * (iblk m c 4 t : Vec Ideal S1x1024 .f32) (ix2 0 k)

/-- The gradient that reaches the row past the block. -/
abbrev e (c : Dev nD) (t : Fin cfg0.N) (j : S512x1024.Idx) : EReal := (iblk m c 5 t : Vec Ideal S512x1024 .f32) j

/-- What is written to the rows at the second range. -/
theorem out_row (c : Dev nD) (t : Fin cfg0.N) (h : t.val % 2 = 1) (j : S512x1024.Idx) :
    (outsAt0 m c t.val t.isLt).1 j = e m c t j
      + inv (row m c t (j 0)) * (d m c t (j 0) (j 1) - row m c t (j 0) (j 1) * inv (row m c t (j 0))
        * Ideal.div (∑ q, d m c t (j 0) q * (row m c t (j 0) q * inv (row m c t (j 0)))) (Ideal.ofBits .f32 0x44800000#32)) := by
  have hz : ¬t.val % 2 = 0 := by omega
  obtain ⟨a, k, rfl⟩ : ∃ (a : Fin 512) (k : Fin 1024), j = ix2 a k :=
    ⟨j 0, j 1, funext fun i => by match i with | ⟨0, _⟩ => rfl | ⟨1, _⟩ => rfl⟩
  by_cases hl : t.val < 2
  · rw [outsAt0_B m c t (by omega) h h hl (by omega)]
    frame_out
    rw [read_unread_whole, scr_upd m c t hz]
    pointwise [k0_pay4, k0_pay5, k0_pay6, k0_pay7, k0_pay10]
  · rw [outsAt0_C m c t (by omega) h h hl (by omega)]
    frame_out
    rw [read_unread_whole, scr_upd m c t hz]
    pointwise [k0_pay4, k0_pay5, k0_pay6, k0_pay7, k0_pay10]

/-- The sum of one column of a block. -/
abbrev col (c : Dev nD) (t : Fin cfg0.N) (k : Fin 1024) : EReal :=
  ∑ a : Fin 512, o m c t (ix2 a k) * (row m c t a k * inv (row m c t a))

theorem col_first (c : Dev nD) (t : Fin cfg0.N) (h : t.val = 1) (k : Fin 1024) :
    (outsAt0 m c t.val t.isLt).2.1 (ix2 0 k) = col m c t k := by
  rw [outsAt0_B m c t (by omega) (by omega) (by omega) (by omega) (by omega)]
  frame_out
  rw [read_unread_whole, scr_upd m c t (by omega)]
  pointwise [k0_pay5, k0_pay6, k0_pay7, k0_pay8]

theorem col_next (c : Dev nD) (t : Fin cfg0.N) (h : t.val % 2 = 1) (hl : 2 ≤ t.val) (k : Fin 1024) :
    (outsAt0 m c t.val t.isLt).2.1 (ix2 0 k)
      = (outsAt0 m c (t.val - 1) (Nat.lt_of_le_of_lt (Nat.sub_le _ _) t.isLt)).2.1 (ix2 0 k) + col m c t k := by
  rw [outsAt0_C m c t (by omega) h h (by omega) hl]
  frame_out
  rw [read_unread_whole, scr_upd m c t (by omega)]
  pointwise [k0_pay5, k0_pay6, k0_pay7, k0_pay8, k0_pay9]

theorem col_stay (c : Dev nD) (t : Fin cfg0.N) (h : t.val % 2 = 0) (hl : 2 ≤ t.val) (k : Fin 1024) :
    (outsAt0 m c t.val t.isLt).2.1 (ix2 0 k)
      = (outsAt0 m c (t.val - 1) (Nat.lt_of_le_of_lt (Nat.sub_le _ _) t.isLt)).2.1 (ix2 0 k) := by
  rw [outsAt0_A m c t h (by omega) (by omega)]
  frame_out
  unfold out0_A_7
  rfl

/-- The sum of a column over the blocks so far. -/
theorem cols (c : Dev nD) (k : Fin 1024) : ∀ (n : ℕ) (h : 2 * n + 1 < cfg0.N), (outsAt0 m c (2 * n + 1) h).2.1 (ix2 0 k)
    = ∑ s ∈ Finset.range (n + 1), if hs : 2 * s + 1 < cfg0.N then col m c ⟨2 * s + 1, hs⟩ k else 0
  | 0, h => by
    rw [Finset.sum_range_one, dif_pos h]
    exact col_first m c ⟨1, h⟩ rfl k
  | n + 1, h => by
    rw [Finset.sum_range_succ, dif_pos h, ← cols c k n (by omega)]
    refine (col_next m c ⟨2 * (n + 1) + 1, h⟩ (show (2 * (n + 1) + 1) % 2 = 1 by omega) (show 2 ≤ 2 * (n + 1) + 1 by omega) k).trans ?_
    exact congrArg (· + _) (col_stay m c ⟨2 * (n + 1), by omega⟩ (show (2 * (n + 1)) % 2 = 0 by omega) (show 2 ≤ 2 * (n + 1) by omega) k)

theorem point_lt (s : Fin 8) : 2 * s.val + 1 < cfg0.N := lt_of_lt_of_eq (by omega : 2 * s.val + 1 < 16) (by decide)

/-- The sum of a column over all blocks. -/
theorem cols_all (c : Dev nD) (k : Fin 1024) (n : ℕ) (h : n < cfg0.N) (hn : n = 15) :
    (outsAt0 m c n h).2.1 (ix2 0 k) = ∑ s : Fin 8, col m c ⟨2 * s.val + 1, point_lt s⟩ k := by
  obtain rfl : n = 2 * 7 + 1 := hn
  rw [cols m c k 7 h, Finset.sum_range]
  exact Finset.sum_congr rfl fun s _ => dif_pos (point_lt s)

/-- The norm's weights as a row. -/
theorem reshape_val (j : S1x1024.Idx) : ((Shape.reshapeEquiv shapeCasts_S1024_S1x1024 j) 0).val = (j 1).val := by
  pointwise

/-- The reference's gradient before the norm's weights. -/
abbrev dRef (g : Vec Ideal S1024 .f32) (w : Vec Ideal S1024x2048 .f32) (dh : Vec Ideal S4096x1024 .f32) (dy : Vec Ideal S4096x2048 .f32)
    (r : Fin 4096) (k : Fin 1024) : EReal :=
  (dh (ix2 r k) + val_main_v17 (F := Ideal) w dy (ix2 r k)) * g (ix1 k)

/-- The reference's rows. -/
theorem ref_row (x : Vec Ideal S4096x1024 .f32) (g : Vec Ideal S1024 .f32) (w : Vec Ideal S1024x2048 .f32)
    (dh : Vec Ideal S4096x1024 .f32) (dy : Vec Ideal S4096x2048 .f32) (dx : Vec Ideal S4096x1024 .f32) (i : S4096x1024.Idx)
    (X D : Fin 1024 → EReal) (hX : ∀ k, x (ix2 (i 0) k) = X k) (hD : ∀ k, dRef g w dh dy (i 0) k = D k) :
    val_main_v39 (F := Ideal) x g w dh dy dx i = dx i + D (i 1) * inv X
      + X (i 1) * Ideal.div ((∑ k, X k * D k) * (Ideal.ofBits .f32 0xBF000000#32 * Ideal.div (inv X) (meanSq X))) (Ideal.ofBits .f32 0x44800000#32)
      + Ideal.div ((∑ k, X k * D k) * (Ideal.ofBits .f32 0xBF000000#32 * Ideal.div (inv X) (meanSq X))) (Ideal.ofBits .f32 0x44800000#32) * X (i 1) := by
  obtain rfl : (fun k => x (ix2 (i 0) k)) = X := funext hX
  obtain rfl : dRef g w dh dy (i 0) = D := funext hD
  obtain ⟨a, k, rfl⟩ : ∃ (a : Fin 4096) (k : Fin 1024), i = ix2 a k :=
    ⟨i 0, i 1, funext fun q => by match q with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
  simp only [Fin.sum_univ_one]

/-- The reference's column sums. -/
theorem ref_col (x : Vec Ideal S4096x1024 .f32) (w : Vec Ideal S1024x2048 .f32)
    (dh : Vec Ideal S4096x1024 .f32) (dy : Vec Ideal S4096x2048 .f32) (i : S1x1024.Idx) :
    val_main_v40 (F := Ideal) x w dh dy i = ∑ q : Fin 4096, x (ix2 q (i 1)) * inv (fun k => x (ix2 q k))
      * (dh (ix2 q (i 1)) + val_main_v17 (F := Ideal) w dy (ix2 q (i 1))) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
  simp only [Fin.sum_univ_one]

/-- The blocks written are the reference's rows. -/
theorem final6 (c : Dev nD) : (dats m 0 c).arrAt 6 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have hr := (flush0_6 t).mp hf
  blk_simp
  rw [after0_6, out_row m c t hr]
  have h0 : (((win0_6.blk t).view.emb y) 0).val = t.val / 2 * 512 + (y 0).val := by blk_point [idx t]
  have h1 : (((win0_6.blk t).view.emb y) 1).val = (y 1).val := by blk_point [idx t]
  generalize (win0_6.blk t).view.emb y = i at h0 h1
  have hX : ∀ k, (m ((c : Thread nD τ).loc main_arg0)) (ix2 (i 0) k) = row m c t (y 0) k := fun k => by blk_point [row, iblk, V, idx t]
  have hh : ∀ k, (m ((c : Thread nD τ).loc main_arg3)) (ix2 (i 0) k) = (iblk m c 2 t : Vec Ideal S512x1024 .f32) (ix2 (y 0) k) := fun k => by blk_point [iblk, V, idx t]
  have hG : ∀ k, (m ((c : Thread nD τ).loc main_arg1)) (ix1 k) = (iblk m c 4 t : Vec Ideal S1x1024 .f32) (ix2 0 k) := fun k => by
    blk_point [iblk, V, idx t]
    rw [reshape_val]
    blk_point [idx t]
  have hE : (m ((c : Thread nD τ).loc main_arg5)) i = e m c t y := by blk_point [e, iblk, V, idx t]
  have hA : ∀ k : Fin 1024, val_main_v17 (F := Ideal) (m ((c : Thread nD τ).loc main_arg2)) (m ((c : Thread nD τ).loc main_arg4)) (ix2 (i 0) k) = (outsAt0 m c t.val t.isLt).2.2 (ix2 (y 0) k) :=
    fun k => (acc m c t hr (ix2 (y 0) k) (ix2 (i 0) k) h0 rfl).symm
  have hD : ∀ k : Fin 1024, dRef (m ((c : Thread nD τ).loc main_arg1)) (m ((c : Thread nD τ).loc main_arg2)) (m ((c : Thread nD τ).loc main_arg3)) (m ((c : Thread nD τ).loc main_arg4)) (i 0) k = d m c t (y 0) k :=
    fun k => congrArg₂ (fun a b : EReal => a * b) ((congrArg₂ (fun a b : EReal => a + b) (hh k) (hA k)).trans (add_comm (G := EReal) _ _)) (hG k)
  have hi : (i 1 : Fin 1024) = y 1 := Fin.ext h1
  refine (RowNorm.grad (row m c t (y 0)) (d m c t (y 0)) (e m c t y) (y 1)).trans ?_
  rw [ref_row _ _ _ _ _ _ i _ _ hX hD, hi, hE]

/-- The block of column sums is written once. -/
theorem final7 (c : Dev nD) : (dats m 0 c).arrAt 7 cfg0.N = val_main_v40 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hr := (flush0_7 t).mp hf
  have ht : t.val = 15 := by
    have hN : t.val < 16 := lt_of_lt_of_eq t.isLt (by decide)
    omega
  blk_simp
  rw [after0_7, ref_col]
  have h1 : (((win0_7.blk t).view.emb y) 1 : Fin 1024) = y 1 := Fin.ext (by blk_point [idx t])
  rw [h1]
  obtain ⟨k, rfl⟩ : ∃ k : Fin 1024, y = ix2 0 k :=
    ⟨y 1, funext fun i => by match i with | ⟨0, _⟩ => exact Subsingleton.elim (α := Fin 1) _ _ | ⟨1, _⟩ => rfl⟩
  refine (cols_all m c k t.val t.isLt ht).trans ?_
  refine Fin.sum_mul_add_congr fun s a hl => ?_
  have hd : (2 * s.val + 1) / 2 = s.val := by omega
  have hX : ∀ q, (m ((c : Thread nD τ).loc main_arg0)) (ix2 ⟨s.val * 512 + a.val, hl⟩ q) = row m c ⟨2 * s.val + 1, point_lt s⟩ a q :=
    fun q => by blk_point [row, iblk, V, idx ⟨2 * s.val + 1, point_lt s⟩, hd]
  have hh : (m ((c : Thread nD τ).loc main_arg3)) (ix2 ⟨s.val * 512 + a.val, hl⟩ k) = (iblk m c 2 ⟨2 * s.val + 1, point_lt s⟩ : Vec Ideal S512x1024 .f32) (ix2 a k) := by
    blk_point [iblk, V, idx ⟨2 * s.val + 1, point_lt s⟩, hd]
  have hA := acc m c ⟨2 * s.val + 1, point_lt s⟩ (show (2 * s.val + 1) % 2 = 1 by omega) (ix2 a k) (ix2 ⟨s.val * 512 + a.val, hl⟩ k)
    (show s.val * 512 + a.val = (2 * s.val + 1) / 2 * 512 + a.val by rw [hd]) rfl
  refine (mul_comm (G := EReal) _ _).trans (congrArg₂ (fun a b : EReal => a * b)
    (congrArg₂ (fun (u : EReal) (v : Fin 1024 → EReal) => u * inv v) (hX k).symm (funext hX).symm)
    ((add_comm (G := EReal) _ _).trans (congrArg₂ (fun a b : EReal => a + b) hh.symm hA)))

end Cert.DH2GateIdeal.Final

end
-- ==== Proof.Attend.lean ====
/- Attention over real numbers: the norm of a head, the masked scores, the probabilities with a sink and their gradients,
   each as one real number, and the forms the operations give them. -/
module

public import proofs.«01_k».proof.Proof.RowNorm

@[expose] public section

noncomputable section

namespace Cert.Attend

open Idealize.ShloMosaic Cert.Gating Cert.RowNorm

/-- The literal for the length of a head. -/
theorem headLen_eq : Ideal.ofBits .f32 0x42800000#32 = ((64 : ℝ) : EReal) := by
  simp [Ideal.ofBits, Ideal.ieee, -EReal.coe_mul]; norm_num

/-- The literal for the inverse of that length. -/
theorem headLen_inv_eq : Ideal.ofBits .f32 0x3C800000#32 = ((1 / 64 : ℝ) : EReal) := by
  simp [Ideal.ofBits, Ideal.ieee, -EReal.coe_mul]; norm_num

/-- The literal the scores are scaled by. -/
theorem scale_eq : Ideal.ofBits .f32 0x3E000000#32 = ((1 / 8 : ℝ) : EReal) := by
  simp [Ideal.ofBits, Ideal.ieee, -EReal.coe_mul]; norm_num

/-- The literal for minus infinity. -/
theorem low_eq : Ideal.ofBits .f32 0xFF800000#32 = ⊥ := by
  simp [Ideal.ofBits, Ideal.ieee]

/-! ### The norm of a head -/

/-- The term added to the mean. -/
def eps : ℝ := (Ideal.ofBits .f32 0x358637BD#32 : EReal).toReal

/-- The literal added to a mean square is a real number, -/
theorem eps_coe : Ideal.ofBits .f32 0x358637BD#32 = (eps : EReal) := by
  obtain ⟨e, -, h⟩ := eps_eq
  rw [eps, h, EReal.toReal_coe]

/-- and positive. -/
theorem eps_pos : 0 < eps := by
  obtain ⟨e, he, h⟩ := eps_eq
  rwa [eps, h, EReal.toReal_coe]

/-- The mean of the squares of a head, and the small term. -/
def ms (x : Fin 64 → ℝ) : ℝ := (∑ k, x k * x k) * (1 / 64) + eps

/-- A mean square with that number added is positive. -/
theorem ms_pos (x : Fin 64 → ℝ) : 0 < ms x := by
  have : 0 ≤ ∑ k, x k * x k := Finset.sum_nonneg fun k _ => mul_self_nonneg _
  have := eps_pos
  unfold ms
  positivity

/-- One over its root. -/
def rs (x : Fin 64 → ℝ) : ℝ := (Real.sqrt (ms x))⁻¹

/-- The inverse root of it is a real number. -/
theorem rsqrt_ms (x : Fin 64 → ℝ) : Ideal.rsqrt (ms x : EReal) = (rs x : EReal) := by
  rw [Ideal.rsqrt_coe, if_neg (not_lt.mpr (ms_pos x).le), if_neg (ms_pos x).ne', rs]

/-- The square of the inverse root inverts it. -/
theorem rs_sq (x : Fin 64 → ℝ) : rs x * rs x * ms x = 1 := by
  have h : Real.sqrt (ms x) * Real.sqrt (ms x) = ms x := Real.mul_self_sqrt (ms_pos x).le
  have hp : 0 < Real.sqrt (ms x) := Real.sqrt_pos.mpr (ms_pos x)
  unfold rs
  field_simp
  rw [pow_two, h]

/-- A normed head. -/
def nrm (x w : Fin 64 → ℝ) (d : Fin 64) : ℝ := x d * rs x * w d

/-- The gradient of a head from that of the normed head. -/
def nrmGrad (x w g : Fin 64 → ℝ) (d : Fin 64) : ℝ :=
  rs x * (g d * w d - x d * rs x * ((∑ k, g k * w k * (x k * rs x)) * (1 / 64)))

/-- Sums over the heads' axis of those places that lie in one head. -/
theorem seg_sum {N : ℕ} (f : Fin N → EReal) (h : ℕ) (hN : 64 * h + 64 ≤ N) :
    ∑ k : Fin N, f k * (if k.val / 64 = h then 1 else 0) = ∑ d : Fin 64, f ⟨64 * h + d.val, by omega⟩ := by
  simp only [mul_ite, mul_one, mul_zero]
  rw [← Finset.sum_filter]
  refine Finset.sum_bij' (fun k hk => ⟨k.val % 64, Nat.mod_lt _ (by decide)⟩) (fun d _ => ⟨64 * h + d.val, by omega⟩)
    (fun k hk => Finset.mem_univ _) (fun d _ => ?_) (fun k hk => ?_) (fun d _ => ?_) (fun k hk => ?_)
  · refine Finset.mem_filter.mpr ⟨Finset.mem_univ _, ?_⟩
    show (64 * h + d.val) / 64 = h
    omega
  · have := (Finset.mem_filter.mp hk).2
    refine Fin.ext ?_
    show 64 * h + k.val % 64 = k.val
    omega
  · refine Fin.ext ?_
    show (64 * h + d.val) % 64 = d.val
    omega
  · have := (Finset.mem_filter.mp hk).2
    refine congrArg f (Fin.ext ?_)
    show k.val = 64 * h + k.val % 64
    omega

/-- The places of one head in a row of heads. -/
abbrev head {N : ℕ} (x : Fin N → ℝ) (h : ℕ) (hN : 64 * h + 64 ≤ N) (d : Fin 64) : ℝ := x ⟨64 * h + d.val, by omega⟩

/-- One over the root of a head's mean square, its sum of squares taken over the row in two parts, the second of which is zero. -/
theorem inv_rows {N : ℕ} (x : Fin N → ℝ) (h : ℕ) (hN : 64 * h + 64 ≤ N) :
    Ideal.rsqrt ((∑ k, (x k : EReal) * (x k : EReal) * (if k.val / 64 = h then 1 else 0)
        + ∑ k, ((x k : EReal) * (x k : EReal) - (x k : EReal) * (x k : EReal)) * (if k.val / 64 = h then 1 else 0))
        * Ideal.ofBits .f32 0x3C800000#32 + Ideal.ofBits .f32 0x358637BD#32) = (rs (head x h hN) : EReal) := by
  rw [seg_sum (fun k => (x k : EReal) * (x k : EReal)) h hN, seg_sum (fun k => (x k : EReal) * (x k : EReal) - (x k : EReal) * (x k : EReal)) h hN,
    headLen_inv_eq, eps_coe]
  simp only [← EReal.coe_mul, ← EReal.coe_sub, sub_self, EReal.coe_zero, Finset.sum_const_zero, add_zero]
  rw [coe_sum, ← EReal.coe_mul, ← EReal.coe_add]
  exact rsqrt_ms (head x h hN)

/-- The same, its sum of squares taken over the head. -/
theorem inv_head (x : Fin 64 → ℝ) :
    Ideal.rsqrt (Ideal.div (∑ k, (x k : EReal) * (x k : EReal)) (Ideal.ofBits .f32 0x42800000#32) + Ideal.ofBits .f32 0x358637BD#32) = (rs x : EReal) := by
  rw [headLen_eq, eps_coe, Ideal.div_coe (by norm_num)]
  simp only [← EReal.coe_mul]
  rw [coe_sum, ← EReal.coe_mul, ← EReal.coe_add]
  exact rsqrt_ms x

/-- A sum over a row in two parts, the second of which is zero, is the sum over the head. -/
theorem sum_rows {N : ℕ} (x : Fin N → ℝ) (h : ℕ) (hN : 64 * h + 64 ≤ N) :
    ∑ k, (x k : EReal) * (if k.val / 64 = h then 1 else 0) + ∑ k, ((x k : EReal) - (x k : EReal)) * (if k.val / 64 = h then 1 else 0)
      = ((∑ d, head x h hN d : ℝ) : EReal) := by
  rw [seg_sum (fun k => (x k : EReal)) h hN, seg_sum (fun k => (x k : EReal) - (x k : EReal)) h hN]
  simp only [← EReal.coe_sub, sub_self, EReal.coe_zero, Finset.sum_const_zero, add_zero]
  exact coe_sum _

/-- A head's number is a lane's. -/
theorem lane_lt (h : Fin 8) : h.val < 128 := by omega

/-! ### The mask -/

/-- Whether two places lie in the same head, as the shifted places tell it. -/
theorem same_head {N : ℕ} (hN : N ≤ 512) (a b : Fin N) :
    IntOp.cmpi .eq (IntOp.shrui .vector (BitVec.ofNat 32 a.val) 6#32) (IntOp.shrui .vector (BitVec.ofNat 32 b.val) 6#32)
      = if a.val / 64 = b.val / 64 then 1#1 else 0#1 := by
  have h : ∀ a : Fin 512, IntOp.shrui .vector (BitVec.ofNat 32 a.val) 6#32 = BitVec.ofNat 32 (a.val / 64) := by decide +kernel
  have e : ∀ a b : Fin 8, IntOp.cmpi .eq (BitVec.ofNat 32 a.val) (BitVec.ofNat 32 b.val) = if a.val = b.val then 1#1 else 0#1 := by decide
  rw [h ⟨a.val, by omega⟩, h ⟨b.val, by omega⟩]
  exact e ⟨a.val / 64, by omega⟩ ⟨b.val / 64, by omega⟩

/-- The matrix that marks the columns of one head. -/
theorem pick_head {N : ℕ} (hN : N ≤ 512) (a b : Fin N) :
    Scalar.select (IntOp.cmpi .eq (IntOp.shrui .vector (BitVec.ofNat 32 a.val) 6#32) (IntOp.shrui .vector (BitVec.ofNat 32 b.val) 6#32)) (1 : EReal) 0
      = if a.val / 64 = b.val / 64 then 1 else 0 := by
  rw [same_head hN a b]
  split <;> rfl

/-- A column of that matrix times a number. -/
theorem pick_mul (a : Fin 512) (b : ℕ) (hb : b < 512) (x : EReal) :
    Scalar.select (IntOp.cmpi .eq (IntOp.shrui .vector (BitVec.ofNat 32 a.val) 6#32) (IntOp.shrui .vector (BitVec.ofNat 32 b) 6#32)) x 0
      = x * if a.val / 64 = b / 64 then 1 else 0 := by
  rw [same_head le_rfl a ⟨b, hb⟩, mul_ite, mul_one, mul_zero]
  split <;> rfl

/-- Whether row `r` of a block may look at key `k`: not ahead of it, within the window, and a key that there is; `b`
    tells whether there is a block before. -/
def seen (b : BitVec 1) (r : Fin 128) (k : Fin 256) : BitVec 1 :=
  IntOp.andi
    (IntOp.andi (IntOp.cmpi .sle (BitVec.ofNat 32 k.val) (IntOp.addi (BitVec.ofNat 32 r.val) 128#32))
      (IntOp.cmpi .sgt (BitVec.ofNat 32 k.val) (IntOp.subi (IntOp.addi (BitVec.ofNat 32 r.val) 128#32) 128#32)))
    (IntOp.ori (IntOp.cmpi .sge (BitVec.ofNat 32 k.val) 128#32) b)

/-- No key is seen of the block before the first. -/
theorem seen_hidden (r : Fin 128) (k : Fin 256) (h : k.val < 128) : seen 0#1 r k = 0#1 := by
  have e : IntOp.cmpi .sge (BitVec.ofNat 32 k.val) 128#32 = 0#1 :=
    (by decide +kernel : ∀ k : Fin 256, k.val < 128 → IntOp.cmpi .sge (BitVec.ofNat 32 k.val) 128#32 = 0#1) k h
  unfold seen
  rw [e]
  exact (by decide : ∀ x : BitVec 1, IntOp.andi x (IntOp.ori 0#1 0#1) = 0#1) _

/-- One bit or another, either way round. -/
theorem bits_or (a b : BitVec 1) : IntOp.ori a b = IntOp.ori b a := by revert a b; decide

/-! ### Probabilities -/

/-- The score of a key, minus infinity for one that is not seen. -/
def score (s : BitVec 1) (q k : Fin 64 → ℝ) : EReal := Scalar.select s (((∑ x, q x * k x) * (1 / 8) : ℝ) : EReal) ⊥

/-- No score is plus infinity. -/
theorem score_ne_top (s : BitVec 1) (q k : Fin 64 → ℝ) : score s q k ≠ ⊤ := by
  unfold score Scalar.select
  split
  · exact EReal.coe_ne_top _
  · exact bot_ne_top

/-- The score of a key that is not seen. -/
theorem score_zero (q k : Fin 64 → ℝ) : score 0#1 q k = ⊥ := rfl

section
variable (s : Fin 256 → EReal) (σ : ℝ)

/-- The largest of the scores and the sink. -/
def top : EReal := max (Finset.fold max ⊥ s Finset.univ) (σ : EReal)

/-- The exponential of a score under the largest. -/
def ex (k : Fin 256) : ℝ := (Ideal.exp (s k - top s σ)).toReal
/-- The exponential of the sink under the largest. -/
def es : ℝ := (Ideal.exp (σ - top s σ)).toReal
/-- The sum of the exponentials. -/
def den : ℝ := ∑ k, ex s σ k + es s σ
/-- The probability of a key and of the sink. -/
def pr (k : Fin 256) : ℝ := ex s σ k * (1 / den s σ)
/-- The probability of the sink. -/
def psk : ℝ := es s σ * (1 / den s σ)

variable (hs : ∀ k, s k ≠ ⊤)
include hs

/-- The largest of the scores is not plus infinity. -/
theorem fold_ne_top : Finset.fold max ⊥ s Finset.univ ≠ ⊤ := by
  intro h
  have := (Finset.le_fold_max (b := (⊥ : EReal)) (f := s) (s := Finset.univ) ⊤).mp h.ge
  rcases this with h | ⟨k, -, h⟩
  · exact absurd h (by decide)
  · exact hs k (top_le_iff.mp h)

/-- With the sink it is a real number. -/
theorem top_real : ∃ M : ℝ, top s σ = (M : EReal) := by
  refine ⟨(top s σ).toReal, (EReal.coe_toReal ?_ ?_).symm⟩
  · exact (max_lt (lt_top_iff_ne_top.mpr (fold_ne_top s hs)) (EReal.coe_lt_top σ)).ne
  · exact (lt_of_lt_of_le (EReal.bot_lt_coe σ) (le_max_right _ _)).ne'

/-- A score's exponential is real and not negative. -/
theorem ex_coe (k : Fin 256) : Ideal.exp (s k - top s σ) = (ex s σ k : EReal) ∧ 0 ≤ ex s σ k := by
  obtain ⟨M, hM⟩ := top_real s σ hs
  unfold ex
  rw [hM]
  generalize he : s k = e
  have := hs k
  rw [he] at this
  induction e using EReal.rec with
  | top => exact absurd rfl this
  | bot => simp [Ideal.exp_bot]
  | coe x =>
    rw [← EReal.coe_sub, Ideal.exp_coe, EReal.toReal_coe]
    exact ⟨rfl, (Real.exp_pos _).le⟩

/-- The sink's exponential is real and positive. -/
theorem es_coe : Ideal.exp (σ - top s σ) = (es s σ : EReal) ∧ 0 < es s σ := by
  obtain ⟨M, hM⟩ := top_real s σ hs
  unfold es
  rw [hM, ← EReal.coe_sub, Ideal.exp_coe, EReal.toReal_coe]
  exact ⟨rfl, Real.exp_pos _⟩

/-- The sum of the exponentials is positive. -/
theorem den_pos : 0 < den s σ :=
  add_pos_of_nonneg_of_pos (Finset.sum_nonneg fun k _ => (ex_coe s σ hs k).2) (es_coe s σ hs).2

/-- The sum of the exponentials, as the calls write it. -/
theorem den_coe : ∑ k, Ideal.exp (s k - top s σ) + Ideal.exp (σ - top s σ) = (den s σ : EReal) := by
  rw [Finset.sum_congr rfl fun k _ => (ex_coe s σ hs k).1, (es_coe s σ hs).1, coe_sum, ← EReal.coe_add, den]

/-- A quotient by the sum, either way it is taken. -/
theorem div_den (x : EReal) : Ideal.div x (den s σ : EReal) = x * ((1 / den s σ : ℝ) : EReal) := Ideal.div_coe (den_pos s σ hs).ne' x

/-- A key that is not seen has the exponential 0, -/
theorem ex_zero (k : Fin 256) (h : s k = ⊥) : ex s σ k = 0 := by
  obtain ⟨M, hM⟩ := top_real s σ hs
  unfold ex
  rw [hM, h]
  simp [Ideal.exp_bot]

/-- the probability 0 -/
theorem pr_zero (k : Fin 256) (h : s k = ⊥) : pr s σ k = 0 := by
  rw [pr, ex_zero s σ hs k h, zero_mul]

end

/-- The gradient of a scaled score from those of the probabilities. -/
def dsc (s : Fin 256 → EReal) (σ : ℝ) (dp : Fin 256 → ℝ) (k : Fin 256) : ℝ :=
  pr s σ k * (dp k - ∑ x, pr s σ x * dp x) * (1 / 8)

/-- and the gradient 0. -/
theorem dsc_zero (s : Fin 256 → EReal) (σ : ℝ) (hs : ∀ k, s k ≠ ⊤) (dp : Fin 256 → ℝ) (k : Fin 256) (h : s k = ⊥) : dsc s σ dp k = 0 := by
  rw [dsc, pr_zero s σ hs k h, zero_mul, zero_mul]

end Cert.Attend

end
-- ==== Proof.AttTiles.lean ====
/- What the attention's gradient kernel makes of one block: the normed queries and keys, the values, the scores, the
   probabilities and the gradients of the scores, each as a real number, for the first and for the second block of a step. -/
module

public import proofs.«01_k».proof.Proof.Gen.AttBwdIdeal.Value
public import proofs.«01_k».proof.Proof.Attend
public import Idealize.ShloMosaic.Lib.Pipeline.ValueKit
public import Idealize.ShloMosaic.Lib.Pipeline.ReadBack
public import Idealize.ShloMosaic.Lib.Claim

@[expose] public section

set_option maxRecDepth 16384

noncomputable section

namespace Cert.AttBwdIdeal.Final

open Cert.AttBwdIdeal Cert.AttBwdIdeal.Gen
open Idealize.ShloMosaic Idealize.ShloMosaic.TcCoe Idealize.SL.Sem
open Idealize.ShloMosaic.Pipeline (Dat)

open Cert.Attend Cert.RowNorm

/-! ### The blocks' tensors -/

/-- The matrix that marks the heads of the queries. -/
theorem seg_q (a b : Fin 512) : k0_pay7 (F := Ideal) (ix2 a b) = if a.val / 64 = b.val / 64 then 1 else 0 := by
  pointwise [k0_pay7]
  exact pick_head le_rfl a b

/-- The matrix that marks the heads of the keys, -/
theorem seg_k (a b : Fin 128) : k0_pay8 (F := Ideal) (ix2 a b) = if a.val / 64 = b.val / 64 then 1 else 0 := by
  pointwise [k0_pay8]
  exact pick_head (by decide) a b

/-- and that of the second block. -/
theorem seg_k' (a b : Fin 128) : k0_pay68 (F := Ideal) (ix2 a b) = if a.val / 64 = b.val / 64 then 1 else 0 := by
  pointwise [k0_pay68]
  exact pick_head (by decide) a b

/-- The heads of a row, stacked. -/
theorem heads0 (v : FVec Ideal S128x512 .f32) (h : Fin 8) (r : Fin 128) (d : Fin 64) :
    k0_pay18 v (ix3 h r d) = v (ix2 r ⟨64 * h.val + d.val, by omega⟩) := by
  pointwise [k0_pay18]
  fin_vals h with hh
  all_goals simp only [hh, Nat.reduceSub, Nat.reduceLT, ↓reduceDIte, Nat.reduceMul, zero_add]

/-- The heads of the keys or the values, each for its four heads of queries. -/
theorem kheads0 (v : FVec Ideal S256x128 .f32) (h : Fin 8) (r : Fin 256) (d : Fin 64) :
    k0_pay19 v (ix3 h r d) = v (ix2 r ⟨64 * (h.val / 4) + d.val, by omega⟩) := by
  pointwise [k0_pay19]
  fin_vals h with hh
  all_goals simp only [hh, Nat.reduceSub, Nat.reduceLT, ↓reduceDIte, Nat.reduceDiv, Nat.reduceMul, zero_add]

variable (cur : Vec Ideal S256x768 .f32) (prev : Vec Ideal S128x768 .f32) (qw : Vec Ideal S1x512 .f32) (kw : Vec Ideal S1x128 .f32)
  (X : Fin 256 → Fin 768 → ℝ) (Y : Fin 128 → Fin 768 → ℝ) (wq wk : Fin 64 → ℝ)
  (hX : ∀ a b, cur (ix2 a b) = (X a b : EReal)) (hY : ∀ a b, prev (ix2 a b) = (Y a b : EReal))
  (hq : ∀ b : Fin 512, qw (ix2 0 b) = (wq ⟨b.val % 64, Nat.mod_lt _ (by decide)⟩ : EReal))
  (hk : ∀ b : Fin 128, kw (ix2 0 b) = (wk ⟨b.val % 64, Nat.mod_lt _ (by decide)⟩ : EReal))

include hX hq in
/-- The queries of the first block. -/
theorem q0 (h : Fin 8) (r : Fin 128) (d : Fin 64) :
    k0_pay18 (k0_pay14 (k0_pay5 qw) k0_pay7 (k0_pay9 cur) (k0_pay11 cur) (k0_pay12 cur)) (ix3 h r d)
      = (nrm (fun d => X ⟨r.val, by omega⟩ ⟨64 * h.val + d.val, by omega⟩) wq d : EReal) := by
  rw [heads0]
  pointwise [k0_pay14, k0_pay13, k0_pay9, k0_pay10, k0_pay11, k0_pay12, k0_pay5, k0_pay3, seg_q]
  have e1 : (64 * h.val + d.val) / 64 = h.val := by omega
  have e2 : (64 * h.val + d.val) % 64 = d.val := by omega
  simp only [hX, hq, e1, e2]
  erw [inv_rows (fun x : Fin 512 => X ⟨r.val, by omega⟩ ⟨x.val, by omega⟩) h.val (by omega)]
  simp only [← EReal.coe_mul]
  rfl

include hX hY hk in
/-- Its keys. -/
theorem k0 (h : Fin 8) (a : Fin 256) (d : Fin 64) :
    k0_pay19 (k0_pay15 prev (k0_pay3 cur) (k0_pay6 kw) k0_pay8) (ix3 h a d)
      = (nrm (fun d => if ha : a.val < 128 then Y ⟨a.val, ha⟩ ⟨512 + (64 * (h.val / 4) + d.val), by omega⟩
          else X ⟨a.val - 128, by omega⟩ ⟨512 + (64 * (h.val / 4) + d.val), by omega⟩) wk d : EReal) := by
  rw [kheads0]
  pointwise [k0_pay15, k0_pay6, k0_pay3, seg_k]
  have e1 : (64 * (h.val / 4) + d.val) / 64 = h.val / 4 := by omega
  have e2 : (64 * (h.val / 4) + d.val) % 64 = d.val := by omega
  simp only [hX, hY, hk, e1, e2]
  by_cases ha : a.val < 128
  · simp only [dif_pos ha]
    erw [inv_rows (fun x : Fin 128 => Y ⟨a.val, ha⟩ ⟨512 + x.val, by omega⟩) (h.val / 4) (by omega)]
    simp only [← EReal.coe_mul]
    rfl
  · simp only [dif_neg ha]
    erw [inv_rows (fun x : Fin 128 => X ⟨a.val - 128, by omega⟩ ⟨512 + x.val, by omega⟩) (h.val / 4) (by omega)]
    simp only [← EReal.coe_mul]
    rfl

include hX hY in
/-- Its values. -/
theorem v0 (h : Fin 8) (a : Fin 256) (d : Fin 64) :
    k0_pay20 (k0_pay16 prev) (k0_pay17 (k0_pay3 cur)) (ix3 h a d)
      = ((if ha : a.val < 128 then Y ⟨a.val, ha⟩ ⟨640 + (64 * (h.val / 4) + d.val), by omega⟩
          else X ⟨a.val - 128, by omega⟩ ⟨640 + (64 * (h.val / 4) + d.val), by omega⟩ : ℝ) : EReal) := by
  pointwise [k0_pay20, k0_pay16, k0_pay17, k0_pay3]
  simp only [hX, hY]
  fin_vals h with hh
  all_goals simp only [hh, Nat.reduceSub, Nat.reduceLT, ↓reduceDIte, Nat.reduceDiv, Nat.reduceMul, zero_add]
  all_goals split
  all_goals first | rfl | (congr 2; apply Fin.ext; dsimp only; omega)

include hX in
/-- The inverse roots of the second block's queries. -/
theorem r1 (r : Fin 128) (h : Fin 8) (d : Fin 64) :
    k0_pay71 (k0_pay70 cur) (ix2 r ⟨64 * h.val + d.val, by omega⟩)
      = (rs (fun d => X ⟨128 + r.val, by omega⟩ ⟨64 * h.val + d.val, by omega⟩) : EReal) := by
  pointwise [k0_pay71, k0_pay70, k0_pay69, k0_pay63]
  have e1 : (64 * h.val + d.val) / 64 = h.val := by omega
  simp only [fun a => pick_mul a (64 * h.val + d.val) (by omega), hX, e1]
  exact inv_rows (fun x : Fin 512 => X ⟨128 + r.val, by omega⟩ ⟨x.val, by omega⟩) h.val (by omega)

include hX hq in
/-- Its queries. -/
theorem q1 (h : Fin 8) (r : Fin 128) (d : Fin 64) :
    k0_pay82 (k0_pay72 (k0_pay66 qw) (k0_pay69 cur) (k0_pay70 cur)) (k0_pay75 (k0_pay66 qw) (k0_pay69 cur) (k0_pay70 cur)) (k0_pay76 (k0_pay66 qw) (k0_pay69 cur) (k0_pay70 cur)) (k0_pay77 (k0_pay66 qw) (k0_pay69 cur) (k0_pay70 cur)) (k0_pay78 (k0_pay66 qw) (k0_pay69 cur) (k0_pay70 cur)) (k0_pay79 (k0_pay66 qw) (k0_pay69 cur) (k0_pay70 cur)) (k0_pay80 (k0_pay66 qw) (k0_pay69 cur) (k0_pay70 cur)) (k0_pay81 (k0_pay66 qw) (k0_pay69 cur) (k0_pay70 cur)) (ix3 h r d)
      = (nrm (fun d => X ⟨128 + r.val, by omega⟩ ⟨64 * h.val + d.val, by omega⟩) wq d : EReal) := by
  have e2 : (64 * h.val + d.val) % 64 = d.val := by omega
  have e : k0_pay72 (k0_pay66 qw) (k0_pay69 cur) (k0_pay70 cur) (ix2 r ⟨64 * h.val + d.val, by omega⟩)
      = (nrm (fun d => X ⟨128 + r.val, by omega⟩ ⟨64 * h.val + d.val, by omega⟩) wq d : EReal) := by
    pointwise [k0_pay72, k0_pay66]
    rw [r1 cur X hX r h d]
    pointwise [k0_pay69, k0_pay63]
    simp only [hX, hq, e2, ← EReal.coe_mul]
    rfl
  rw [← e]
  pointwise [k0_pay82]
  fin_vals h with hh
  all_goals simp only [hh, Nat.reduceSub, Nat.reduceLT, ↓reduceDIte, Nat.reduceDiv, Nat.reduceMul, zero_add]
  all_goals pointwise [k0_pay75, k0_pay76, k0_pay77, k0_pay78, k0_pay79, k0_pay80, k0_pay81]

/-- The heads of its keys. -/
theorem kheads1 (v : FVec Ideal S256x128 .f32) (h : Fin 8) (r : Fin 256) (d : Fin 64) :
    k0_pay83 v (ix3 h r d) = v (ix2 r ⟨64 * (h.val / 4) + d.val, by omega⟩) := by
  pointwise [k0_pay83]
  fin_vals h with hh
  all_goals simp only [hh, Nat.reduceSub, Nat.reduceLT, ↓reduceDIte, Nat.reduceDiv, Nat.reduceMul, zero_add]

/-- The heads of its values. -/
theorem vheads1 (v : FVec Ideal S256x128 .f32) (h : Fin 8) (r : Fin 256) (d : Fin 64) :
    k0_pay84 v (ix3 h r d) = v (ix2 r ⟨64 * (h.val / 4) + d.val, by omega⟩) := by
  pointwise [k0_pay84]
  fin_vals h with hh
  all_goals simp only [hh, Nat.reduceSub, Nat.reduceLT, ↓reduceDIte, Nat.reduceDiv, Nat.reduceMul, zero_add]

include hX hk in
/-- Its keys. -/
theorem k1 (h : Fin 8) (a : Fin 256) (d : Fin 64) :
    k0_pay83 (k0_pay73 (k0_pay63 cur) (k0_pay64 cur) (k0_pay67 kw) k0_pay68) (ix3 h a d)
      = (nrm (fun d => X a ⟨512 + (64 * (h.val / 4) + d.val), by omega⟩) wk d : EReal) := by
  rw [kheads1]
  pointwise [k0_pay73, k0_pay63, k0_pay64, k0_pay67, seg_k']
  have e1 : (64 * (h.val / 4) + d.val) / 64 = h.val / 4 := by omega
  have e2 : (64 * (h.val / 4) + d.val) % 64 = d.val := by omega
  simp only [hX, hk, e1, e2]
  by_cases ha : a.val < 128
  · simp only [dif_pos ha]
    erw [inv_rows (fun x : Fin 128 => X a ⟨512 + x.val, by omega⟩) (h.val / 4) (by omega)]
    simp only [← EReal.coe_mul]
    rfl
  · simp only [dif_neg ha]
    have e : ∀ x : Fin 128, X ⟨128 + (a.val - 128), by omega⟩ ⟨512 + x.val, by omega⟩ = X a ⟨512 + x.val, by omega⟩ := fun x =>
      congrArg (fun i => X i _) (Fin.ext (by show 128 + (a.val - 128) = a.val; omega))
    simp only [e]
    erw [inv_rows (fun x : Fin 128 => X a ⟨512 + x.val, by omega⟩) (h.val / 4) (by omega)]
    erw [e ⟨64 * (h.val / 4) + d.val, by omega⟩]
    simp only [← EReal.coe_mul]
    rfl

include hX in
/-- Its values. -/
theorem v1 (h : Fin 8) (a : Fin 256) (d : Fin 64) :
    k0_pay84 (k0_pay74 (k0_pay63 cur) (k0_pay64 cur)) (ix3 h a d) = (X a ⟨640 + (64 * (h.val / 4) + d.val), by omega⟩ : EReal) := by
  rw [vheads1]
  pointwise [k0_pay74, k0_pay63, k0_pay64]
  simp only [hX]
  split
  · rfl
  · exact congrArg (fun i => ((X i _ : ℝ) : EReal)) (Fin.ext (by show 128 + (a.val - 128) = a.val; omega))

variable (g : Vec Ideal S256x512 .f32)
  (sk : Vec Ideal S1x128 .f32) (σ : Fin 8 → ℝ) (hσ : ∀ h : Fin 8, sk (ix2 0 ⟨h.val, lane_lt h⟩) = (σ h : EReal))

/-- The first block's cotangent. -/
theorem g0 (h : Fin 8) (r : Fin 128) (d : Fin 64) :
    k0_pay29 (k0_pay21 (k0_pay4 g)) (k0_pay22 (k0_pay4 g)) (k0_pay23 (k0_pay4 g)) (k0_pay24 (k0_pay4 g)) (k0_pay25 (k0_pay4 g)) (k0_pay26 (k0_pay4 g)) (k0_pay27 (k0_pay4 g)) (k0_pay28 (k0_pay4 g)) (ix3 h r d)
      = g (ix2 ⟨r.val, by omega⟩ ⟨64 * h.val + d.val, by omega⟩) := by
  pointwise [k0_pay29, k0_pay21, k0_pay22, k0_pay23, k0_pay24, k0_pay25, k0_pay26, k0_pay27, k0_pay28, k0_pay4]
  fin_vals h with hh
  all_goals simp only [hh, Nat.reduceSub, Nat.reduceLT, ↓reduceDIte, Nat.reduceMul, zero_add]

/-- The second block's cotangent. -/
theorem g1 (h : Fin 8) (r : Fin 128) (d : Fin 64) :
    k0_pay85 (k0_pay65 g) (ix3 h r d) = g (ix2 ⟨128 + r.val, by omega⟩ ⟨64 * h.val + d.val, by omega⟩) := by
  pointwise [k0_pay85, k0_pay65]
  fin_vals h with hh
  all_goals simp only [hh, Nat.reduceSub, Nat.reduceLT, ↓reduceDIte, Nat.reduceMul, zero_add]

include hσ in
/-- The sinks, in the first block. -/
theorem s0 (h : Fin 8) : k0_pay30 sk (ix3 h 0 0) = (σ h : EReal) := by
  rw [← hσ]
  pointwise [k0_pay30]
  fin_vals h with hh
  all_goals simp only [hh, Nat.reduceSub, Nat.reduceLT, ↓reduceDIte, Nat.reduceMul, zero_add]
  all_goals rfl

/-! ### Scores and probabilities of one block -/

section
variable (q3 : FVec Ideal S8x128x64 .f32) (k3 : FVec Ideal S8x256x64 .f32) (Q : Fin 8 → Fin 128 → Fin 64 → ℝ) (K : Fin 8 → Fin 256 → Fin 64 → ℝ)
  (h3 : ∀ h r d, q3 (ix3 h r d) = (Q h r d : EReal)) (hk3 : ∀ h a d, k3 (ix3 h a d) = (K h a d : EReal)) (n : BitVec 32)

/-- The scores of one row. -/
abbrev srow (Q : Fin 8 → Fin 128 → Fin 64 → ℝ) (K : Fin 8 → Fin 256 → Fin 64 → ℝ) (n : BitVec 32) (h : Fin 8) (r : Fin 128) (a : Fin 256) : EReal :=
  score (seen (Scalar.cmpi .sgt n 0#32) r a) (Q h r) (K h a)

/-- The score of a key that is not seen. -/
theorem mask_bot : (Named.named κ "mask" 0xF149F2CA#32 : Ideal .f32) = (⊥ : EReal) := by
  exact IdealRules.named_const.ideal_named_scalar _ _ _ _ rfl

include h3 hk3 in
/-- The scores of the first block. -/
theorem score0 (h : Fin 8) (r : Fin 128) (a : Fin 256) : k0_pay31 n q3 k3 (ix3 h r a) = srow Q K n h r a := by
  pointwise [k0_pay31]
  rw [mask_bot, scale_eq]
  simp only [h3, hk3, ← EReal.coe_mul]
  rw [coe_sum, ← EReal.coe_mul]
  rfl

include h3 hk3 in
/-- The scores of the second block. -/
theorem score1 (h : Fin 8) (r : Fin 128) (a : Fin 256) :
    k0_pay88 n q3 k3 (iota .tc S128x256 32 [0]) (iota .tc S128x256 32 [1]) k0_pay86 (ix3 h r a) = srow Q K n h r a := by
  pointwise [k0_pay88, k0_pay86]
  rw [mask_bot, scale_eq]
  simp only [h3, hk3, ← EReal.coe_mul]
  rw [coe_sum, ← EReal.coe_mul]
  rfl
end

section
variable (sc3 : FVec Ideal S8x128x256 .f32) (sk3 : FVec Ideal S8x1x1 .f32) (S : Fin 8 → Fin 128 → Fin 256 → EReal)
  (hS : ∀ h r a, sc3 (ix3 h r a) = S h r a) (hσ3 : ∀ h, sk3 (ix3 h 0 0) = (σ h : EReal)) (hT : ∀ h r a, S h r a ≠ ⊤)
  (v3 : FVec Ideal S8x256x64 .f32) (g3 : FVec Ideal S8x128x64 .f32) (V : Fin 8 → Fin 256 → Fin 64 → ℝ) (D : Fin 8 → Fin 128 → Fin 64 → ℝ)
  (hv3 : ∀ h a d, v3 (ix3 h a d) = (V h a d : EReal)) (hg3 : ∀ h r d, g3 (ix3 h r d) = (D h r d : EReal))

/-- The gradient that reaches a probability. -/
abbrev dpr (V : Fin 8 → Fin 256 → Fin 64 → ℝ) (D : Fin 8 → Fin 128 → Fin 64 → ℝ) (h : Fin 8) (r : Fin 128) (a : Fin 256) : ℝ := ∑ d, D h r d * V h a d

include hS hσ3 hT

/-- Their exponentials. -/
theorem exp0 (h : Fin 8) (r : Fin 128) (a : Fin 256) : k0_pay33 sk3 sc3 (ix3 h r a) = (ex (S h r) (σ h) a : EReal) := by
  pointwise [k0_pay33, k0_pay32]
  simp only [low_eq, hS, hσ3]
  exact (ex_coe _ _ (hT h r) a).1

/-- The sink's exponential. -/
theorem expsink0 (h : Fin 8) (r : Fin 128) : k0_pay34 sk3 sc3 (ix3 h r 0) = (es (S h r) (σ h) : EReal) := by
  pointwise [k0_pay34, k0_pay32]
  simp only [low_eq, hS, hσ3]
  exact (es_coe _ _ (hT h r)).1

/-- The inverse of the sum. -/
theorem inv0 (h : Fin 8) (r : Fin 128) : k0_pay35 sk3 sc3 (ix3 h r 0) = ((1 / den (S h r) (σ h) : ℝ) : EReal) := by
  pointwise [k0_pay35]
  simp only [fun h r a => exp0 σ sc3 sk3 S hS hσ3 hT h r a, fun h r => expsink0 σ sc3 sk3 S hS hσ3 hT h r]
  rw [coe_sum, ← EReal.coe_add]
  exact (div_den _ _ (hT h r) 1).trans (one_mul _)

/-- The probabilities of the first block. -/
theorem prob0 (h : Fin 8) (r : Fin 128) (a : Fin 256) : k0_pay36 sk3 sc3 (ix3 h r a) = (pr (S h r) (σ h) a : EReal) := by
  pointwise [k0_pay36]
  rw [exp0 σ sc3 sk3 S hS hσ3 hT, inv0 σ sc3 sk3 S hS hσ3 hT, ← EReal.coe_mul]
  rfl

include hv3 hg3

omit hS hσ3 hT in
/-- Their gradients. -/
theorem dprob0 (h : Fin 8) (r : Fin 128) (a : Fin 256) : k0_pay37 v3 g3 (ix3 h r a) = (dpr V D h r a : EReal) := by
  pointwise [k0_pay37]
  simp only [hv3, hg3, ← EReal.coe_mul]
  exact coe_sum _

/-- The mean of the gradients under the probabilities. -/
theorem delta0 (h : Fin 8) (r : Fin 128) : k0_pay38 v3 g3 sk3 sc3 (ix3 h r 0) = ((∑ a, pr (S h r) (σ h) a * dpr V D h r a : ℝ) : EReal) := by
  pointwise [k0_pay38]
  simp only [prob0 σ sc3 sk3 S hS hσ3 hT, dprob0 v3 g3 V D hv3 hg3, ← EReal.coe_mul]
  exact coe_sum _

/-- The scores' gradients. -/
theorem ds0 (h : Fin 8) (r : Fin 128) (a : Fin 256) : k0_pay39 v3 g3 sk3 sc3 (ix3 h r a) = (dsc (S h r) (σ h) (dpr V D h r) a : EReal) := by
  pointwise [k0_pay39]
  rw [prob0 σ sc3 sk3 S hS hσ3 hT, dprob0 v3 g3 V D hv3 hg3, delta0 σ sc3 sk3 S hS hσ3 hT v3 g3 V D hv3 hg3, scale_eq]
  simp only [← EReal.coe_mul, ← EReal.coe_sub]
  rfl

/-- The sinks' gradients. -/
theorem dsink0 (h : Fin 8) : k0_pay40 v3 g3 sk3 sc3 (ix3 h 0 0)
    = ((-∑ r, psk (S h r) (σ h) * ∑ a, pr (S h r) (σ h) a * dpr V D h r a : ℝ) : EReal) := by
  pointwise [k0_pay40]
  simp only [expsink0 σ sc3 sk3 S hS hσ3 hT, inv0 σ sc3 sk3 S hS hσ3 hT, delta0 σ sc3 sk3 S hS hσ3 hT v3 g3 V D hv3 hg3, ← EReal.coe_mul]
  rw [coe_sum]
  first | rw [zero_sub, ← EReal.coe_neg] | rw [← EReal.coe_neg]
  rfl
end

section
variable (q3 : FVec Ideal S8x128x64 .f32) (k3 : FVec Ideal S8x256x64 .f32) (n : BitVec 32)

/-- The second block's largest score, exponentials and sink, as they are passed on. -/
abbrev top1 : FVec Ideal S8x128x1 .f32 := k0_pay89 n q3 k3 (iota .tc S128x256 32 [0] iota_S128x256_d0_w32) (iota .tc S128x256 32 [1] iota_S128x256_d1_w32) k0_pay86 sk
/-- The exponentials of the second block. -/
abbrev ex1 : FVec Ideal S8x128x256 .f32 := k0_pay90 n q3 k3 (iota .tc S128x256 32 [0] iota_S128x256_d0_w32) (iota .tc S128x256 32 [1] iota_S128x256_d1_w32) k0_pay86 sk

variable (S : Fin 8 → Fin 128 → Fin 256 → EReal)
  (hS : ∀ h r a, k0_pay88 n q3 k3 (iota .tc S128x256 32 [0] iota_S128x256_d0_w32) (iota .tc S128x256 32 [1] iota_S128x256_d1_w32) k0_pay86 (ix3 h r a) = S h r a)
  (hT : ∀ h r a, S h r a ≠ ⊤)
  (v3 : FVec Ideal S8x256x64 .f32) (g3 : FVec Ideal S8x128x64 .f32) (V : Fin 8 → Fin 256 → Fin 64 → ℝ) (D : Fin 8 → Fin 128 → Fin 64 → ℝ)
  (hv3 : ∀ h a d, v3 (ix3 h a d) = (V h a d : EReal)) (hg3 : ∀ h r d, g3 (ix3 h r d) = (D h r d : EReal))

include hσ in
/-- The sinks, in the second block. -/
theorem s1 (h : Fin 8) : k0_pay87 sk (ix3 h 0 0) = (σ h : EReal) := by
  rw [← hσ]
  pointwise [k0_pay87]
  fin_vals h with hh
  all_goals simp only [hh, Nat.reduceSub, Nat.reduceLT, ↓reduceDIte, Nat.reduceMul, zero_add]
  all_goals rfl

include hS hσ

/-- The largest scores. -/
theorem max1 (h : Fin 8) (r : Fin 128) : top1 sk q3 k3 n (ix3 h r 0) = top (S h r) (σ h) := by
  pointwise [k0_pay89]
  simp only [low_eq, hS, s1 sk σ hσ]
  rfl

include hT

/-- The exponentials. -/
theorem exp1 (h : Fin 8) (r : Fin 128) (a : Fin 256) : ex1 sk q3 k3 n (ix3 h r a) = (ex (S h r) (σ h) a : EReal) := by
  have e := max1 sk σ hσ q3 k3 n S hS h r
  pointwise [k0_pay90]
  unfold top1 at e
  rw [hS, e]
  exact (ex_coe _ _ (hT h r) a).1

/-- The sink's exponential. -/
theorem expsink1 (h : Fin 8) (r : Fin 128) : k0_pay92 (top1 sk q3 k3 n) (k0_pay91 sk) (ix3 h r 0) = (es (S h r) (σ h) : EReal) := by
  have e := max1 sk σ hσ q3 k3 n S hS h r
  generalize top1 sk q3 k3 n = T at e
  pointwise [k0_pay92, k0_pay91]
  rw [e, s1 sk σ hσ]
  exact (es_coe _ _ (hT h r)).1

/-- The inverse of the sum. -/
theorem inv1 (h : Fin 8) (r : Fin 128) : k0_pay93 (top1 sk q3 k3 n) (ex1 sk q3 k3 n) (k0_pay91 sk) (ix3 h r 0) = ((1 / den (S h r) (σ h) : ℝ) : EReal) := by
  have e := exp1 sk σ hσ q3 k3 n S hS hT
  have f := expsink1 sk σ hσ q3 k3 n S hS hT
  generalize ex1 sk q3 k3 n = E at e
  generalize top1 sk q3 k3 n = T at f
  pointwise [k0_pay93]
  simp only [e, f]
  rw [coe_sum, ← EReal.coe_add]
  exact (div_den _ _ (hT h r) 1).trans (one_mul _)

/-- The probabilities of the second block. -/
theorem prob1 (h : Fin 8) (r : Fin 128) (a : Fin 256) : k0_pay94 (top1 sk q3 k3 n) (ex1 sk q3 k3 n) (k0_pay91 sk) (ix3 h r a) = (pr (S h r) (σ h) a : EReal) := by
  have e := exp1 sk σ hσ q3 k3 n S hS hT
  have f := inv1 sk σ hσ q3 k3 n S hS hT
  generalize ex1 sk q3 k3 n = E at e f
  generalize top1 sk q3 k3 n = T at f
  pointwise [k0_pay94]
  rw [e, f, ← EReal.coe_mul]
  rfl

include hv3 hg3

omit hS hσ hT in
/-- Their gradients. -/
theorem dprob1 (h : Fin 8) (r : Fin 128) (a : Fin 256) : k0_pay95 v3 g3 (ix3 h r a) = (dpr V D h r a : EReal) := by
  pointwise [k0_pay95]
  simp only [hv3, hg3, ← EReal.coe_mul]
  exact coe_sum _

/-- The mean of the gradients under the probabilities. -/
theorem delta1 (h : Fin 8) (r : Fin 128) : k0_pay96 v3 g3 (top1 sk q3 k3 n) (ex1 sk q3 k3 n) (k0_pay91 sk) (ix3 h r 0) = ((∑ a, pr (S h r) (σ h) a * dpr V D h r a : ℝ) : EReal) := by
  have e := prob1 sk σ hσ q3 k3 n S hS hT
  generalize ex1 sk q3 k3 n = E at e
  generalize top1 sk q3 k3 n = T at e
  pointwise [k0_pay96]
  simp only [e, dprob1 v3 g3 V D hv3 hg3, ← EReal.coe_mul]
  exact coe_sum _

/-- The scores' gradients. -/
theorem ds1 (h : Fin 8) (r : Fin 128) (a : Fin 256) : k0_pay97 v3 g3 (top1 sk q3 k3 n) (ex1 sk q3 k3 n) (k0_pay91 sk) (ix3 h r a) = (dsc (S h r) (σ h) (dpr V D h r) a : EReal) := by
  have e := prob1 sk σ hσ q3 k3 n S hS hT
  have f := delta1 sk σ hσ q3 k3 n S hS hT v3 g3 V D hv3 hg3
  generalize ex1 sk q3 k3 n = E at e f
  generalize top1 sk q3 k3 n = T at e f
  pointwise [k0_pay97]
  rw [e, dprob1 v3 g3 V D hv3 hg3, f, scale_eq]
  simp only [← EReal.coe_mul, ← EReal.coe_sub]
  rfl

/-- The sinks' gradients. -/
theorem dsink1 (h : Fin 8) : k0_pay98 v3 g3 (top1 sk q3 k3 n) (ex1 sk q3 k3 n) (k0_pay91 sk) (ix3 h 0 0)
    = ((-∑ r, psk (S h r) (σ h) * ∑ a, pr (S h r) (σ h) a * dpr V D h r a : ℝ) : EReal) := by
  have e := expsink1 sk σ hσ q3 k3 n S hS hT
  have e' := inv1 sk σ hσ q3 k3 n S hS hT
  have f := delta1 sk σ hσ q3 k3 n S hS hT v3 g3 V D hv3 hg3
  generalize ex1 sk q3 k3 n = E at e' f
  generalize top1 sk q3 k3 n = T at e e' f
  pointwise [k0_pay98]
  simp only [e, e', f, ← EReal.coe_mul]
  rw [coe_sum]
  first | rw [zero_sub, ← EReal.coe_neg] | rw [← EReal.coe_neg]
  rfl
end
end Cert.AttBwdIdeal.Final

end
-- ==== Proof.AttStep.lean ====
/- What the attention makes of a whole sequence: the normed queries and keys of a block and of the one before it, the scores
   and probabilities of its rows, and the gradients of its values. -/
module

public import proofs.«01_k».proof.Proof.Attend

@[expose] public section

noncomputable section

namespace Cert.Attend

open Idealize.ShloMosaic Cert.RowNorm

variable (X : Fin 4096 → Fin 768 → ℝ) (wq wk : Fin 64 → ℝ) (σ : Fin 8 → ℝ) (G : Fin 4096 → Fin 512 → EReal)

/-- A block's rows. -/
abbrev rowAt (n : Fin 32) (r : Fin 128) : Fin 4096 := ⟨n.val * 128 + r.val, by omega⟩

/-- The rows of a block's keys: those of the block before it, then its own. The first block has none before it. -/
abbrev keyAt (n : Fin 32) (a : Fin 256) : Fin 4096 := ⟨n.val * 128 + a.val - 128, by omega⟩

/-- The normed query of a row. -/
def qry (n : Fin 32) (h : Fin 8) (r : Fin 128) : Fin 64 → ℝ := nrm (fun d => X (rowAt n r) ⟨64 * h.val + d.val, by omega⟩) wq
/-- The normed key at a place of the window. -/
def key (n : Fin 32) (h : Fin 8) (a : Fin 256) : Fin 64 → ℝ := nrm (fun d => X (keyAt n a) ⟨512 + (64 * (h.val / 4) + d.val), by omega⟩) wk
/-- The value at a place of the window. -/
def val (n : Fin 32) (h : Fin 8) (a : Fin 256) (d : Fin 64) : ℝ := X (keyAt n a) ⟨640 + (64 * (h.val / 4) + d.val), by omega⟩
/-- A row's cotangent. -/
def grd (n : Fin 32) (h : Fin 8) (r : Fin 128) (d : Fin 64) : EReal := G (rowAt n r) ⟨64 * h.val + d.val, by omega⟩

/-- Whether there is a block before block `n`. -/
def bit (n : Fin 32) : BitVec 1 := IntOp.cmpi .sgt (BitVec.ofNat 32 n.val) 0#32

/-- The first block has none before it. -/
theorem bit_zero (n : Fin 32) (h : n.val = 0) : bit n = 0#1 := by
  have e : n = 0 := Fin.ext h
  subst e
  decide

/-- The scores of one row. -/
def scr (n : Fin 32) (h : Fin 8) (r : Fin 128) (a : Fin 256) : EReal := score (seen (bit n) r a) (qry X wq n h r) (key X wk n h a)

/-- No score is plus infinity. -/
theorem scr_ne_top (n : Fin 32) (h : Fin 8) (r : Fin 128) (a : Fin 256) : scr X wq wk n h r a ≠ ⊤ := score_ne_top _ _ _

/-- What stands before the first row is not seen. -/
theorem hidden (n : Fin 32) (r : Fin 128) (a : Fin 256) (hn : n.val = 0 ∧ a.val < 128) (q k : Fin 64 → ℝ) : score (seen (bit n) r a) q k = ⊥ := by
  rw [bit_zero n hn.1, seen_hidden r a hn.2]
  rfl

/-- Of a key that isn't there the score tells nothing. -/
theorem scr_of (n : Fin 32) (h : Fin 8) (r : Fin 128) (a : Fin 256) (q k : Fin 64 → ℝ) (hq : q = qry X wq n h r)
    (hk : ¬ (n.val = 0 ∧ a.val < 128) → k = key X wk n h a) : score (seen (bit n) r a) q k = scr X wq wk n h r a := by
  subst hq
  by_cases hn : n.val = 0 ∧ a.val < 128
  · rw [scr, hidden n r a hn, hidden n r a hn]
  · rw [hk hn, scr]

/-- The head `j` of the four that share a key and value head. -/
abbrev ofGroup (g : Fin 2) (j : Fin 4) : Fin 8 := ⟨g.val * 4 + j.val, by omega⟩

/-- The probabilities. -/
def prb (n : Fin 32) (h : Fin 8) (r : Fin 128) (a : Fin 256) : ℝ := pr (scr X wq wk n h r) (σ h) a

/-- The gradient of a block's values. -/
def dval (n : Fin 32) (g : Fin 2) (a : Fin 256) (d : Fin 64) : EReal :=
  ∑ j : Fin 4, ∑ r, (prb X wq wk σ n (ofGroup g j) r a : EReal) * grd G n (ofGroup g j) r d

end Cert.Attend

end
-- ==== Proof.AttBwd.lean ====
/- The gradient of the values in a block: what the kernel stores. -/
module

public import proofs.«01_k».proof.Proof.AttTiles
public import proofs.«01_k».proof.Proof.AttStep

@[expose] public section

set_option maxRecDepth 16384

noncomputable section

namespace Cert.AttBwdIdeal.Final

open Cert.AttBwdIdeal Cert.AttBwdIdeal.Gen
open Idealize.ShloMosaic Idealize.ShloMosaic.TcCoe Idealize.SL.Sem
open Idealize.ShloMosaic.Pipeline (Dat)

open Cert.Attend Cert.RowNorm

/-- The heads of the first head of the keys. -/
theorem group_low (g : Fin 2) (h : g.val = 0) (j : Fin 4) : ofGroup g j = ⟨j.val, by omega⟩ := Fin.ext (by show g.val * 4 + j.val = j.val; omega)

/-- The heads of the second head of the keys. -/
theorem group_high (g : Fin 2) (h : g.val = 1) (j : Fin 4) : ofGroup g j = ⟨4 + j.val, by omega⟩ := Fin.ext (by show g.val * 4 + j.val = 4 + j.val; omega)

section
variable (p3 : FVec Ideal S8x128x256 .f32) (g3 : FVec Ideal S8x128x64 .f32) (P : Fin 8 → Fin 128 → Fin 256 → ℝ) (D : Fin 8 → Fin 128 → Fin 64 → EReal)
  (hp : ∀ h r a, p3 (ix3 h r a) = (P h r a : EReal)) (hg : ∀ h r d, g3 (ix3 h r d) = D h r d)
include hp hg

/-- The first block: the gradient of the values of the block before. -/
theorem dvPrev0 (a : Fin 128) (g : Fin 2) (d : Fin 64) :
    k0_pay56 g3 p3 (ix2 a ⟨64 * g.val + d.val, by omega⟩) = ∑ j : Fin 4, ∑ r, (P (ofGroup g j) r ⟨a.val, by omega⟩ : EReal) * D (ofGroup g j) r d := by
  pointwise [k0_pay56, k0_pay53]
  simp only [hp, hg]
  rw [Fin.sum_univ_four]
  fin_vals g with hh
  · have hd := d.isLt
    simp only [hh, mul_zero, zero_add, hd, ↓reduceDIte, group_low g hh]
    rfl
  · have hd : ¬ 64 + d.val < 64 := by omega
    simp only [hh, mul_one, hd, ↓reduceDIte, Nat.add_sub_cancel_left, group_high g hh]
    rfl

/-- The first block: the gradient of its own values. -/
theorem dvOwn0 (a : Fin 128) (g : Fin 2) (d : Fin 64) :
    k0_pay57 g3 p3 (ix2 a ⟨64 * g.val + d.val, by omega⟩) = ∑ j : Fin 4, ∑ r, (P (ofGroup g j) r ⟨128 + a.val, by omega⟩ : EReal) * D (ofGroup g j) r d := by
  pointwise [k0_pay57, k0_pay53]
  simp only [hp, hg]
  rw [Fin.sum_univ_four]
  fin_vals g with hh
  · have hd := d.isLt
    simp only [hh, mul_zero, zero_add, hd, ↓reduceDIte, group_low g hh]
    rfl
  · have hd : ¬ 64 + d.val < 64 := by omega
    simp only [hh, mul_one, hd, ↓reduceDIte, Nat.add_sub_cancel_left, group_high g hh]
    rfl

/-- The second block: the gradient of the values of the first. -/
theorem dvPrev1 (a : Fin 128) (g : Fin 2) (d : Fin 64) :
    k0_pay112 (k0_pay107 p3) (k0_pay108 g3) (ix2 a ⟨64 * g.val + d.val, by omega⟩)
      = ∑ j : Fin 4, ∑ r, (P (ofGroup g j) r ⟨a.val, by omega⟩ : EReal) * D (ofGroup g j) r d := by
  pointwise [k0_pay112, k0_pay109, k0_pay107, k0_pay108]
  simp only [hp, hg]
  rw [Fin.sum_univ_four]
  fin_vals g with hh
  · have hd := d.isLt
    simp only [hh, mul_zero, zero_add, hd, ↓reduceDIte, group_low g hh]
    rfl
  · have hd : ¬ 64 + d.val < 64 := by omega
    simp only [hh, mul_one, hd, ↓reduceDIte, Nat.add_sub_cancel_left, group_high g hh]
    rfl

/-- The second block: the gradient of its own values. -/
theorem dvOwn1 (a : Fin 128) (g : Fin 2) (d : Fin 64) :
    k0_pay113 (k0_pay107 p3) (k0_pay108 g3) (ix2 a ⟨64 * g.val + d.val, by omega⟩)
      = ∑ j : Fin 4, ∑ r, (P (ofGroup g j) r ⟨128 + a.val, by omega⟩ : EReal) * D (ofGroup g j) r d := by
  pointwise [k0_pay113, k0_pay109, k0_pay107, k0_pay108]
  simp only [hp, hg]
  rw [Fin.sum_univ_four]
  fin_vals g with hh
  · have hd := d.isLt
    simp only [hh, mul_zero, zero_add, hd, ↓reduceDIte, group_low g hh]
    rfl
  · have hd : ¬ 64 + d.val < 64 := by omega
    simp only [hh, mul_one, hd, ↓reduceDIte, Nat.add_sub_cancel_left, group_high g hh]
    rfl
end

end Cert.AttBwdIdeal.Final

end
-- ==== Proof.AttBwdOut.lean ====
/- The gradient of the values: what the kernel leaves of it over the whole sequence. -/
module

public import proofs.«01_k».proof.Proof.AttBwd
public import Idealize.ShloMosaic.Lib.StableHlo.ReadAt

@[expose] public section

set_option maxRecDepth 16384

noncomputable section

namespace Cert.AttBwdIdeal.Final

open Cert.AttBwdIdeal Cert.AttBwdIdeal.Gen
open Idealize.ShloMosaic Idealize.ShloMosaic.TcCoe Idealize.SL.Sem
open Idealize.ShloMosaic.Pipeline (Dat)

open Cert.Attend Cert.RowNorm

variable (m : (ℓ : Loc nD τ sig) → Buf (Elt Ideal) ℓ)

/-! ### The blocks of the operands -/

/-- There are sixteen grid points. -/
theorem point_lt (t : Fin cfg0.N) : t.val < 16 := lt_of_lt_of_eq t.isLt (by decide)

/-- Where the windows stand. -/
theorem idx : ∀ t : Fin cfg0.N, win0_0.index t = ![t.val, 0] ∧ win0_1.index t = ![2 * t.val - 1, 0]
    ∧ win0_2.index t = ![t.val, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

/-- Two blocks of rows of queries, keys and values. -/
theorem b0 (c : Dev nD) (t : Fin cfg0.N) (a : Fin 256) (b : Fin 768) : (iblk m c 0 t : Vec Ideal S256x768 .f32) (ix2 a b) = m ((c : Thread nD τ).loc main_arg0) (ix2 ⟨t.val * 256 + a.val, by have := point_lt t; omega⟩ b) := by
  blk_point [iblk, V, idx t]

/-- The block of rows before those; at the first point, where there is none, the first. -/
theorem b1 (c : Dev nD) (t : Fin cfg0.N) (a : Fin 128) (b : Fin 768) : (iblk m c 1 t : Vec Ideal S128x768 .f32) (ix2 a b) = m ((c : Thread nD τ).loc main_arg0) (ix2 ⟨(2 * t.val - 1) * 128 + a.val, by have := point_lt t; omega⟩ b) := by
  blk_point [iblk, V, idx t]

/-- The gradient that comes in. -/
theorem b2 (c : Dev nD) (t : Fin cfg0.N) (a : Fin 256) (b : Fin 512) : (iblk m c 2 t : Vec Ideal S256x512 .f32) (ix2 a b) = m ((c : Thread nD τ).loc main_arg4) (ix2 ⟨t.val * 256 + a.val, by have := point_lt t; omega⟩ b) := by
  blk_point [iblk, V, idx t]

/-- The queries' norm weights, once a head. -/
theorem h3 (c : Dev nD) (b : Fin 512) : (V m c main_v3 : Vec Ideal S1x512 .f32) (ix2 0 b) = m ((c : Thread nD τ).loc main_arg1) (ix1 ⟨b.val % 64, by omega⟩) := by
  unfold V
  after_reads_at

/-- The keys' norm weights, once a head. -/
theorem h4 (c : Dev nD) (b : Fin 128) : (V m c main_v7 : Vec Ideal S1x128 .f32) (ix2 0 b) = m ((c : Thread nD τ).loc main_arg2) (ix1 ⟨b.val % 64, by omega⟩) := by
  unfold V
  after_reads_at

/-- The sinks. -/
theorem h5 (c : Dev nD) (b : Fin 8) : (V m c main_v9 : Vec Ideal S1x128 .f32) (ix2 0 ⟨b.val, by omega⟩) = m ((c : Thread nD τ).loc main_arg3) (ix1 b) := by
  unfold V
  after_reads_at

/-- The weights of the queries' norm. -/
theorem b3 (c : Dev nD) (t : Fin cfg0.N) (b : Fin 512) : (iblk m c 3 t : Vec Ideal S1x512 .f32) (ix2 0 b) = m ((c : Thread nD τ).loc main_arg1) (ix1 ⟨b.val % 64, by omega⟩) := by
  rw [← h3 m c b]
  blk_point [iblk, idx t]

/-- The weights of the keys' norm. -/
theorem b4 (c : Dev nD) (t : Fin cfg0.N) (b : Fin 128) : (iblk m c 4 t : Vec Ideal S1x128 .f32) (ix2 0 b) = m ((c : Thread nD τ).loc main_arg2) (ix1 ⟨b.val % 64, by omega⟩) := by
  rw [← h4 m c b]
  blk_point [iblk, idx t]

/-- The sinks. -/
theorem b5 (c : Dev nD) (t : Fin cfg0.N) (b : Fin 8) : (iblk m c 5 t : Vec Ideal S1x128 .f32) (ix2 0 ⟨b.val, by omega⟩) = m ((c : Thread nD τ).loc main_arg3) (ix1 b) := by
  rw [← h5 m c b]
  blk_point [iblk, idx t]

/-- The two blocks of a point. -/
abbrev lo (t : Fin cfg0.N) : Fin 32 := ⟨2 * t.val, by have := point_lt t; omega⟩
/-- The second block of a point. -/
abbrev hi (t : Fin cfg0.N) : Fin 32 := ⟨2 * t.val + 1, by have := point_lt t; omega⟩

/-- The numbers of the blocks, as the kernel reckons them. -/
abbrev numLo (t : Fin cfg0.N) : BitVec 32 := Scalar.addi (Scalar.muli (BitVec.ofNat 32 (grid0.coords t 0).val) 2#32) 0#32
/-- Its number. -/
abbrev numHi (t : Fin cfg0.N) : BitVec 32 := Scalar.addi (Scalar.muli (BitVec.ofNat 32 (grid0.coords t 0).val) 2#32) 1#32

/-- Whether the first block has one before it. -/
theorem bit_lo : ∀ t : Fin cfg0.N, Scalar.cmpi .sgt (numLo t) 0#32 = bit (lo t) :=
  (by decide +kernel : ∀ t : Fin grid0.N, _)

/-- The second block has one before it. -/
theorem bit_hi : ∀ t : Fin cfg0.N, Scalar.cmpi .sgt (numHi t) 0#32 = bit (hi t) :=
  (by decide +kernel : ∀ t : Fin grid0.N, _)

section
variable (c : Dev nD) (X : Fin 4096 → Fin 768 → ℝ) (wq wk : Fin 64 → ℝ) (σ : Fin 8 → ℝ) (G : Fin 4096 → Fin 512 → EReal)
  (hX : ∀ a b, (m ((c : Thread nD τ).loc main_arg0) : Vec Ideal S4096x768 .f32) (ix2 a b) = (X a b : EReal))
  (hq : ∀ d, (m ((c : Thread nD τ).loc main_arg1) : Vec Ideal S64 .f32) (ix1 d) = (wq d : EReal))
  (hk : ∀ d, (m ((c : Thread nD τ).loc main_arg2) : Vec Ideal S64 .f32) (ix1 d) = (wk d : EReal))
  (hσ : ∀ h, (m ((c : Thread nD τ).loc main_arg3) : Vec Ideal S8 .f32) (ix1 h) = (σ h : EReal))
  (hG : ∀ a b, (m ((c : Thread nD τ).loc main_arg4) : Vec Ideal S4096x512 .f32) (ix2 a b) = G a b)
  (t : Fin cfg0.N)

/-- The rows of a point, and the block before them. -/
abbrev rows (a : Fin 256) (b : Fin 768) : ℝ := X ⟨t.val * 256 + a.val, by have := point_lt t; omega⟩ b
/-- The rows of the second block. -/
abbrev rows' (a : Fin 128) (b : Fin 768) : ℝ := X ⟨(2 * t.val - 1) * 128 + a.val, by have := point_lt t; omega⟩ b

/-- The kernel's probabilities of the first block and of the second. -/
abbrev kp0 : FVec Ideal S8x128x256 .f32 := k0_pay36 (k0_pay30 (iblk m c 5 t)) (k0_pay31 (numLo t) (k0_pay18 (k0_pay14 (k0_pay5 (iblk m c 3 t)) k0_pay7 (k0_pay9 (iblk m c 0 t)) (k0_pay11 (iblk m c 0 t)) (k0_pay12 (iblk m c 0 t)))) (k0_pay19 (k0_pay15 (iblk m c 1 t) (k0_pay3 (iblk m c 0 t)) (k0_pay6 (iblk m c 4 t)) k0_pay8)))
/-- The second block's probabilities. -/
abbrev kp1 : FVec Ideal S8x128x256 .f32 :=
  k0_pay94 (top1 (iblk m c 5 t) (k0_pay82 (k0_pay72 (k0_pay66 (iblk m c 3 t)) (k0_pay69 (iblk m c 0 t)) (k0_pay70 (iblk m c 0 t))) (k0_pay75 (k0_pay66 (iblk m c 3 t)) (k0_pay69 (iblk m c 0 t)) (k0_pay70 (iblk m c 0 t))) (k0_pay76 (k0_pay66 (iblk m c 3 t)) (k0_pay69 (iblk m c 0 t)) (k0_pay70 (iblk m c 0 t))) (k0_pay77 (k0_pay66 (iblk m c 3 t)) (k0_pay69 (iblk m c 0 t)) (k0_pay70 (iblk m c 0 t))) (k0_pay78 (k0_pay66 (iblk m c 3 t)) (k0_pay69 (iblk m c 0 t)) (k0_pay70 (iblk m c 0 t))) (k0_pay79 (k0_pay66 (iblk m c 3 t)) (k0_pay69 (iblk m c 0 t)) (k0_pay70 (iblk m c 0 t))) (k0_pay80 (k0_pay66 (iblk m c 3 t)) (k0_pay69 (iblk m c 0 t)) (k0_pay70 (iblk m c 0 t))) (k0_pay81 (k0_pay66 (iblk m c 3 t)) (k0_pay69 (iblk m c 0 t)) (k0_pay70 (iblk m c 0 t)))) (k0_pay83 (k0_pay73 (k0_pay63 (iblk m c 0 t)) (k0_pay64 (iblk m c 0 t)) (k0_pay67 (iblk m c 4 t)) k0_pay68)) (numHi t))
    (ex1 (iblk m c 5 t) (k0_pay82 (k0_pay72 (k0_pay66 (iblk m c 3 t)) (k0_pay69 (iblk m c 0 t)) (k0_pay70 (iblk m c 0 t))) (k0_pay75 (k0_pay66 (iblk m c 3 t)) (k0_pay69 (iblk m c 0 t)) (k0_pay70 (iblk m c 0 t))) (k0_pay76 (k0_pay66 (iblk m c 3 t)) (k0_pay69 (iblk m c 0 t)) (k0_pay70 (iblk m c 0 t))) (k0_pay77 (k0_pay66 (iblk m c 3 t)) (k0_pay69 (iblk m c 0 t)) (k0_pay70 (iblk m c 0 t))) (k0_pay78 (k0_pay66 (iblk m c 3 t)) (k0_pay69 (iblk m c 0 t)) (k0_pay70 (iblk m c 0 t))) (k0_pay79 (k0_pay66 (iblk m c 3 t)) (k0_pay69 (iblk m c 0 t)) (k0_pay70 (iblk m c 0 t))) (k0_pay80 (k0_pay66 (iblk m c 3 t)) (k0_pay69 (iblk m c 0 t)) (k0_pay70 (iblk m c 0 t))) (k0_pay81 (k0_pay66 (iblk m c 3 t)) (k0_pay69 (iblk m c 0 t)) (k0_pay70 (iblk m c 0 t)))) (k0_pay83 (k0_pay73 (k0_pay63 (iblk m c 0 t)) (k0_pay64 (iblk m c 0 t)) (k0_pay67 (iblk m c 4 t)) k0_pay68)) (numHi t)) (k0_pay91 (iblk m c 5 t))

/-- The scores of the first block, as the kernel takes them. -/
abbrev ks0 : FVec Ideal S8x128x256 .f32 := k0_pay31 (numLo t) (k0_pay18 (k0_pay14 (k0_pay5 (iblk m c 3 t)) k0_pay7 (k0_pay9 (iblk m c 0 t)) (k0_pay11 (iblk m c 0 t)) (k0_pay12 (iblk m c 0 t)))) (k0_pay19 (k0_pay15 (iblk m c 1 t) (k0_pay3 (iblk m c 0 t)) (k0_pay6 (iblk m c 4 t)) k0_pay8))

include hX hq hk in
/-- They are those of the sequence. -/
theorem ks0_eq (h : Fin 8) (r : Fin 128) (a : Fin 256) : ks0 m c t (ix3 h r a) = scr X wq wk (lo t) h r a := by
  have eX : ∀ a b, (iblk m c 0 t : Vec Ideal S256x768 .f32) (ix2 a b) = (rows X t a b : EReal) := fun a b => (b0 m c t a b).trans (hX _ _)
  have eY : ∀ a b, (iblk m c 1 t : Vec Ideal S128x768 .f32) (ix2 a b) = (rows' X t a b : EReal) := fun a b => (b1 m c t a b).trans (hX _ _)
  have eq : ∀ b : Fin 512, (iblk m c 3 t : Vec Ideal S1x512 .f32) (ix2 0 b) = (wq ⟨b.val % 64, Nat.mod_lt _ (by decide)⟩ : EReal) :=
    fun b => (b3 m c t b).trans (hq _)
  have ek : ∀ b : Fin 128, (iblk m c 4 t : Vec Ideal S1x128 .f32) (ix2 0 b) = (wk ⟨b.val % 64, Nat.mod_lt _ (by decide)⟩ : EReal) :=
    fun b => (b4 m c t b).trans (hk _)
  unfold ks0
  rw [score0 _ _ (fun h r => nrm (fun d => rows X t ⟨r.val, by omega⟩ ⟨64 * h.val + d.val, by omega⟩) wq)
      (fun h a => nrm (fun d => if ha : a.val < 128 then rows' X t ⟨a.val, ha⟩ ⟨512 + (64 * (h.val / 4) + d.val), by omega⟩
        else rows X t ⟨a.val - 128, by omega⟩ ⟨512 + (64 * (h.val / 4) + d.val), by omega⟩) wk)
    (q0 (iblk m c 0 t) (iblk m c 3 t) (rows X t) wq eX eq)
    (k0 (iblk m c 0 t) (iblk m c 1 t) (iblk m c 4 t) (rows X t) (rows' X t) wk eX eY ek) (numLo t) h r a, srow, bit_lo t]
  refine scr_of X wq wk (lo t) h r a _ _ ?_ fun hn => ?_
  · refine congrArg (fun i : Fin 4096 => nrm (fun d : Fin 64 => X i ⟨64 * h.val + d.val, by omega⟩) wq) (Fin.ext ?_)
    show t.val * 256 + r.val = 2 * t.val * 128 + r.val
    omega
  · have hn' : ¬ (2 * t.val = 0 ∧ a.val < 128) := hn
    by_cases ha : a.val < 128
    · simp only [ha, ↓reduceDIte]
      refine congrArg (fun i : Fin 4096 => nrm (fun d : Fin 64 => X i ⟨512 + (64 * (h.val / 4) + d.val), by omega⟩) wk) (Fin.ext ?_)
      show (2 * t.val - 1) * 128 + a.val = 2 * t.val * 128 + a.val - 128
      omega
    · simp only [ha, ↓reduceDIte]
      refine congrArg (fun i : Fin 4096 => nrm (fun d : Fin 64 => X i ⟨512 + (64 * (h.val / 4) + d.val), by omega⟩) wk) (Fin.ext ?_)
      show t.val * 256 + (a.val - 128) = 2 * t.val * 128 + a.val - 128
      omega

include hX hq hk hσ in
/-- They are those of the sequence. -/
theorem kp0_eq (h : Fin 8) (r : Fin 128) (a : Fin 256) : kp0 m c t (ix3 h r a) = (prb X wq wk σ (lo t) h r a : EReal) := by
  have eσ : ∀ h : Fin 8, (iblk m c 5 t : Vec Ideal S1x128 .f32) (ix2 0 ⟨h.val, by omega⟩) = (σ h : EReal) := fun h => (b5 m c t h).trans (hσ _)
  exact prob0 σ _ _ (fun h r => scr X wq wk (lo t) h r) (ks0_eq m c X wq wk hX hq hk t) (s0 (iblk m c 5 t) σ eσ) (fun h r a => scr_ne_top X wq wk (lo t) h r a) h r a

/-- The scores of the second block, as the kernel takes them. -/
abbrev ks1 : FVec Ideal S8x128x256 .f32 := k0_pay88 (numHi t) (k0_pay82 (k0_pay72 (k0_pay66 (iblk m c 3 t)) (k0_pay69 (iblk m c 0 t)) (k0_pay70 (iblk m c 0 t))) (k0_pay75 (k0_pay66 (iblk m c 3 t)) (k0_pay69 (iblk m c 0 t)) (k0_pay70 (iblk m c 0 t))) (k0_pay76 (k0_pay66 (iblk m c 3 t)) (k0_pay69 (iblk m c 0 t)) (k0_pay70 (iblk m c 0 t))) (k0_pay77 (k0_pay66 (iblk m c 3 t)) (k0_pay69 (iblk m c 0 t)) (k0_pay70 (iblk m c 0 t))) (k0_pay78 (k0_pay66 (iblk m c 3 t)) (k0_pay69 (iblk m c 0 t)) (k0_pay70 (iblk m c 0 t))) (k0_pay79 (k0_pay66 (iblk m c 3 t)) (k0_pay69 (iblk m c 0 t)) (k0_pay70 (iblk m c 0 t))) (k0_pay80 (k0_pay66 (iblk m c 3 t)) (k0_pay69 (iblk m c 0 t)) (k0_pay70 (iblk m c 0 t))) (k0_pay81 (k0_pay66 (iblk m c 3 t)) (k0_pay69 (iblk m c 0 t)) (k0_pay70 (iblk m c 0 t)))) (k0_pay83 (k0_pay73 (k0_pay63 (iblk m c 0 t)) (k0_pay64 (iblk m c 0 t)) (k0_pay67 (iblk m c 4 t)) k0_pay68)) (iota .tc S128x256 32 [0] iota_S128x256_d0_w32) (iota .tc S128x256 32 [1] iota_S128x256_d1_w32) k0_pay86

include hX hq hk in
/-- They are those of the sequence. -/
theorem ks1_eq (h : Fin 8) (r : Fin 128) (a : Fin 256) : ks1 m c t (ix3 h r a) = scr X wq wk (hi t) h r a := by
  have eX : ∀ a b, (iblk m c 0 t : Vec Ideal S256x768 .f32) (ix2 a b) = (rows X t a b : EReal) := fun a b => (b0 m c t a b).trans (hX _ _)
  have eq : ∀ b : Fin 512, (iblk m c 3 t : Vec Ideal S1x512 .f32) (ix2 0 b) = (wq ⟨b.val % 64, Nat.mod_lt _ (by decide)⟩ : EReal) :=
    fun b => (b3 m c t b).trans (hq _)
  have ek : ∀ b : Fin 128, (iblk m c 4 t : Vec Ideal S1x128 .f32) (ix2 0 b) = (wk ⟨b.val % 64, Nat.mod_lt _ (by decide)⟩ : EReal) :=
    fun b => (b4 m c t b).trans (hk _)
  unfold ks1
  rw [score1 _ _ (fun h r => nrm (fun d => rows X t ⟨128 + r.val, by omega⟩ ⟨64 * h.val + d.val, by omega⟩) wq)
      (fun h a => nrm (fun d => rows X t a ⟨512 + (64 * (h.val / 4) + d.val), by omega⟩) wk)
    (q1 (iblk m c 0 t) (iblk m c 3 t) (rows X t) wq eX eq)
    (k1 (iblk m c 0 t) (iblk m c 4 t) (rows X t) wk eX ek) (numHi t) h r a, srow, bit_hi t]
  refine scr_of X wq wk (hi t) h r a _ _ ?_ fun hn => ?_
  · refine congrArg (fun i : Fin 4096 => nrm (fun d : Fin 64 => X i ⟨64 * h.val + d.val, by omega⟩) wq) (Fin.ext ?_)
    show t.val * 256 + (128 + r.val) = (2 * t.val + 1) * 128 + r.val
    omega
  · refine congrArg (fun i : Fin 4096 => nrm (fun d : Fin 64 => X i ⟨512 + (64 * (h.val / 4) + d.val), by omega⟩) wk) (Fin.ext ?_)
    show t.val * 256 + a.val = (2 * t.val + 1) * 128 + a.val - 128
    omega

include hX hq hk hσ in
/-- They are those of the sequence. -/
theorem kp1_eq (h : Fin 8) (r : Fin 128) (a : Fin 256) : kp1 m c t (ix3 h r a) = (prb X wq wk σ (hi t) h r a : EReal) := by
  have eσ : ∀ h : Fin 8, (iblk m c 5 t : Vec Ideal S1x128 .f32) (ix2 0 ⟨h.val, by omega⟩) = (σ h : EReal) := fun h => (b5 m c t h).trans (hσ _)
  exact prob1 (iblk m c 5 t) σ eσ _ _ _ (fun h r => scr X wq wk (hi t) h r) (ks1_eq m c X wq wk hX hq hk t) (fun h r a => scr_ne_top X wq wk (hi t) h r a) h r a

/-- The gradient that reaches the rows of the first block and of the second. -/
abbrev kg0 : FVec Ideal S8x128x64 .f32 := (k0_pay29 (k0_pay21 (k0_pay4 (iblk m c 2 t))) (k0_pay22 (k0_pay4 (iblk m c 2 t))) (k0_pay23 (k0_pay4 (iblk m c 2 t))) (k0_pay24 (k0_pay4 (iblk m c 2 t))) (k0_pay25 (k0_pay4 (iblk m c 2 t))) (k0_pay26 (k0_pay4 (iblk m c 2 t))) (k0_pay27 (k0_pay4 (iblk m c 2 t))) (k0_pay28 (k0_pay4 (iblk m c 2 t))))
/-- The second block's cotangent. -/
abbrev kg1 : FVec Ideal S8x128x64 .f32 := (k0_pay85 (k0_pay65 (iblk m c 2 t)))

include hG in
/-- It is that of the sequence. -/
theorem kg0_eq (h : Fin 8) (r : Fin 128) (d : Fin 64) : kg0 m c t (ix3 h r d) = grd G (lo t) h r d := by
  refine ((g0 (iblk m c 2 t) h r d).trans (b2 m c t _ _)).trans ((hG _ _).trans ?_)
  refine congrArg (fun i : Fin 4096 => G i ⟨64 * h.val + d.val, by omega⟩) (Fin.ext ?_)
  show t.val * 256 + r.val = 2 * t.val * 128 + r.val
  omega

include hG in
/-- It is that of the sequence. -/
theorem kg1_eq (h : Fin 8) (r : Fin 128) (d : Fin 64) : kg1 m c t (ix3 h r d) = grd G (hi t) h r d := by
  refine ((g1 (iblk m c 2 t) h r d).trans (b2 m c t _ _)).trans ((hG _ _).trans ?_)
  refine congrArg (fun i : Fin 4096 => G i ⟨64 * h.val + d.val, by omega⟩) (Fin.ext ?_)
  show t.val * 256 + (128 + r.val) = (2 * t.val + 1) * 128 + r.val
  omega

/-- An index by its row, its head and its place in the head. -/
theorem place (x : S128x128.Idx) (a : Fin 128) (g : Fin 2) (d : Fin 64) (h0 : (x 0).val = a.val) (h1 : (x 1).val = 64 * g.val + d.val) :
    x = ix2 a ⟨64 * g.val + d.val, by omega⟩ :=
  funext fun i => by match i with | ⟨0, _⟩ => exact Fin.ext h0 | ⟨1, _⟩ => exact Fin.ext h1

/-- The gradient of the values by a block's own rows. -/
def ownAt (i : S4096x128.Idx) : EReal :=
  dval X wq wk σ G ⟨(i 0).val / 128, by have : (i 0).val < 4096 := (i 0).isLt; omega⟩ ⟨(i 1).val / 64, by have : (i 1).val < 128 := (i 1).isLt; omega⟩
    ⟨128 + (i 0).val % 128, by omega⟩ ⟨(i 1).val % 64, Nat.mod_lt _ (by decide)⟩

include hX hq hk hσ hG in
/-- A point's rows of the gradient of the values by a block's own rows. -/
theorem own_out (i : S256x128.Idx) (n : Fin 32) (a : Fin 128) (g : Fin 2) (d : Fin 64) (h0 : 2 * t.val * 128 + (i 0).val = n.val * 128 + a.val)
    (h1 : (i 1).val = 64 * g.val + d.val) : (outsAt0 m c t.val t.isLt).2.2.2.1 i = dval X wq wk σ G n g ⟨128 + a.val, by omega⟩ d := by
  have hu : ∀ x : S128x128.Idx, (i 0).val = 128 + (x 0).val → (i 1).val = (x 1).val →
      k0_pay113 (k0_pay107 (kp1 m c t)) (k0_pay108 (kg1 m c t)) x = dval X wq wk σ G n g ⟨128 + a.val, by omega⟩ d := fun x e0 e1 => by
    obtain rfl : hi t = n := Fin.ext (by show 2 * t.val + 1 = n.val; have : (x 0).val < 128 := (x 0).isLt; omega)
    have e : (x 0).val = a.val := by have : (hi t).val = 2 * t.val + 1 := rfl; omega
    rw [place x a g d e (by omega)]
    exact dvOwn1 _ _ _ _ (kp1_eq m c X wq wk σ hX hq hk hσ t) (kg1_eq m c G hG t) a g d
  have hl : ∀ x : S128x128.Idx, (i 0).val = (x 0).val → (i 1).val = (x 1).val →
      k0_pay57 (kg0 m c t) (kp0 m c t) x = dval X wq wk σ G n g ⟨128 + a.val, by omega⟩ d := fun x e0 e1 => by
    obtain rfl : lo t = n := Fin.ext (by show 2 * t.val = n.val; have : (x 0).val < 128 := (x 0).isLt; omega)
    have e : (x 0).val = a.val := by have : (lo t).val = 2 * t.val := rfl; omega
    rw [place x a g d e (by omega)]
    exact dvOwn0 _ _ _ _ (kp0_eq m c X wq wk σ hX hq hk hσ t) (kg0_eq m c G hG t) a g d
  by_cases h : t.val % 16 = 0
  · have ht := point_lt t
    rw [outsAt0_A m c t h (by omega) h (by omega)]
    frame_out
    canon_tiles i
    · exact hu _ ‹_› ‹_›
    · exact hl _ ‹_› ‹_›
  · rw [outsAt0_B m c t h (by omega) h (by omega)]
    frame_out
    canon_tiles i
    · exact hu _ ‹_› ‹_›
    · exact hl _ ‹_› ‹_›

include hX hq hk hσ hG in
/-- What the kernel leaves of the gradient by a block's own rows. -/
theorem final9 : (dats m 0 c).arrAt 9 cfg0.N = ownAt X wq wk σ G := by
  refine (dats m 0 c).arrAt_eq_of_covers 9 _ (by decide +kernel) fun t hf y => ?_
  blk_simp
  rw [after0_9]
  have h0 : (((win0_9.blk t).view.emb y) 0).val = t.val * 256 + (y 0).val := by blk_point [idx t]
  have h1 : (((win0_9.blk t).view.emb y) 1).val = (y 1).val := by blk_point [idx t]
  generalize (win0_9.blk t).view.emb y = i at h0 h1
  exact own_out m c X wq wk σ G hX hq hk hσ hG t y ⟨(i 0).val / 128, by have : (i 0).val < 4096 := (i 0).isLt; omega⟩ ⟨(i 0).val % 128, Nat.mod_lt _ (by decide)⟩
    ⟨(i 1).val / 64, by have : (i 1).val < 128 := (i 1).isLt; omega⟩ ⟨(i 1).val % 64, Nat.mod_lt _ (by decide)⟩
    (by show 2 * t.val * 128 + (y 0).val = (i 0).val / 128 * 128 + (i 0).val % 128; omega)
    (by show (y 1).val = 64 * ((i 1).val / 64) + (i 1).val % 64; omega)

/-- The gradient of the values of the block before, by a block's rows. -/
def prevAt (i : S4096x128.Idx) : EReal :=
  dval X wq wk σ G ⟨(i 0).val / 128, by have : (i 0).val < 4096 := (i 0).isLt; omega⟩ ⟨(i 1).val / 64, by have : (i 1).val < 128 := (i 1).isLt; omega⟩
    ⟨(i 0).val % 128, by omega⟩ ⟨(i 1).val % 64, Nat.mod_lt _ (by decide)⟩

include hX hq hk hσ hG in
/-- A point's rows of the gradient of the values of the block before, by a block's rows. -/
theorem prev_out (i : S256x128.Idx) (n : Fin 32) (a : Fin 128) (g : Fin 2) (d : Fin 64) (h0 : 2 * t.val * 128 + (i 0).val = n.val * 128 + a.val)
    (h1 : (i 1).val = 64 * g.val + d.val) : (outsAt0 m c t.val t.isLt).2.2.2.2.1 i = dval X wq wk σ G n g ⟨a.val, by omega⟩ d := by
  have hu : ∀ x : S128x128.Idx, (i 0).val = 128 + (x 0).val → (i 1).val = (x 1).val →
      k0_pay112 (k0_pay107 (kp1 m c t)) (k0_pay108 (kg1 m c t)) x = dval X wq wk σ G n g ⟨a.val, by omega⟩ d := fun x e0 e1 => by
    obtain rfl : hi t = n := Fin.ext (by show 2 * t.val + 1 = n.val; have : (x 0).val < 128 := (x 0).isLt; omega)
    have e : (x 0).val = a.val := by have : (hi t).val = 2 * t.val + 1 := rfl; omega
    rw [place x a g d e (by omega)]
    exact dvPrev1 _ _ _ _ (kp1_eq m c X wq wk σ hX hq hk hσ t) (kg1_eq m c G hG t) a g d
  have hl : ∀ x : S128x128.Idx, (i 0).val = (x 0).val → (i 1).val = (x 1).val →
      k0_pay56 (kg0 m c t) (kp0 m c t) x = dval X wq wk σ G n g ⟨a.val, by omega⟩ d := fun x e0 e1 => by
    obtain rfl : lo t = n := Fin.ext (by show 2 * t.val = n.val; have : (x 0).val < 128 := (x 0).isLt; omega)
    have e : (x 0).val = a.val := by have : (lo t).val = 2 * t.val := rfl; omega
    rw [place x a g d e (by omega)]
    exact dvPrev0 _ _ _ _ (kp0_eq m c X wq wk σ hX hq hk hσ t) (kg0_eq m c G hG t) a g d
  by_cases h : t.val % 16 = 0
  · have ht := point_lt t
    rw [outsAt0_A m c t h (by omega) h (by omega)]
    frame_out
    canon_tiles i
    · exact hu _ ‹_› ‹_›
    · exact hl _ ‹_› ‹_›
  · rw [outsAt0_B m c t h (by omega) h (by omega)]
    frame_out
    canon_tiles i
    · exact hu _ ‹_› ‹_›
    · exact hl _ ‹_› ‹_›

include hX hq hk hσ hG in
/-- What it leaves of the gradient for the block before. -/
theorem final10 : (dats m 0 c).arrAt 10 cfg0.N = prevAt X wq wk σ G := by
  refine (dats m 0 c).arrAt_eq_of_covers 10 _ (by decide +kernel) fun t hf y => ?_
  blk_simp
  rw [after0_10]
  have h0 : (((win0_10.blk t).view.emb y) 0).val = t.val * 256 + (y 0).val := by blk_point [idx t]
  have h1 : (((win0_10.blk t).view.emb y) 1).val = (y 1).val := by blk_point [idx t]
  generalize (win0_10.blk t).view.emb y = i at h0 h1
  exact prev_out m c X wq wk σ G hX hq hk hσ hG t y ⟨(i 0).val / 128, by have : (i 0).val < 4096 := (i 0).isLt; omega⟩ ⟨(i 0).val % 128, Nat.mod_lt _ (by decide)⟩
    ⟨(i 1).val / 64, by have : (i 1).val < 128 := (i 1).isLt; omega⟩ ⟨(i 1).val % 64, Nat.mod_lt _ (by decide)⟩
    (by show 2 * t.val * 128 + (y 0).val = (i 0).val / 128 * 128 + (i 0).val % 128; omega)
    (by show (y 1).val = 64 * ((i 1).val / 64) + (i 1).val % 64; omega)
end

end Cert.AttBwdIdeal.Final

end
-- ==== Proof.AttDkey.lean ====
/- The gradients of attention's scores and keys over a whole sequence, from a cotangent of real numbers. -/
module

public import proofs.«01_k».proof.Proof.AttStep

@[expose] public section

noncomputable section

namespace Cert.Attend

open Idealize.ShloMosaic Cert.RowNorm

/-- Of a key that isn't seen the gradient that reaches its probability doesn't count. -/
theorem dsc_congr (s : Fin 256 → EReal) (σ : ℝ) (hs : ∀ k, s k ≠ ⊤) (dp dp' : Fin 256 → ℝ) (h : ∀ k, s k ≠ ⊥ → dp k = dp' k) (k : Fin 256) :
    dsc s σ dp k = dsc s σ dp' k := by
  have e : ∀ k, pr s σ k * dp k = pr s σ k * dp' k := fun k => by
    by_cases hk : s k = ⊥
    · rw [pr_zero s σ hs k hk, zero_mul, zero_mul]
    · rw [h k hk]
  unfold dsc
  simp only [mul_sub, e]

/-- The gradient of the scores in one row, as the reverse of the division and the sum takes it, and the gradient of the row's largest
    score, which is 0. -/
theorem chain (e dp : Fin 256 → ℝ) (E D T : ℝ) (hD : D = ∑ k, e k + E) (h0 : D ≠ 0) (hT : T = -∑ k, dp k * (1 / (D * D)) * e k) :
    (∀ a, (dp a * (1 / D) + T) * e a = e a * (1 / D) * (dp a - ∑ k, e k * (1 / D) * dp k)) ∧ -(T * E) + ∑ k, -((dp k * (1 / D) + T) * e k) = 0 := by
  have h1 : T = -(∑ k, e k * dp k) / (D * D) := by
    rw [hT, ← Finset.sum_neg_distrib, ← Finset.sum_neg_distrib, Finset.sum_div]
    refine Finset.sum_congr rfl fun k _ => ?_
    field_simp
  have h2 : ∑ k, e k * (1 / D) * dp k = (∑ k, e k * dp k) / D := by
    rw [Finset.sum_div]
    refine Finset.sum_congr rfl fun k _ => ?_
    field_simp
  have h3 : ∑ k, -((dp k * (1 / D) + T) * e k) = -((∑ k, e k * dp k) / D) - T * ∑ k, e k := by
    rw [Finset.sum_div, Finset.mul_sum, ← Finset.sum_neg_distrib, ← Finset.sum_sub_distrib]
    refine Finset.sum_congr rfl fun k _ => ?_
    field_simp
    ring
  refine ⟨fun a => ?_, ?_⟩
  · rw [h2, h1]
    field_simp
    ring
  · rw [h3]
    have h4 : ∑ k, e k = D - E := by rw [hD]; ring
    rw [h4, h1]
    field_simp
    ring

/-- Nothing, shared out among the places that hold the largest score, is nothing. -/
theorem share (f : Fin 256 → EReal) (h : ∀ a, 0 ≤ f a) (a : Fin 256) : Ideal.div 0 (∑ k, f k) * f a = 0 := by
  by_cases ha : f a = 0
  · rw [ha, mul_zero]
  · have h0 : ∑ k, f k ≠ 0 := fun e => ha ((Finset.sum_eq_zero_iff_of_nonneg fun k _ => h k).mp e a (Finset.mem_univ a))
    rw [Ideal.div, if_neg h0, zero_mul, zero_mul]

variable (X : Fin 4096 → Fin 768 → ℝ) (wq wk : Fin 64 → ℝ) (σ : Fin 8 → ℝ) (G : Fin 4096 → Fin 512 → ℝ)

/-- The gradient that reaches a probability. -/
def dprb (n : Fin 32) (h : Fin 8) (r : Fin 128) (a : Fin 256) : ℝ := ∑ d : Fin 64, G (rowAt n r) ⟨64 * h.val + d.val, by omega⟩ * val X n h a d

/-- The gradient of a score. -/
def dscr (n : Fin 32) (h : Fin 8) (r : Fin 128) (a : Fin 256) : ℝ := dsc (scr X wq wk n h r) (σ h) (dprb X G n h r) a

/-- What stands before the first row is not seen. -/
theorem scr_hidden (n : Fin 32) (h : Fin 8) (r : Fin 128) (a : Fin 256) (hn : n.val = 0 ∧ a.val < 128) : scr X wq wk n h r a = ⊥ :=
  hidden n r a hn _ _

/-- Of a key that isn't there the score's gradient tells nothing. -/
theorem dscr_of (n : Fin 32) (h : Fin 8) (r : Fin 128) (dp : Fin 256 → ℝ) (e : ∀ a : Fin 256, ¬ (n.val = 0 ∧ a.val < 128) → dp a = dprb X G n h r a)
    (a : Fin 256) : dsc (scr X wq wk n h r) (σ h) dp a = dscr X wq wk σ G n h r a :=
  dsc_congr _ _ (scr_ne_top X wq wk n h r) _ _ (fun k hk => e k fun hn => hk (scr_hidden X wq wk n h r k hn)) a

/-- The gradient of a block's keys. -/
def dkey (n : Fin 32) (g : Fin 2) (a : Fin 256) (d : Fin 64) : EReal :=
  ∑ j : Fin 4, ∑ r, (dscr X wq wk σ G n (ofGroup g j) r a : EReal) * (qry X wq n (ofGroup g j) r d : EReal)

end Cert.Attend

end
-- ==== Proof.AttKeys.lean ====
/- The gradient of the keys: what the kernel leaves of it over the whole sequence. -/
module

public import proofs.«01_k».proof.Proof.AttBwdOut
public import proofs.«01_k».proof.Proof.AttDkey

@[expose] public section

set_option maxRecDepth 16384

noncomputable section

namespace Cert.AttBwdIdeal.Final

open Cert.AttBwdIdeal Cert.AttBwdIdeal.Gen
open Idealize.ShloMosaic Idealize.ShloMosaic.TcCoe Idealize.SL.Sem
open Idealize.ShloMosaic.Pipeline (Dat)

open Cert.Attend Cert.RowNorm

section
variable (p3 : FVec Ideal S8x128x256 .f32) (g3 : FVec Ideal S8x128x64 .f32) (P : Fin 8 → Fin 128 → Fin 256 → ℝ) (D : Fin 8 → Fin 128 → Fin 64 → EReal)
  (hp : ∀ h r a, p3 (ix3 h r a) = (P h r a : EReal)) (hg : ∀ h r d, g3 (ix3 h r d) = D h r d)
include hp hg

/-- The first block: the gradient of its window's keys. -/
theorem dkWin0 (a : Fin 256) (g : Fin 2) (d : Fin 64) :
    k0_pay52 (k0_pay48 g3 p3) (k0_pay49 g3 p3) (k0_pay50 g3 p3) (k0_pay51 g3 p3) (ix2 a ⟨64 * g.val + d.val, by omega⟩)
      = ∑ j : Fin 4, ∑ r, (P (ofGroup g j) r a : EReal) * D (ofGroup g j) r d := by
  pointwise [k0_pay52, k0_pay51, k0_pay50, k0_pay49, k0_pay48]
  simp only [hp, hg]
  rw [Fin.sum_univ_four]
  fin_vals g with hh
  · have hd := d.isLt
    simp only [hh, mul_zero, zero_add, hd, ↓reduceDIte, group_low g hh]
    rfl
  · have hd : ¬ 64 + d.val < 64 := by omega
    simp only [hh, mul_one, hd, ↓reduceDIte, Nat.add_sub_cancel_left, group_high g hh]
    rfl

/-- The second block: the gradient of its window's keys. -/
theorem dkWin1 (a : Fin 256) (g : Fin 2) (d : Fin 64) :
    k0_pay106 g3 p3 (ix2 a ⟨64 * g.val + d.val, by omega⟩)
      = ∑ j : Fin 4, ∑ r, (P (ofGroup g j) r a : EReal) * D (ofGroup g j) r d := by
  pointwise [k0_pay106]
  simp only [hp, hg]
  rw [Fin.sum_univ_four]
  fin_vals g with hh
  · have hd := d.isLt
    simp only [hh, mul_zero, zero_add, hd, ↓reduceDIte, group_low g hh]
    rfl
  · have hd : ¬ 64 + d.val < 64 := by omega
    simp only [hh, mul_one, hd, ↓reduceDIte, Nat.add_sub_cancel_left, group_high g hh]
    rfl
end

section
variable (m : (ℓ : Loc nD τ sig) → Buf (Elt Ideal) ℓ)
variable (c : Dev nD) (X : Fin 4096 → Fin 768 → ℝ) (wq wk : Fin 64 → ℝ) (σ : Fin 8 → ℝ) (G : Fin 4096 → Fin 512 → ℝ)
  (hX : ∀ a b, (m ((c : Thread nD τ).loc main_arg0) : Vec Ideal S4096x768 .f32) (ix2 a b) = (X a b : EReal))
  (hq : ∀ d, (m ((c : Thread nD τ).loc main_arg1) : Vec Ideal S64 .f32) (ix1 d) = (wq d : EReal))
  (hk : ∀ d, (m ((c : Thread nD τ).loc main_arg2) : Vec Ideal S64 .f32) (ix1 d) = (wk d : EReal))
  (hσ : ∀ h, (m ((c : Thread nD τ).loc main_arg3) : Vec Ideal S8 .f32) (ix1 h) = (σ h : EReal))
  (hG : ∀ a b, (m ((c : Thread nD τ).loc main_arg4) : Vec Ideal S4096x512 .f32) (ix2 a b) = (G a b : EReal))
  (t : Fin cfg0.N)

/-- The queries of the first block and of the second. -/
abbrev kq0 : FVec Ideal S8x128x64 .f32 :=
  k0_pay18 (k0_pay14 (k0_pay5 (iblk m c 3 t)) k0_pay7 (k0_pay9 (iblk m c 0 t)) (k0_pay11 (iblk m c 0 t)) (k0_pay12 (iblk m c 0 t)))
/-- The second block's queries. -/
abbrev kq1 : FVec Ideal S8x128x64 .f32 :=
  k0_pay82 (k0_pay72 (k0_pay66 (iblk m c 3 t)) (k0_pay69 (iblk m c 0 t)) (k0_pay70 (iblk m c 0 t))) (k0_pay75 (k0_pay66 (iblk m c 3 t)) (k0_pay69 (iblk m c 0 t)) (k0_pay70 (iblk m c 0 t))) (k0_pay76 (k0_pay66 (iblk m c 3 t)) (k0_pay69 (iblk m c 0 t)) (k0_pay70 (iblk m c 0 t))) (k0_pay77 (k0_pay66 (iblk m c 3 t)) (k0_pay69 (iblk m c 0 t)) (k0_pay70 (iblk m c 0 t))) (k0_pay78 (k0_pay66 (iblk m c 3 t)) (k0_pay69 (iblk m c 0 t)) (k0_pay70 (iblk m c 0 t))) (k0_pay79 (k0_pay66 (iblk m c 3 t)) (k0_pay69 (iblk m c 0 t)) (k0_pay70 (iblk m c 0 t))) (k0_pay80 (k0_pay66 (iblk m c 3 t)) (k0_pay69 (iblk m c 0 t)) (k0_pay70 (iblk m c 0 t))) (k0_pay81 (k0_pay66 (iblk m c 3 t)) (k0_pay69 (iblk m c 0 t)) (k0_pay70 (iblk m c 0 t)))
/-- The second block's keys. -/
abbrev kk1 : FVec Ideal S8x256x64 .f32 := k0_pay83 (k0_pay73 (k0_pay63 (iblk m c 0 t)) (k0_pay64 (iblk m c 0 t)) (k0_pay67 (iblk m c 4 t)) k0_pay68)
/-- The values of the first block's window and of the second's. -/
abbrev kv0 : FVec Ideal S8x256x64 .f32 := k0_pay20 (k0_pay16 (iblk m c 1 t)) (k0_pay17 (k0_pay3 (iblk m c 0 t)))
/-- The second block's values. -/
abbrev kv1 : FVec Ideal S8x256x64 .f32 := k0_pay84 (k0_pay74 (k0_pay63 (iblk m c 0 t)) (k0_pay64 (iblk m c 0 t)))
/-- The gradients of the scores of the first block and of the second. -/
abbrev kd0 : FVec Ideal S8x128x256 .f32 := k0_pay39 (kv0 m c t) (kg0 m c t) (k0_pay30 (iblk m c 5 t)) (ks0 m c t)
/-- The second block's. -/
abbrev kd1 : FVec Ideal S8x128x256 .f32 :=
  k0_pay97 (kv1 m c t) (kg1 m c t) (top1 (iblk m c 5 t) (kq1 m c t) (kk1 m c t) (numHi t)) (ex1 (iblk m c 5 t) (kq1 m c t) (kk1 m c t) (numHi t)) (k0_pay91 (iblk m c 5 t))

include hX hq in
/-- The queries are those of the sequence. -/
theorem kq0_eq (h : Fin 8) (r : Fin 128) (d : Fin 64) : kq0 m c t (ix3 h r d) = (qry X wq (lo t) h r d : EReal) := by
  have eq : ∀ b : Fin 512, (iblk m c 3 t : Vec Ideal S1x512 .f32) (ix2 0 b) = (wq ⟨b.val % 64, Nat.mod_lt _ (by decide)⟩ : EReal) :=
    fun b => (b3 m c t b).trans (hq _)
  have e : kq0 m c t (ix3 h r d) = (nrm (fun d => rows X t ⟨r.val, by omega⟩ ⟨64 * h.val + d.val, by omega⟩) wq d : EReal) :=
    q0 (iblk m c 0 t) (iblk m c 3 t) (rows X t) wq (fun a b => (b0 m c t a b).trans (hX _ _)) eq h r d
  refine e.trans ?_
  refine congrArg (fun i : Fin 4096 => ((nrm (fun d : Fin 64 => X i ⟨64 * h.val + d.val, by omega⟩) wq d : ℝ) : EReal)) (Fin.ext ?_)
  show t.val * 256 + r.val = 2 * t.val * 128 + r.val
  omega

include hX hq in
/-- The queries are those of the sequence. -/
theorem kq1_eq (h : Fin 8) (r : Fin 128) (d : Fin 64) : kq1 m c t (ix3 h r d) = (qry X wq (hi t) h r d : EReal) := by
  have eq : ∀ b : Fin 512, (iblk m c 3 t : Vec Ideal S1x512 .f32) (ix2 0 b) = (wq ⟨b.val % 64, Nat.mod_lt _ (by decide)⟩ : EReal) :=
    fun b => (b3 m c t b).trans (hq _)
  have e : kq1 m c t (ix3 h r d) = (nrm (fun d => rows X t ⟨128 + r.val, by omega⟩ ⟨64 * h.val + d.val, by omega⟩) wq d : EReal) :=
    q1 (iblk m c 0 t) (iblk m c 3 t) (rows X t) wq (fun a b => (b0 m c t a b).trans (hX _ _)) eq h r d
  refine e.trans ?_
  refine congrArg (fun i : Fin 4096 => ((nrm (fun d : Fin 64 => X i ⟨64 * h.val + d.val, by omega⟩) wq d : ℝ) : EReal)) (Fin.ext ?_)
  show t.val * 256 + (128 + r.val) = (2 * t.val + 1) * 128 + r.val
  omega

include hX hq hk hσ hG in
/-- The gradients of the scores are those of the sequence. -/
theorem kd0_eq (h : Fin 8) (r : Fin 128) (a : Fin 256) : kd0 m c t (ix3 h r a) = (dscr X wq wk σ G (lo t) h r a : EReal) := by
  refine (ds0 σ (ks0 m c t) (k0_pay30 (iblk m c 5 t)) (fun h r => scr X wq wk (lo t) h r) (ks0_eq m c X wq wk hX hq hk t)
    (s0 (iblk m c 5 t) σ fun h => (b5 m c t h).trans (hσ _)) (fun h r a => scr_ne_top X wq wk (lo t) h r a) (kv0 m c t) (kg0 m c t)
    (fun h a d => if ha : a.val < 128 then rows' X t ⟨a.val, ha⟩ ⟨640 + (64 * (h.val / 4) + d.val), by omega⟩
      else rows X t ⟨a.val - 128, by omega⟩ ⟨640 + (64 * (h.val / 4) + d.val), by omega⟩)
    (fun h r d => G (rowAt (lo t) r) ⟨64 * h.val + d.val, by omega⟩)
    (v0 (iblk m c 0 t) (iblk m c 1 t) (rows X t) (rows' X t) (fun a b => (b0 m c t a b).trans (hX _ _)) (fun a b => (b1 m c t a b).trans (hX _ _)))
    (kg0_eq m c (fun a b => (G a b : EReal)) hG t) h r a).trans (congrArg _ (dscr_of X wq wk σ G (lo t) h r _ (fun a hn => ?_) a))
  refine Finset.sum_congr rfl fun d _ => congrArg (_ * ·) ?_
  have hn' : ¬ (2 * t.val = 0 ∧ a.val < 128) := hn
  by_cases ha : a.val < 128
  · simp only [ha, ↓reduceDIte]
    refine congrArg (fun i : Fin 4096 => X i ⟨640 + (64 * (h.val / 4) + d.val), by omega⟩) (Fin.ext ?_)
    show (2 * t.val - 1) * 128 + a.val = 2 * t.val * 128 + a.val - 128
    omega
  · simp only [ha, ↓reduceDIte]
    refine congrArg (fun i : Fin 4096 => X i ⟨640 + (64 * (h.val / 4) + d.val), by omega⟩) (Fin.ext ?_)
    show t.val * 256 + (a.val - 128) = 2 * t.val * 128 + a.val - 128
    omega

include hX hq hk hσ hG in
/-- The gradients of the scores are those of the sequence. -/
theorem kd1_eq (h : Fin 8) (r : Fin 128) (a : Fin 256) : kd1 m c t (ix3 h r a) = (dscr X wq wk σ G (hi t) h r a : EReal) := by
  refine (ds1 (iblk m c 5 t) σ (fun h => (b5 m c t h).trans (hσ _)) (kq1 m c t) (kk1 m c t) (numHi t) (fun h r => scr X wq wk (hi t) h r)
    (ks1_eq m c X wq wk hX hq hk t) (fun h r a => scr_ne_top X wq wk (hi t) h r a) (kv1 m c t) (kg1 m c t)
    (fun h a d => rows X t a ⟨640 + (64 * (h.val / 4) + d.val), by omega⟩) (fun h r d => G (rowAt (hi t) r) ⟨64 * h.val + d.val, by omega⟩)
    (v1 (iblk m c 0 t) (rows X t) (fun a b => (b0 m c t a b).trans (hX _ _)))
    (kg1_eq m c (fun a b => (G a b : EReal)) hG t) h r a).trans (congrArg _ (dscr_of X wq wk σ G (hi t) h r _ (fun a _ => ?_) a))
  refine Finset.sum_congr rfl fun d _ => congrArg (_ * ·) ?_
  refine congrArg (fun i : Fin 4096 => X i ⟨640 + (64 * (h.val / 4) + d.val), by omega⟩) (Fin.ext ?_)
  show t.val * 256 + a.val = (2 * t.val + 1) * 128 + a.val - 128
  omega

/-- The gradient of the keys by a block's own rows. -/
def ownKeyAt (i : S4096x128.Idx) : EReal :=
  dkey X wq wk σ G ⟨(i 0).val / 128, by have : (i 0).val < 4096 := (i 0).isLt; omega⟩ ⟨(i 1).val / 64, by have : (i 1).val < 128 := (i 1).isLt; omega⟩
    ⟨128 + (i 0).val % 128, by omega⟩ ⟨(i 1).val % 64, Nat.mod_lt _ (by decide)⟩

/-- The gradient of the keys of the block before, by a block's rows. -/
def prevKeyAt (i : S4096x128.Idx) : EReal :=
  dkey X wq wk σ G ⟨(i 0).val / 128, by have : (i 0).val < 4096 := (i 0).isLt; omega⟩ ⟨(i 1).val / 64, by have : (i 1).val < 128 := (i 1).isLt; omega⟩
    ⟨(i 0).val % 128, by omega⟩ ⟨(i 1).val % 64, Nat.mod_lt _ (by decide)⟩

include hX hq hk hσ hG in
/-- A point's rows of the gradient of the keys by a block's own rows. -/
theorem own_key_out (i : S256x128.Idx) (n : Fin 32) (a : Fin 128) (g : Fin 2) (d : Fin 64) (h0 : 2 * t.val * 128 + (i 0).val = n.val * 128 + a.val)
    (h1 : (i 1).val = 64 * g.val + d.val) : (outsAt0 m c t.val t.isLt).2.1 i = dkey X wq wk σ G n g ⟨128 + a.val, by omega⟩ d := by
  have hu : ∀ x : S128x128.Idx, (i 0).val = 128 + (x 0).val → (i 1).val = (x 1).val →
      k0_pay111 (k0_pay106 (kq1 m c t) (kd1 m c t)) x = dkey X wq wk σ G n g ⟨128 + a.val, by omega⟩ d := fun x e0 e1 => by
    obtain rfl : hi t = n := Fin.ext (by show 2 * t.val + 1 = n.val; have : (x 0).val < 128 := (x 0).isLt; omega)
    have e : (x 0).val = a.val := by have : (hi t).val = 2 * t.val + 1 := rfl; omega
    rw [place x a g d e (by omega)]
    refine Eq.trans ?_ (dkWin1 _ _ _ _ (kd1_eq m c X wq wk σ G hX hq hk hσ hG t) (kq1_eq m c X wq hX hq t) ⟨128 + a.val, by omega⟩ g d)
    generalize k0_pay106 (kq1 m c t) (kd1 m c t) = w
    pointwise [k0_pay111]
  have hl : ∀ x : S128x128.Idx, (i 0).val = (x 0).val → (i 1).val = (x 1).val →
      k0_pay55 (k0_pay48 (kq0 m c t) (kd0 m c t)) (k0_pay49 (kq0 m c t) (kd0 m c t)) (k0_pay50 (kq0 m c t) (kd0 m c t)) (k0_pay51 (kq0 m c t) (kd0 m c t)) x
        = dkey X wq wk σ G n g ⟨128 + a.val, by omega⟩ d := fun x e0 e1 => by
    obtain rfl : lo t = n := Fin.ext (by show 2 * t.val = n.val; have : (x 0).val < 128 := (x 0).isLt; omega)
    have e : (x 0).val = a.val := by have : (lo t).val = 2 * t.val := rfl; omega
    rw [place x a g d e (by omega)]
    refine Eq.trans ?_ (dkWin0 _ _ _ _ (kd0_eq m c X wq wk σ G hX hq hk hσ hG t) (kq0_eq m c X wq hX hq t) ⟨128 + a.val, by omega⟩ g d)
    unfold k0_pay55
    generalize k0_pay52 (k0_pay48 (kq0 m c t) (kd0 m c t)) _ _ _ = w
    pointwise
  by_cases h : t.val % 16 = 0
  · have ht := point_lt t
    rw [outsAt0_A m c t h (by omega) h (by omega)]
    frame_out
    canon_tiles i
    · exact hu _ ‹_› ‹_›
    · exact hl _ ‹_› ‹_›
  · rw [outsAt0_B m c t h (by omega) h (by omega)]
    frame_out
    canon_tiles i
    · exact hu _ ‹_› ‹_›
    · exact hl _ ‹_› ‹_›

include hX hq hk hσ hG in
/-- A point's rows of the gradient of the keys of the block before, by a block's rows. -/
theorem prev_key_out (i : S256x128.Idx) (n : Fin 32) (a : Fin 128) (g : Fin 2) (d : Fin 64) (h0 : 2 * t.val * 128 + (i 0).val = n.val * 128 + a.val)
    (h1 : (i 1).val = 64 * g.val + d.val) : (outsAt0 m c t.val t.isLt).2.2.1 i = dkey X wq wk σ G n g ⟨a.val, by omega⟩ d := by
  have hu : ∀ x : S128x128.Idx, (i 0).val = 128 + (x 0).val → (i 1).val = (x 1).val →
      k0_pay110 (k0_pay106 (kq1 m c t) (kd1 m c t)) x = dkey X wq wk σ G n g ⟨a.val, by omega⟩ d := fun x e0 e1 => by
    obtain rfl : hi t = n := Fin.ext (by show 2 * t.val + 1 = n.val; have : (x 0).val < 128 := (x 0).isLt; omega)
    have e : (x 0).val = a.val := by have : (hi t).val = 2 * t.val + 1 := rfl; omega
    rw [place x a g d e (by omega)]
    refine Eq.trans ?_ (dkWin1 _ _ _ _ (kd1_eq m c X wq wk σ G hX hq hk hσ hG t) (kq1_eq m c X wq hX hq t) ⟨a.val, by omega⟩ g d)
    generalize k0_pay106 (kq1 m c t) (kd1 m c t) = w
    pointwise [k0_pay110]
  have hl : ∀ x : S128x128.Idx, (i 0).val = (x 0).val → (i 1).val = (x 1).val →
      k0_pay54 (k0_pay48 (kq0 m c t) (kd0 m c t)) (k0_pay49 (kq0 m c t) (kd0 m c t)) (k0_pay50 (kq0 m c t) (kd0 m c t)) (k0_pay51 (kq0 m c t) (kd0 m c t)) x
        = dkey X wq wk σ G n g ⟨a.val, by omega⟩ d := fun x e0 e1 => by
    obtain rfl : lo t = n := Fin.ext (by show 2 * t.val = n.val; have : (x 0).val < 128 := (x 0).isLt; omega)
    have e : (x 0).val = a.val := by have : (lo t).val = 2 * t.val := rfl; omega
    rw [place x a g d e (by omega)]
    refine Eq.trans ?_ (dkWin0 _ _ _ _ (kd0_eq m c X wq wk σ G hX hq hk hσ hG t) (kq0_eq m c X wq hX hq t) ⟨a.val, by omega⟩ g d)
    unfold k0_pay54
    generalize k0_pay52 (k0_pay48 (kq0 m c t) (kd0 m c t)) _ _ _ = w
    pointwise
  by_cases h : t.val % 16 = 0
  · have ht := point_lt t
    rw [outsAt0_A m c t h (by omega) h (by omega)]
    frame_out
    canon_tiles i
    · exact hu _ ‹_› ‹_›
    · exact hl _ ‹_› ‹_›
  · rw [outsAt0_B m c t h (by omega) h (by omega)]
    frame_out
    canon_tiles i
    · exact hu _ ‹_› ‹_›
    · exact hl _ ‹_› ‹_›

include hX hq hk hσ hG in
/-- What the kernel leaves of the gradient of the keys by a block's own rows. -/
theorem final7 : (dats m 0 c).arrAt 7 cfg0.N = ownKeyAt X wq wk σ G := by
  refine (dats m 0 c).arrAt_eq_of_covers 7 _ (by decide +kernel) fun t hf y => ?_
  blk_simp
  rw [after0_7]
  have h0 : (((win0_7.blk t).view.emb y) 0).val = t.val * 256 + (y 0).val := by blk_point [idx t]
  have h1 : (((win0_7.blk t).view.emb y) 1).val = (y 1).val := by blk_point [idx t]
  generalize (win0_7.blk t).view.emb y = i at h0 h1
  exact own_key_out m c X wq wk σ G hX hq hk hσ hG t y ⟨(i 0).val / 128, by have : (i 0).val < 4096 := (i 0).isLt; omega⟩ ⟨(i 0).val % 128, Nat.mod_lt _ (by decide)⟩
    ⟨(i 1).val / 64, by have : (i 1).val < 128 := (i 1).isLt; omega⟩ ⟨(i 1).val % 64, Nat.mod_lt _ (by decide)⟩
    (by show 2 * t.val * 128 + (y 0).val = (i 0).val / 128 * 128 + (i 0).val % 128; omega)
    (by show (y 1).val = 64 * ((i 1).val / 64) + (i 1).val % 64; omega)

include hX hq hk hσ hG in
/-- What it leaves of the gradient for the block before. -/
theorem final8 : (dats m 0 c).arrAt 8 cfg0.N = prevKeyAt X wq wk σ G := by
  refine (dats m 0 c).arrAt_eq_of_covers 8 _ (by decide +kernel) fun t hf y => ?_
  blk_simp
  rw [after0_8]
  have h0 : (((win0_8.blk t).view.emb y) 0).val = t.val * 256 + (y 0).val := by blk_point [idx t]
  have h1 : (((win0_8.blk t).view.emb y) 1).val = (y 1).val := by blk_point [idx t]
  generalize (win0_8.blk t).view.emb y = i at h0 h1
  exact prev_key_out m c X wq wk σ G hX hq hk hσ hG t y ⟨(i 0).val / 128, by have : (i 0).val < 4096 := (i 0).isLt; omega⟩ ⟨(i 0).val % 128, Nat.mod_lt _ (by decide)⟩
    ⟨(i 1).val / 64, by have : (i 1).val < 128 := (i 1).isLt; omega⟩ ⟨(i 1).val % 64, Nat.mod_lt _ (by decide)⟩
    (by show 2 * t.val * 128 + (y 0).val = (i 0).val / 128 * 128 + (i 0).val % 128; omega)
    (by show (y 1).val = 64 * ((i 1).val / 64) + (i 1).val % 64; omega)
end

end Cert.AttBwdIdeal.Final

end
-- ==== Proof.AttScores.lean ====
/- The reference's normed queries and keys and its masked scores, in real numbers. -/
module

public import proofs.«01_k».proof.Proof.Gen.AttBwdRefIdeal.Read
public import proofs.«01_k».proof.Proof.AttStep
public import Idealize.ShloMosaic.Lib.Pipeline.ValueKit
public import Idealize.ShloMosaic.Lib.Pipeline.ReadBack
public import Idealize.ShloMosaic.Lib.Claim

@[expose] public section

set_option maxRecDepth 16384

noncomputable section

namespace Cert.AttBwdRefIdeal.Final

open Cert.AttBwdRefIdeal Cert.AttBwdRefIdeal.Gen Cert.AttBwdRefIdeal.Read
open Idealize.ShloMosaic Idealize.ShloMosaic.TcCoe Idealize.SL.Sem
open Cert.Attend Cert.RowNorm

variable (x0 : (⟨S4096x768, .f32⟩ : BufTy).Contents (Elt Ideal)) (x1 x2 : (⟨S64, .f32⟩ : BufTy).Contents (Elt Ideal))
  (X : Fin 4096 → Fin 768 → ℝ) (wq wk : Fin 64 → ℝ)
  (hX : ∀ a b, x0 (ix2 a b) = (X a b : EReal)) (hq : ∀ d, x1 (ix1 d) = (wq d : EReal)) (hk : ∀ d, x2 (ix1 d) = (wk d : EReal))

include hX hq in
/-- The normed queries. -/
theorem q_ref (T : Fin 4096) (h : Fin 8) (d : Fin 64) :
    val_main_v18 x0 x1 (ix4 0 T h d) = (nrm (fun d => X T ⟨64 * h.val + d.val, by omega⟩) wq d : EReal) := by
  pointwise [val_main_v0, val_main_v3, val_main_v6, val_main_cst, val_main_v7, val_main_v8, val_main_cst_0, val_main_v9, val_main_v10,
    val_main_cst_1, val_main_v11, val_main_v12, val_main_v13, val_main_v14, val_main_v15, val_main_v16, val_main_v17, val_main_v18]
  have e : ∀ (x : Fin 64) p, (⟨h.val * 64 + x.val, p⟩ : Fin 768) = ⟨64 * h.val + x.val, by omega⟩ := fun x p => Fin.ext (by dsimp only; omega)
  simp only [hX, hq, e]
  erw [inv_head (fun x : Fin 64 => X T ⟨64 * h.val + x.val, by omega⟩)]
  simp only [← EReal.coe_mul]
  rfl

include hX hk in
/-- The normed keys. -/
theorem k_ref (T : Fin 4096) (g : Fin 2) (d : Fin 64) :
    val_main_v31 x0 x2 (ix4 0 T g d) = (nrm (fun d => X T ⟨512 + (64 * g.val + d.val), by omega⟩) wk d : EReal) := by
  pointwise [val_main_v1, val_main_v4, val_main_v19, val_main_cst_2, val_main_v20, val_main_v21, val_main_cst_3, val_main_v22, val_main_v23,
    val_main_cst_4, val_main_v24, val_main_v25, val_main_v26, val_main_v27, val_main_v28, val_main_v29, val_main_v30, val_main_v31]
  have e : ∀ (x : Fin 64) p, (⟨512 + (g.val * 64 + x.val), p⟩ : Fin 768) = ⟨512 + (64 * g.val + x.val), by omega⟩ := fun x p => Fin.ext (by dsimp only; omega)
  simp only [hX, hk, e]
  erw [inv_head (fun x : Fin 64 => X T ⟨512 + (64 * g.val + x.val), by omega⟩)]
  simp only [← EReal.coe_mul]
  rfl

include hX hk in
/-- The keys of a window. -/
theorem key_ref (n : Fin 32) (g : Fin 2) (j : Fin 4) (a : Fin 256) (d : Fin 64) (hn : ¬ (n.val = 0 ∧ a.val < 128)) :
    val_main_v37 x0 x2 (ix5 0 n a g d) = (key X wk n (ofGroup g j) a d : EReal) := by
  pointwise [val_main_v32, val_main_v33, val_main_cst_5, val_main_v34, val_main_v35, val_main_v36, val_main_v37]
  have hg : (ofGroup g j).val / 4 = g.val := by show (g.val * 4 + j.val) / 4 = g.val; omega
  simp only [k_ref x0 x2 X wk hX hk, key, hg]
  by_cases ha : a.val < 128
  · have h1 : ¬ n.val < 1 := by omega
    simp only [ha, h1, ↓reduceDIte, ↓reduceIte]
    refine congrArg (fun T : Fin 4096 => ((nrm (fun d => X T ⟨512 + (64 * g.val + d.val), by omega⟩) wk d : ℝ) : EReal)) (Fin.ext ?_)
    show (n.val - 1) * 128 + a.val = n.val * 128 + a.val - 128
    omega
  · simp only [ha, ↓reduceDIte, ↓reduceIte]
    refine congrArg (fun T : Fin 4096 => ((nrm (fun d => X T ⟨512 + (64 * g.val + d.val), by omega⟩) wk d : ℝ) : EReal)) (Fin.ext ?_)
    show n.val * 128 + (a.val - 128) = n.val * 128 + a.val - 128
    omega

include hX hq hk in
/-- The scaled products of queries and keys. -/
theorem dots_ref (n : Fin 32) (g : Fin 2) (j : Fin 4) (r : Fin 128) (a : Fin 256) (hn : ¬ (n.val = 0 ∧ a.val < 128)) :
    val_main_v48 x0 x1 x2 (ix6 0 n g j r a)
      = (((∑ x, qry X wq n (ofGroup g j) r x * key X wk n (ofGroup g j) a x) * (1 / 8) : ℝ) : EReal) := by
  pointwise [val_main_v44, val_main_v45, val_main_v46, val_main_cst_7, val_main_v47, val_main_v48]
  simp only [q_ref x0 x1 X wq hX hq, key_ref x0 x2 X wk hX hk n g j a _ hn, scale_eq, ← EReal.coe_mul, coe_sum]
  simp only [mul_comm (key X wk n (ofGroup g j) a _)]
  rfl

/-- Which keys a row sees. -/
theorem seen_ref (n : Fin 32) (g : Fin 2) (j : Fin 4) (r : Fin 128) (a : Fin 256) : val_main_v81_1 (F := Ideal) (ix6 0 n g j r a) = seen (bit n) r a := by
  have hs : IntOp.andi (IntOp.andi (IntOp.cmpi .sle (BitVec.ofNat 32 a.val) (IntOp.addi (BitVec.ofNat 32 r.val) 128#32))
      (IntOp.cmpi .sgt (BitVec.ofNat 32 a.val) (IntOp.subi (IntOp.addi (BitVec.ofNat 32 r.val) 128#32) 128#32)))
      (IntOp.ori (IntOp.cmpi .sgt (BitVec.ofNat 32 n.val) 0#32) (IntOp.cmpi .sge (BitVec.ofNat 32 a.val) 128#32)) = seen (bit n) r a := by
    unfold seen bit
    rw [bits_or (IntOp.cmpi .sgt _ _)]
  pointwise [val_main_v49, val_main_v50, val_main_v51, val_main_v52, val_main_c, val_main_v53, val_main_v54, val_main_v55, val_main_v56,
    val_main_v57, val_main_c_8, val_main_v58, val_main_v59, val_main_c_9, val_main_v60, val_main_v61, val_main_v62, val_main_v63, val_main_v64,
    val_main_v65, val_main_v66, val_main_v67, val_main_c_10, val_main_v68, val_main_v69, val_main_c_11, val_main_v70, val_main_v71, val_main_v72,
    val_main_v73, val_main_v74, val_main_v75, val_main_v76, val_main_v77, val_main_v78, val_main_v79, val_main_v80, val_main_v81_1]
  exact hs

include hX hq hk in
/-- The scores, those not seen at minus infinity. -/
theorem score_ref (n : Fin 32) (g : Fin 2) (j : Fin 4) (r : Fin 128) (a : Fin 256) :
    val_main_v81_0 x0 x1 x2 (ix6 0 n g j r a) = scr X wq wk n (ofGroup g j) r a := by
  have hl : val_main_call0_v2 (F := Ideal) (ix6 0 n g j r a) = (⊥ : EReal) := by
    pointwise [val_main_cst_12, val_main_call0_v0, val_main_call0_v2]
    exact low_eq
  rw [val_main_v81_0_apply, seen_ref, hl]
  by_cases hn : n.val = 0 ∧ a.val < 128
  · rw [scr, hidden n r a hn, bit_zero n hn.1, seen_hidden r a hn.2]
    rfl
  · rw [dots_ref x0 x1 x2 X wq wk hX hq hk n g j r a hn]
    rfl

end Cert.AttBwdRefIdeal.Final

end
-- ==== Proof.AttBwdRef.lean ====
/- The reference's probabilities, as real numbers, and its gradient of the values. -/
module

public import proofs.«01_k».proof.Proof.AttScores

@[expose] public section

set_option maxRecDepth 16384

noncomputable section

namespace Cert.AttBwdRefIdeal.Final

open Cert.AttBwdRefIdeal Cert.AttBwdRefIdeal.Gen Cert.AttBwdRefIdeal.Read
open Idealize.ShloMosaic Idealize.ShloMosaic.TcCoe Idealize.SL.Sem
open Cert.Attend Cert.RowNorm

variable (x0 : (⟨S4096x768, .f32⟩ : BufTy).Contents (Elt Ideal)) (x1 x2 : (⟨S64, .f32⟩ : BufTy).Contents (Elt Ideal))
  (x3 : (⟨S8, .f32⟩ : BufTy).Contents (Elt Ideal)) (x4 : (⟨S4096x512, .f32⟩ : BufTy).Contents (Elt Ideal))
  (X : Fin 4096 → Fin 768 → ℝ) (wq wk : Fin 64 → ℝ) (σ : Fin 8 → ℝ) (G : Fin 4096 → Fin 512 → EReal)
  (hX : ∀ a b, x0 (ix2 a b) = (X a b : EReal)) (hq : ∀ d, x1 (ix1 d) = (wq d : EReal)) (hk : ∀ d, x2 (ix1 d) = (wk d : EReal))
  (hσ : ∀ h, x3 (ix1 h) = (σ h : EReal)) (hG : ∀ a b, x4 (ix2 a b) = G a b)

include hX hq hk in
/-- A row's largest score. -/
theorem most_ref (n : Fin 32) (g : Fin 2) (j : Fin 4) (r : Fin 128) :
    val_main_v83 x0 x1 x2 (ix5 0 n g j r) = Finset.fold max ⊥ (scr X wq wk n (ofGroup g j) r) Finset.univ := by
  have hs := score_ref x0 x1 x2 X wq wk hX hq hk n g j r
  unfold val_main_v83
  generalize val_main_v81_0 (F := Ideal) x0 x1 x2 = y at hs
  have h : S1x32x2x4x128x256.Reduces [5] S1x32x2x4x128 := by decide
  have e : ∀ a : Fin 256, (y ∘ h.lift (ix5 0 n g j r)) a = scr X wq wk n (ofGroup g j) r a := fun a => by
    rw [← hs a]
    refine congrArg y (funext fun b => Fin.ext ?_)
    match b with
    | ⟨0, _⟩ => rfl
    | ⟨1, _⟩ => rfl
    | ⟨2, _⟩ => rfl
    | ⟨3, _⟩ => rfl
    | ⟨4, _⟩ => rfl
    | ⟨5, _⟩ => rfl
  refine (Host.reduce_eq_fold_single (FloatOps.maximumf (F := Ideal) (φ := .f32)) y _ _ h _ (ix5 0 n g j r)).trans ?_
  exact (congrArg (fun f => Finset.fold max _ f Finset.univ) (funext e)).trans (congrArg (fun b => Finset.fold max b _ Finset.univ) low_eq)

include hX hq hk hσ in
/-- The largest of the scores and the sink. -/
theorem top_ref (n : Fin 32) (g : Fin 2) (j : Fin 4) (r : Fin 128) :
    val_main_v91 x0 x1 x2 x3 (ix6 0 n g j r 0) = top (scr X wq wk n (ofGroup g j) r) (σ (ofGroup g j)) := by
  have h1 : val_main_v89 x0 x1 x2 (ix6 0 n g j r 0) = Finset.fold max ⊥ (scr X wq wk n (ofGroup g j) r) Finset.univ := by
    rw [← most_ref x0 x1 x2 X wq wk hX hq hk n g j r]
    unfold val_main_v89
    generalize val_main_v83 (F := Ideal) x0 x1 x2 = y
    pointwise
  have h2 : val_main_v90 x3 (ix6 0 n g j r 0) = (σ (ofGroup g j) : EReal) := by
    pointwise [val_main_v82, val_main_v90]
    exact hσ (ofGroup g j)
  rw [val_main_v91_apply, h1, h2, top]
  generalize Finset.fold max ⊥ (scr X wq wk n (ofGroup g j) r) Finset.univ = y
  rfl

include hX hq hk hσ in
/-- The exponentials under it. -/
theorem exp_ref (n : Fin 32) (g : Fin 2) (j : Fin 4) (r : Fin 128) (a : Fin 256) :
    val_main_v103 x0 x1 x2 x3 (ix6 0 n g j r a) = (ex (scr X wq wk n (ofGroup g j) r) (σ (ofGroup g j)) a : EReal) := by
  pointwise [val_main_v101, val_main_v102, val_main_v103]
  simp only [score_ref x0 x1 x2 X wq wk hX hq hk, top_ref x0 x1 x2 x3 X wq wk σ hX hq hk hσ]
  exact (ex_coe _ _ (scr_ne_top X wq wk n (ofGroup g j) r) a).1

include hX hq hk hσ in
/-- Their sum. -/
theorem sum_ref (n : Fin 32) (g : Fin 2) (j : Fin 4) (r : Fin 128) :
    val_main_v104 x0 x1 x2 x3 (ix5 0 n g j r) = ((∑ a, ex (scr X wq wk n (ofGroup g j) r) (σ (ofGroup g j)) a : ℝ) : EReal) := by
  rw [val_main_v104_apply]
  have e : ∀ a : Fin 256, idx_main_v104 (ix5 0 n g j r) a = ix6 0 n g j r a := fun a => funext fun b => Fin.ext (by
    match b with
    | ⟨0, _⟩ => rfl
    | ⟨1, _⟩ => rfl
    | ⟨2, _⟩ => rfl
    | ⟨3, _⟩ => rfl
    | ⟨4, _⟩ => rfl
    | ⟨5, _⟩ => rfl)
  have z : (val_main_cst_18 (F := Ideal)) (Shape.Idx.first h_S_) = (0 : EReal) := by
    pointwise [val_main_cst_18]
  simp only [e, exp_ref x0 x1 x2 x3 X wq wk σ hX hq hk hσ, z, coe_sum, zero_add]

include hX hq hk hσ in
/-- The exponential of the sink. -/
theorem sink_ref (n : Fin 32) (g : Fin 2) (j : Fin 4) (r : Fin 128) :
    val_main_v108 x0 x1 x2 x3 (ix6 0 n g j r 0) = (es (scr X wq wk n (ofGroup g j) r) (σ (ofGroup g j)) : EReal) := by
  pointwise [val_main_v82, val_main_v106, val_main_v107, val_main_v108]
  rw [top_ref x0 x1 x2 x3 X wq wk σ hX hq hk hσ, hσ]
  exact (es_coe _ _ (scr_ne_top X wq wk n (ofGroup g j) r)).1

include hX hq hk hσ in
/-- What the exponentials are divided by. -/
theorem den_ref (n : Fin 32) (g : Fin 2) (j : Fin 4) (r : Fin 128) :
    val_main_v109 x0 x1 x2 x3 (ix6 0 n g j r 0) = (den (scr X wq wk n (ofGroup g j) r) (σ (ofGroup g j)) : EReal) := by
  have e := sink_ref x0 x1 x2 x3 X wq wk σ hX hq hk hσ n g j r
  have f := sum_ref x0 x1 x2 x3 X wq wk σ hX hq hk hσ n g j r
  unfold val_main_v109 val_main_v105
  generalize val_main_v108 (F := Ideal) x0 x1 x2 x3 = y at e
  generalize val_main_v104 (F := Ideal) x0 x1 x2 x3 = z at f
  pointwise
  rw [e, f, ← EReal.coe_add]
  rfl

include hX hq hk hσ in
/-- The probabilities. -/
theorem prb_ref (n : Fin 32) (g : Fin 2) (j : Fin 4) (r : Fin 128) (a : Fin 256) :
    val_main_v111 x0 x1 x2 x3 (ix6 0 n g j r a) = (prb X wq wk σ n (ofGroup g j) r a : EReal) := by
  have e := den_ref x0 x1 x2 x3 X wq wk σ hX hq hk hσ n g j r
  have f := exp_ref x0 x1 x2 x3 X wq wk σ hX hq hk hσ n g j r a
  unfold val_main_v111 val_main_v110
  generalize val_main_v109 (F := Ideal) x0 x1 x2 x3 = y at e
  generalize val_main_v103 (F := Ideal) x0 x1 x2 x3 = z at f
  pointwise
  rw [e, f]
  erw [div_den _ _ (scr_ne_top X wq wk n (ofGroup g j) r)]
  rw [← EReal.coe_mul]
  rfl

include hX hq hk hσ hG in
/-- The gradient of the values of a window. -/
theorem dval_ref (n : Fin 32) (g : Fin 2) (a : Fin 256) (d : Fin 64) :
    val_main_v122 x0 x1 x2 x3 x4 (ix5 0 n a g d) = dval X wq wk σ G n g a d := by
  pointwise [val_main_v118, val_main_v119, val_main_v121, val_main_v122]
  refine Finset.sum_congr rfl fun j _ => Finset.sum_congr rfl fun r _ => ?_
  rw [hG, prb_ref x0 x1 x2 x3 X wq wk σ hX hq hk hσ, mul_comm]
  refine congrArg (fun i : Fin 512 => (prb X wq wk σ n (ofGroup g j) r a : EReal) * G (rowAt n r) i) (Fin.ext ?_)
  show g.val * 256 + j.val * 64 + d.val = 64 * (g.val * 4 + j.val) + d.val
  omega

include hX hq hk hσ hG in
/-- The first result: the gradient of a block's own values. -/
theorem own_ref (T : Fin 4096) (b : Fin 128) : val_main_v161 x0 x1 x2 x3 x4 (ix2 T b)
    = dval X wq wk σ G ⟨T.val / 128, by omega⟩ ⟨b.val / 64, by omega⟩ ⟨128 + T.val % 128, by omega⟩ ⟨b.val % 64, by omega⟩ := by
  pointwise [val_main_v159, val_main_v161]
  exact dval_ref x0 x1 x2 x3 x4 X wq wk σ G hX hq hk hσ hG _ _ _ _

include hX hq hk hσ hG in
/-- The second result: the gradient of the values of the block before. -/
theorem prev_ref (T : Fin 4096) (b : Fin 128) : val_main_v162 x0 x1 x2 x3 x4 (ix2 T b)
    = dval X wq wk σ G ⟨T.val / 128, by omega⟩ ⟨b.val / 64, by omega⟩ ⟨T.val % 128, by omega⟩ ⟨b.val % 64, by omega⟩ := by
  pointwise [val_main_v160, val_main_v162]
  exact dval_ref x0 x1 x2 x3 x4 X wq wk σ G hX hq hk hσ hG _ _ _ _

end Cert.AttBwdRefIdeal.Final

end
-- ==== Proof.AttKeysRef.lean ====
/- The reference's gradient of the keys, in real numbers. -/
module

public import proofs.«01_k».proof.Proof.AttBwdRef
public import proofs.«01_k».proof.Proof.AttDkey

@[expose] public section

set_option maxRecDepth 16384

noncomputable section

namespace Cert.AttBwdRefIdeal.Final

open Cert.AttBwdRefIdeal Cert.AttBwdRefIdeal.Gen Cert.AttBwdRefIdeal.Read
open Idealize.ShloMosaic Idealize.ShloMosaic.TcCoe Idealize.SL.Sem
open Cert.Attend Cert.RowNorm

/-- A sum over axes of one place each is the one element there is. -/
theorem sum_unit (h : S1x32x2x4x128x1.ReducesTo [0, 5] S32x2x4x128) (v : S1x32x2x4x128x1.Idx → EReal) (n : Fin 32) (g : Fin 2) (j : Fin 4) (r : Fin 128) :
    Ideal.hostReduceAdd h v 0 (ix4 n g j r) = v (ix6 0 n g j r 0) := by
  have key : ∀ i : S1x32x2x4x128x1.Idx, h.drop i = ix4 n g j r → i = ix6 0 n g j r 0 := fun i e => by
    have e1 : (h.drop i 0 : Nat) = i 1 := Shape.ReducesTo.drop_apply_val h i 0
    have e2 : (h.drop i 1 : Nat) = i 2 := Shape.ReducesTo.drop_apply_val h i 1
    have e3 : (h.drop i 2 : Nat) = i 3 := Shape.ReducesTo.drop_apply_val h i 2
    have e4 : (h.drop i 3 : Nat) = i 4 := Shape.ReducesTo.drop_apply_val h i 3
    rw [e] at e1 e2 e3 e4
    funext b
    match b with
    | ⟨0, _⟩ => exact Fin.ext (by have : (i 0).val < 1 := (i 0).isLt; show (i 0).val = 0; omega)
    | ⟨1, _⟩ => exact Fin.ext e1.symm
    | ⟨2, _⟩ => exact Fin.ext e2.symm
    | ⟨3, _⟩ => exact Fin.ext e3.symm
    | ⟨4, _⟩ => exact Fin.ext e4.symm
    | ⟨5, _⟩ => exact Fin.ext (by have : (i 5).val < 1 := (i 5).isLt; show (i 5).val = 0; omega)
  have back : h.drop (ix6 0 n g j r 0) = ix4 n g j r := by
    funext b
    match b with
    | ⟨0, _⟩ => exact Fin.ext (Shape.ReducesTo.drop_apply_val h (ix6 0 n g j r 0) 0)
    | ⟨1, _⟩ => exact Fin.ext (Shape.ReducesTo.drop_apply_val h (ix6 0 n g j r 0) 1)
    | ⟨2, _⟩ => exact Fin.ext (Shape.ReducesTo.drop_apply_val h (ix6 0 n g j r 0) 2)
    | ⟨3, _⟩ => exact Fin.ext (Shape.ReducesTo.drop_apply_val h (ix6 0 n g j r 0) 3)
  unfold Ideal.hostReduceAdd
  rw [zero_add]
  refine Finset.sum_eq_single (ix6 0 n g j r 0) (fun i hi hne => absurd (key i (Finset.mem_filter.mp hi).2) hne) fun hn => ?_
  exact (hn (Finset.mem_filter.mpr ⟨Finset.mem_univ _, back⟩)).elim

/-- A sum over the keys of a row. -/
theorem sum_keys (h : S1x32x2x4x128x256.ReducesTo [5] S1x32x2x4x128) (v : S1x32x2x4x128x256.Idx → EReal) (n : Fin 32) (g : Fin 2) (j : Fin 4) (r : Fin 128) :
    Ideal.hostReduceAdd h v 0 (ix5 0 n g j r) = ∑ k : Fin 256, v (ix6 0 n g j r k) := by
  rw [Ideal.hostReduceAdd_single h (by decide), zero_add]
  refine Finset.sum_congr rfl fun k _ => congrArg v (funext fun b => Fin.ext ?_)
  match b with
  | ⟨0, _⟩ => rfl
  | ⟨1, _⟩ => rfl
  | ⟨2, _⟩ => rfl
  | ⟨3, _⟩ => rfl
  | ⟨4, _⟩ => rfl
  | ⟨5, _⟩ => rfl

variable (x0 : (⟨S4096x768, .f32⟩ : BufTy).Contents (Elt Ideal)) (x1 x2 : (⟨S64, .f32⟩ : BufTy).Contents (Elt Ideal))
  (x3 : (⟨S8, .f32⟩ : BufTy).Contents (Elt Ideal)) (x4 : (⟨S4096x512, .f32⟩ : BufTy).Contents (Elt Ideal))
  (X : Fin 4096 → Fin 768 → ℝ) (wq wk : Fin 64 → ℝ) (σ : Fin 8 → ℝ) (G : Fin 4096 → Fin 512 → ℝ)
  (hX : ∀ a b, x0 (ix2 a b) = (X a b : EReal)) (hq : ∀ d, x1 (ix1 d) = (wq d : EReal)) (hk : ∀ d, x2 (ix1 d) = (wk d : EReal))
  (hσ : ∀ h, x3 (ix1 h) = (σ h : EReal)) (hG : ∀ a b, x4 (ix2 a b) = (G a b : EReal))

/-- The values of a window, zeros where there is no block before. -/
def padVal (n : Fin 32) (h : Fin 8) (a : Fin 256) (d : Fin 64) : ℝ := if n.val = 0 ∧ a.val < 128 then 0 else val X n h a d

include hX in
/-- The values of a window. -/
theorem val_ref (n : Fin 32) (g : Fin 2) (j : Fin 4) (a : Fin 256) (d : Fin 64) :
    val_main_v43 x0 (ix5 0 n a g d) = (padVal X n (ofGroup g j) a d : EReal) := by
  pointwise [val_main_v2, val_main_v5, val_main_v38, val_main_v39, val_main_cst_6, val_main_v40, val_main_v41, val_main_v42, val_main_v43]
  have hg : (ofGroup g j).val / 4 = g.val := by show (g.val * 4 + j.val) / 4 = g.val; omega
  simp only [hX, padVal, val, hg]
  by_cases ha : a.val < 128
  · by_cases h1 : n.val < 1
    · have h2 : n.val = 0 := by omega
      simp only [ha, h1, h2, and_self, ↓reduceDIte, ↓reduceIte]
      rfl
    · have h2 : ¬ n.val = 0 := by omega
      simp only [ha, h1, h2, false_and, ↓reduceDIte, ↓reduceIte]
      refine congrArg₂ (fun (p : Fin 4096) (q : Fin 768) => ((X p q : ℝ) : EReal)) (Fin.ext ?_) (Fin.ext ?_)
      · show (n.val - 1) * 128 + a.val = n.val * 128 + a.val - 128
        omega
      · show 640 + (g.val * 64 + d.val) = 640 + (64 * g.val + d.val)
        omega
  · simp only [ha, and_false, ↓reduceDIte, ↓reduceIte]
    refine congrArg₂ (fun (p : Fin 4096) (q : Fin 768) => ((X p q : ℝ) : EReal)) (Fin.ext ?_) (Fin.ext ?_)
    · show n.val * 128 + (a.val - 128) = n.val * 128 + a.val - 128
      omega
    · show 640 + (g.val * 64 + d.val) = 640 + (64 * g.val + d.val)
      omega

/-- The gradient that reaches a probability, as the reference takes it. -/
def padDp (n : Fin 32) (h : Fin 8) (r : Fin 128) (a : Fin 256) : ℝ := ∑ d : Fin 64, G (rowAt n r) ⟨64 * h.val + d.val, by omega⟩ * padVal X n h a d

include hX hG in
/-- It is the reference's. -/
theorem dp_ref (n : Fin 32) (g : Fin 2) (j : Fin 4) (r : Fin 128) (a : Fin 256) :
    val_main_v120 x0 x4 (ix6 0 n g j r a) = (padDp X G n (ofGroup g j) r a : EReal) := by
  have e := val_ref x0 X hX n g j a
  unfold val_main_v120
  generalize val_main_v43 (F := Ideal) x0 = y at e
  pointwise [val_main_v118, val_main_v119]
  simp only [e, hG, ← EReal.coe_mul, coe_sum]
  refine congrArg _ (Finset.sum_congr rfl fun d _ => ?_)
  refine congrArg (fun i : Fin 512 => G (rowAt n r) i * padVal X n (ofGroup g j) a d) (Fin.ext ?_)
  show g.val * 256 + j.val * 64 + d.val = 64 * (g.val * 4 + j.val) + d.val
  omega

/-- The part of a score's gradient that comes through the sum. -/
def through (n : Fin 32) (h : Fin 8) (r : Fin 128) : ℝ :=
  -∑ k, padDp X G n h r k * (1 / (den (scr X wq wk n h r) (σ h) * den (scr X wq wk n h r) (σ h))) * ex (scr X wq wk n h r) (σ h) k

include hX hq hk hσ hG

/-- It is the reference's. -/
theorem through_ref (n : Fin 32) (g : Fin 2) (j : Fin 4) (r : Fin 128) :
    val_main_v128 x0 x1 x2 x3 x4 (ix6 0 n g j r 0) = (through X wq wk σ G n (ofGroup g j) r : EReal) := by
  have hd := den_ref x0 x1 x2 x3 X wq wk σ hX hq hk hσ n g j r
  have h114 : val_main_v114 x0 x1 x2 x3 (ix6 0 n g j r 0)
      = ((1 / (den (scr X wq wk n (ofGroup g j) r) (σ (ofGroup g j)) * den (scr X wq wk n (ofGroup g j) r) (σ (ofGroup g j))) : ℝ) : EReal) := by
    unfold val_main_v114 val_main_v112
    generalize val_main_v109 (F := Ideal) x0 x1 x2 x3 = y at hd
    pointwise [val_main_v113, val_main_cst_19]
    rw [hd, ← EReal.coe_mul]
    have h0 := (den_pos _ _ (scr_ne_top X wq wk n (ofGroup g j) r) : 0 < den (scr X wq wk n (ofGroup g j) r) (σ (ofGroup g j))).ne'
    exact (Ideal.div_coe (mul_ne_zero h0 h0) 1).trans (one_mul _)
  have h125 : ∀ a, val_main_v125 x0 x1 x2 x3 x4 (ix6 0 n g j r a)
      = ((padDp X G n (ofGroup g j) r a * (1 / (den (scr X wq wk n (ofGroup g j) r) (σ (ofGroup g j)) * den (scr X wq wk n (ofGroup g j) r) (σ (ofGroup g j))))
        * ex (scr X wq wk n (ofGroup g j) r) (σ (ofGroup g j)) a : ℝ) : EReal) := fun a => by
    have e1 := dp_ref x0 x4 X G hX hG n g j r a
    have e2 := exp_ref x0 x1 x2 x3 X wq wk σ hX hq hk hσ n g j r a
    unfold val_main_v125 val_main_v124 val_main_v123
    generalize val_main_v120 (F := Ideal) x0 x4 = y at e1
    generalize val_main_v103 (F := Ideal) x0 x1 x2 x3 = z at e2
    generalize val_main_v114 (F := Ideal) x0 x1 x2 x3 = w at h114
    pointwise
    rw [e1, e2, h114, ← EReal.coe_mul, ← EReal.coe_mul]
  unfold val_main_v128 val_main_v127 val_main_v126
  generalize val_main_v125 (F := Ideal) x0 x1 x2 x3 x4 = y at h125
  pointwise [val_main_cst_20]
  simp only [sum_keys, h125, coe_sum, through, EReal.coe_neg]

/-- A score's gradient before the sharing out of the largest score's. -/
theorem part_ref (n : Fin 32) (g : Fin 2) (j : Fin 4) (r : Fin 128) (a : Fin 256) :
    val_main_v137 x0 x1 x2 x3 x4 (ix6 0 n g j r a)
      = (((padDp X G n (ofGroup g j) r a * (1 / den (scr X wq wk n (ofGroup g j) r) (σ (ofGroup g j))) + through X wq wk σ G n (ofGroup g j) r)
        * ex (scr X wq wk n (ofGroup g j) r) (σ (ofGroup g j)) a : ℝ) : EReal) := by
  have ht := through_ref x0 x1 x2 x3 x4 X wq wk σ G hX hq hk hσ hG n g j r
  have h133 : val_main_v133 x0 x1 x2 x3 x4 (ix4 n g j r) = (through X wq wk σ G n (ofGroup g j) r : EReal) := by
    unfold val_main_v133
    generalize val_main_v128 (F := Ideal) x0 x1 x2 x3 x4 = y at ht
    have hz : (val_main_cst_21 (F := Ideal)) (Shape.Idx.first h_S_) = (0 : EReal) := by pointwise [val_main_cst_21]
    refine (ValueIdx.hostReduceAdd_apply y _ _ _ _).trans ?_
    rw [hz, sum_unit, ht]
  have hd := den_ref x0 x1 x2 x3 X wq wk σ hX hq hk hσ n g j r
  have e1 := dp_ref x0 x4 X G hX hG n g j r a
  have e2 := exp_ref x0 x1 x2 x3 X wq wk σ hX hq hk hσ n g j r a
  unfold val_main_v137 val_main_v136 val_main_v135 val_main_v134 val_main_v130 val_main_v129
  generalize val_main_v133 (F := Ideal) x0 x1 x2 x3 x4 = t at h133
  generalize val_main_v120 (F := Ideal) x0 x4 = y at e1
  generalize val_main_v103 (F := Ideal) x0 x1 x2 x3 = z at e2
  generalize val_main_v109 (F := Ideal) x0 x1 x2 x3 = w at hd
  pointwise
  rw [e1, e2, hd, h133]
  erw [div_den _ _ (scr_ne_top X wq wk n (ofGroup g j) r)]
  rw [← EReal.coe_mul, ← EReal.coe_add, ← EReal.coe_mul]

/-- The gradient of a row's largest score is 0. -/
theorem largest_ref (n : Fin 32) (g : Fin 2) (j : Fin 4) (r : Fin 128) : val_main_v141 x0 x1 x2 x3 x4 (ix6 0 n g j r 0) = 0 := by
  have ht := through_ref x0 x1 x2 x3 x4 X wq wk σ G hX hq hk hσ hG n g j r
  have hs := sink_ref x0 x1 x2 x3 X wq wk σ hX hq hk hσ n g j r
  have hp := part_ref x0 x1 x2 x3 x4 X wq wk σ G hX hq hk hσ hG n g j r
  unfold val_main_v141 val_main_v140 val_main_v139 val_main_v138 val_main_v132 val_main_v131
  generalize val_main_v137 (F := Ideal) x0 x1 x2 x3 x4 = y at hp
  generalize val_main_v128 (F := Ideal) x0 x1 x2 x3 x4 = z at ht
  generalize val_main_v108 (F := Ideal) x0 x1 x2 x3 = w at hs
  pointwise [val_main_cst_22]
  rw [sum_keys]
  pointwise
  simp only [hp, ht, hs, ← EReal.coe_mul, ← EReal.coe_neg, coe_sum, ← EReal.coe_add]
  refine (congrArg _ (chain _ (padDp X G n (ofGroup g j) r) _ _ _ rfl
    (den_pos _ _ (scr_ne_top X wq wk n (ofGroup g j) r)).ne' rfl).2).trans EReal.coe_zero

/-- A score's gradient. -/
theorem dscr_ref (n : Fin 32) (g : Fin 2) (j : Fin 4) (r : Fin 128) (a : Fin 256) :
    val_main_v151 x0 x1 x2 x3 x4 (ix6 0 n g j r a) = (dscr X wq wk σ G n (ofGroup g j) r a : EReal) := by
  have hL := largest_ref x0 x1 x2 x3 x4 X wq wk σ G hX hq hk hσ hG n g j r
  have h143 : val_main_v143 x0 x1 x2 x3 x4 (ix4 n g j r) = 0 := by
    have h142 : val_main_v142 x0 x1 x2 x3 x4 (ix6 0 n g j r 0) = 0 := by
      unfold val_main_v142
      generalize val_main_v141 (F := Ideal) x0 x1 x2 x3 x4 = y at hL
      generalize val_main_v100 (F := Ideal) x0 x1 x2 x3 = z
      pointwise
      rw [hL, zero_mul]
    unfold val_main_v143
    generalize val_main_v142 (F := Ideal) x0 x1 x2 x3 x4 = y at h142
    have hz : (val_main_cst_23 (F := Ideal)) (Shape.Idx.first h_S_) = (0 : EReal) := by pointwise [val_main_cst_23]
    refine (ValueIdx.hostReduceAdd_apply y _ _ _ _).trans ?_
    rw [hz, sum_unit, h142]
  have h147 : val_main_v147 x0 x1 x2 x3 x4 (ix6 0 n g j r a) = 0 := by
    have hf : ∀ a, 0 ≤ val_main_v87 x0 x1 x2 (ix6 0 n g j r a) := fun a => by
      unfold val_main_v87
      generalize val_main_v86 (F := Ideal) x0 x1 x2 = y
      pointwise
      exact EReal.coe_nonneg.mpr (Nat.cast_nonneg _)
    unfold val_main_v147 val_main_v146 val_main_v145 val_main_v144 val_main_v88
    generalize val_main_v143 (F := Ideal) x0 x1 x2 x3 x4 = y at h143
    generalize val_main_v87 (F := Ideal) x0 x1 x2 = z at hf
    pointwise [val_main_cst_14]
    rw [h143, sum_keys]
    exact share (fun a => z (ix6 0 n g j r a)) hf a
  have hp := part_ref x0 x1 x2 x3 x4 X wq wk σ G hX hq hk hσ hG n g j r a
  have h149 : val_main_v149 x0 x1 x2 x3 x4 (ix6 0 n g j r a)
      = ((prb X wq wk σ n (ofGroup g j) r a * (padDp X G n (ofGroup g j) r a - ∑ k, prb X wq wk σ n (ofGroup g j) r k * padDp X G n (ofGroup g j) r k) : ℝ) : EReal) := by
    have h148 : val_main_v148 x0 x1 x2 x3 x4 (ix6 0 n g j r a)
        = ((prb X wq wk σ n (ofGroup g j) r a * (padDp X G n (ofGroup g j) r a - ∑ k, prb X wq wk σ n (ofGroup g j) r k * padDp X G n (ofGroup g j) r k) : ℝ) : EReal) := by
      rw [val_main_v148_apply, hp, h147]
      refine (add_zero _).trans (congrArg _ ?_)
      exact (chain _ (padDp X G n (ofGroup g j) r) _ _ _ rfl (den_pos _ _ (scr_ne_top X wq wk n (ofGroup g j) r)).ne' rfl).1 a
    have hz : val_main_call1_v0 (F := Ideal) (ix6 0 n g j r a) = 0 := by pointwise [val_main_call1_cst, val_main_call1_v0]
    rw [val_main_v149_apply, seen_ref, h148, hz]
    by_cases hb : seen (bit n) r a = 1#1
    · rw [hb]
      rfl
    · have hb0 : seen (bit n) r a = 0#1 := (BitVec.eq_zero_or_eq_one _).resolve_right hb
      have hs : scr X wq wk n (ofGroup g j) r a = ⊥ := by rw [scr, hb0]; rfl
      have hp0 : prb X wq wk σ n (ofGroup g j) r a = 0 := pr_zero _ _ (scr_ne_top X wq wk n (ofGroup g j) r) a hs
      rw [hb0, hp0, zero_mul]
      rfl
  unfold val_main_v151 val_main_v150
  generalize val_main_v149 (F := Ideal) x0 x1 x2 x3 x4 = y at h149
  pointwise [val_main_cst_24]
  rw [h149, scale_eq, ← EReal.coe_mul]
  refine congrArg _ (dscr_of X wq wk σ G n (ofGroup g j) r (padDp X G n (ofGroup g j) r) (fun a hn => ?_) a)
  unfold padDp dprb padVal
  simp only [hn, ↓reduceIte]

/-- The gradient of the keys of a window. -/
theorem dkey_ref (n : Fin 32) (g : Fin 2) (a : Fin 256) (d : Fin 64) :
    val_main_v154 x0 x1 x2 x3 x4 (ix5 0 n a g d) = dkey X wq wk σ G n g a d := by
  have e := dscr_ref x0 x1 x2 x3 x4 X wq wk σ G hX hq hk hσ hG n g
  have f : ∀ (j : Fin 4) (r : Fin 128), val_main_v44 x0 x1 (ix6 0 n r g j d) = (qry X wq n (ofGroup g j) r d : EReal) := fun j r => by
    have := q_ref x0 x1 X wq hX hq (rowAt n r) (ofGroup g j) d
    unfold val_main_v44
    generalize val_main_v18 (F := Ideal) x0 x1 = y at this
    pointwise
    exact this
  unfold val_main_v154 val_main_v153 val_main_v152
  generalize val_main_v151 (F := Ideal) x0 x1 x2 x3 x4 = y at e
  generalize val_main_v44 (F := Ideal) x0 x1 = z at f
  pointwise
  simp only [e, f]
  exact Finset.sum_comm

/-- The first result: the gradient of a block's own keys. -/
theorem own_key_ref (T : Fin 4096) (b : Fin 128) : val_main_v157 x0 x1 x2 x3 x4 (ix2 T b)
    = dkey X wq wk σ G ⟨T.val / 128, by omega⟩ ⟨b.val / 64, by omega⟩ ⟨128 + T.val % 128, by omega⟩ ⟨b.val % 64, by omega⟩ := by
  have e := dkey_ref x0 x1 x2 x3 x4 X wq wk σ G hX hq hk hσ hG
  unfold val_main_v157 val_main_v155
  generalize val_main_v154 (F := Ideal) x0 x1 x2 x3 x4 = y at e
  pointwise
  exact e _ _ _ _

/-- The second result: the gradient of the keys of the block before. -/
theorem prev_key_ref (T : Fin 4096) (b : Fin 128) : val_main_v158 x0 x1 x2 x3 x4 (ix2 T b)
    = dkey X wq wk σ G ⟨T.val / 128, by omega⟩ ⟨b.val / 64, by omega⟩ ⟨T.val % 128, by omega⟩ ⟨b.val % 64, by omega⟩ := by
  have e := dkey_ref x0 x1 x2 x3 x4 X wq wk σ G hX hq hk hσ hG
  unfold val_main_v158 val_main_v156
  generalize val_main_v154 (F := Ideal) x0 x1 x2 x3 x4 = y at e
  pointwise
  exact e _ _ _ _

end Cert.AttBwdRefIdeal.Final

end
-- ==== Proof.AttBwdPre.lean ====
/- What the precondition of attention's backward call says: the projection, the norm weights, the sinks and the
   cotangent hold real numbers. -/
module

public import proofs.«01_k».proof.Defs
public import proofs.«01_k».proof.Proof.Gen.AttBwdIdeal.Value
public import proofs.«01_k».proof.Proof.DactPre

@[expose] public section

noncomputable section

open Idealize.ShloMosaic Cert.Gating

/-- The shapes the precondition's operations meet fit together. -/
instance Cert.Pre_finite_sequence.facts : Cert.Pre_finite_sequence.Facts :=
  ⟨by decide, by decide, by decide, by decide⟩

namespace Cert.AttBwdIdeal.Final

open Cert.AttBwdIdeal

/-- The real numbers the five arrays hold. -/
theorem reals_of_pre (m : (ℓ : Loc nD τ sig) → Buf (Elt Ideal) ℓ) (h : Cert.Pre_AttBwdIdeal_finite_sequence m) (c : Dev nD) :
    ∃ (X : Fin 4096 → Fin 768 → ℝ) (wq wk : Fin 64 → ℝ) (σ : Fin 8 → ℝ) (G : Fin 4096 → Fin 512 → ℝ),
      (∀ a b, (m ((c.tc : Thread nD τ).loc main_arg0) : Vec Ideal S4096x768 .f32) (ix2 a b) = (X a b : EReal))
      ∧ (∀ d, (m ((c.tc : Thread nD τ).loc main_arg1) : Vec Ideal S64 .f32) (ix1 d) = (wq d : EReal))
      ∧ (∀ d, (m ((c.tc : Thread nD τ).loc main_arg2) : Vec Ideal S64 .f32) (ix1 d) = (wk d : EReal))
      ∧ (∀ a, (m ((c.tc : Thread nD τ).loc main_arg3) : Vec Ideal S8 .f32) (ix1 a) = (σ a : EReal))
      ∧ (∀ a b, (m ((c.tc : Thread nD τ).loc main_arg4) : Vec Ideal S4096x512 .f32) (ix2 a b) = (G a b : EReal)) := by
  obtain ⟨h0, h1, h2, h3, h4⟩ := h c
  choose X hX using Cert.Proof.real_of_mask _ _ (fun i => by pointwise; exact Cert.Proof.inf_eq) h0
  choose wq hq using Cert.Proof.real_of_mask _ _ (fun i => by pointwise; exact Cert.Proof.inf_eq) h1
  choose wk hk using Cert.Proof.real_of_mask _ _ (fun i => by pointwise; exact Cert.Proof.inf_eq) h2
  choose σ hσ using Cert.Proof.real_of_mask _ _ (fun i => by pointwise; exact Cert.Proof.inf_eq) h3
  choose G hG using Cert.Proof.real_of_mask _ _ (fun i => by pointwise; exact Cert.Proof.inf_eq) h4
  exact ⟨fun a b => X (ix2 a b), fun d => wq (ix1 d), fun d => wk (ix1 d), fun a => σ (ix1 a),
    fun a b => G (ix2 a b),
    fun a b => hX _, fun d => hq _, fun d => hk _, fun a => hσ _, fun a b => hG _⟩

end Cert.AttBwdIdeal.Final

end
-- ==== Proof.AttBwdGrad.lean ====
/- The gradients of the keys and of the values of windowed attention: the kernel's four results are the reference's. -/
module

public import proofs.«01_k».proof.Proof.AttKeys
public import proofs.«01_k».proof.Proof.AttKeysRef
public import proofs.«01_k».proof.Proof.AttBwdPre

@[expose] public section

noncomputable section

namespace Cert.AttBwdIdeal.Final

open Cert.AttBwdIdeal Cert.AttBwdIdeal.Gen
open Idealize.ShloMosaic Idealize.ShloMosaic.TcCoe Idealize.SL.Sem

variable (m : (ℓ : Loc nD τ sig) → Buf (Elt Ideal) ℓ) (h : Cert.Pre_AttBwdIdeal_finite_sequence m) (c : Dev nD)

include h in
/-- The gradient of the keys by a block's own rows. -/
theorem own_key_eq : (dats m 0 c).arrAt 7 cfg0.N = Cert.AttBwdRefIdeal.Read.val_main_v157
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  obtain ⟨X, wq, wk, σ, G, hX, hq, hk, hσ, hG⟩ := reals_of_pre m h c
  refine (final7 m c X wq wk σ G hX hq hk hσ hG).trans (funext fun i => ?_)
  have e : i = ix2 (i 0) (i 1) := by funext a; match a with | 0 => rfl | 1 => rfl
  rw [e]
  exact (Cert.AttBwdRefIdeal.Final.own_key_ref _ _ _ _ _ X wq wk σ G hX hq hk hσ hG (i 0) (i 1)).symm

include h in
/-- The gradient of the keys of the block before, by a block's rows. -/
theorem prev_key_eq : (dats m 0 c).arrAt 8 cfg0.N = Cert.AttBwdRefIdeal.Read.val_main_v158
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  obtain ⟨X, wq, wk, σ, G, hX, hq, hk, hσ, hG⟩ := reals_of_pre m h c
  refine (final8 m c X wq wk σ G hX hq hk hσ hG).trans (funext fun i => ?_)
  have e : i = ix2 (i 0) (i 1) := by funext a; match a with | 0 => rfl | 1 => rfl
  rw [e]
  exact (Cert.AttBwdRefIdeal.Final.prev_key_ref _ _ _ _ _ X wq wk σ G hX hq hk hσ hG (i 0) (i 1)).symm

include h in
/-- The gradient of the values by a block's own rows. -/
theorem own_eq : (dats m 0 c).arrAt 9 cfg0.N = Cert.AttBwdRefIdeal.Read.val_main_v161
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  obtain ⟨X, wq, wk, σ, G, hX, hq, hk, hσ, hG⟩ := reals_of_pre m h c
  refine (final9 m c X wq wk σ (fun a b => (G a b : EReal)) hX hq hk hσ hG).trans (funext fun i => ?_)
  have e : i = ix2 (i 0) (i 1) := by funext a; match a with | 0 => rfl | 1 => rfl
  rw [e]
  exact (Cert.AttBwdRefIdeal.Final.own_ref _ _ _ _ _ X wq wk σ (fun a b => (G a b : EReal)) hX hq hk hσ hG (i 0) (i 1)).symm

include h in
/-- The gradient of the values of the block before, by a block's rows. -/
theorem prev_eq : (dats m 0 c).arrAt 10 cfg0.N = Cert.AttBwdRefIdeal.Read.val_main_v162
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  obtain ⟨X, wq, wk, σ, G, hX, hq, hk, hσ, hG⟩ := reals_of_pre m h c
  refine (final10 m c X wq wk σ (fun a b => (G a b : EReal)) hX hq hk hσ hG).trans (funext fun i => ?_)
  have e : i = ix2 (i 0) (i 1) := by funext a; match a with | 0 => rfl | 1 => rfl
  rw [e]
  exact (Cert.AttBwdRefIdeal.Final.prev_ref _ _ _ _ _ X wq wk σ (fun a b => (G a b : EReal)) hX hq hk hσ hG (i 0) (i 1)).symm

end Cert.AttBwdIdeal.Final

end
-- ==== Proof.RmsFwd.lean ====
/- The norm by the root mean square: one tile of rows for each grid point. -/
module

public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.RmsFwdIdeal.Final

open Cert.RmsFwdIdeal Cert.RmsFwdIdeal.Gen Cert.RmsFwdRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The result: every row normed. -/
theorem final2 (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v0, val_main_v1, val_main_v2, val_main_v3, val_main_v4, val_main_v5, val_main_v6, val_main_v7, val_main_v8, val_main_v9, val_main_v10, val_main_v11, val_main_v12, val_main_v13, val_main_cst,val_main_cst_0,val_main_cst_1]
  blk_point [iblk, V, idx t]

end Cert.RmsFwdIdeal.Final

end
-- ==== Proof.MergeFwd.lean ====
/- The two branches under their gates: one tile of rows for each grid point. -/
module

public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.MergeFwdIdeal.Final

open Cert.MergeFwdIdeal Cert.MergeFwdIdeal.Gen Cert.MergeFwdRefIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of each window at grid point `t`. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- The result: every row of both branches under their gates. -/
theorem final3 (c : Dev nD) : (dats m 0 c).arrAt 3 cfg0.N
    = val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst,val_main_cst_0,val_main_cst_1,val_main_cst_2]
  simp only [zero_sub]
  blk_point [iblk, V, idx t]

end Cert.MergeFwdIdeal.Final

end
-- ==== Proof.lean ====
module

public import proofs.«01_k».proof.Defs
public import proofs.«01_k».proof.Proof.Gen.MergeIdeal.Value
public import proofs.«01_k».proof.Proof.Gen.Merge.Frame
public import proofs.«01_k».proof.Proof.Gen.MergeRefIdeal.Run
public import proofs.«01_k».proof.Proof.Gen.MergeRefIdeal.Read
public import proofs.«01_k».proof.Proof.Merge
public import proofs.«01_k».proof.Proof.Gen.GateUpIdeal.Value
public import proofs.«01_k».proof.Proof.Gen.GateUp.Frame
public import proofs.«01_k».proof.Proof.Gen.GateUpRefIdeal.Run
public import proofs.«01_k».proof.Proof.Gen.GateUpRefIdeal.Read
public import proofs.«01_k».proof.Proof.GateUp
public import proofs.«01_k».proof.Proof.Gen.DactIdeal.Value
public import proofs.«01_k».proof.Proof.Gen.Dact.Frame
public import proofs.«01_k».proof.Proof.Gen.DactRefIdeal.Run
public import proofs.«01_k».proof.Proof.Gen.DactRefIdeal.Read
public import proofs.«01_k».proof.Proof.Dact
public import proofs.«01_k».proof.Proof.DactPre
public import proofs.«01_k».proof.Proof.Gen.DownIdeal.Value
public import proofs.«01_k».proof.Proof.Gen.Down.Frame
public import proofs.«01_k».proof.Proof.Gen.DownRefIdeal.Run
public import proofs.«01_k».proof.Proof.Gen.DownRefIdeal.Read
public import proofs.«01_k».proof.Proof.Down
public import proofs.«01_k».proof.Proof.Gen.DwdIdeal.Value
public import proofs.«01_k».proof.Proof.Gen.Dwd.Frame
public import proofs.«01_k».proof.Proof.Gen.DwdRefIdeal.Run
public import proofs.«01_k».proof.Proof.Gen.DwdRefIdeal.Read
public import proofs.«01_k».proof.Proof.Dwd
public import proofs.«01_k».proof.Proof.Gen.DwIdeal.Value
public import proofs.«01_k».proof.Proof.Gen.Dw.Frame
public import proofs.«01_k».proof.Proof.Gen.DwRefIdeal.Run
public import proofs.«01_k».proof.Proof.Gen.DwRefIdeal.Read
public import proofs.«01_k».proof.Proof.Dw
public import proofs.«01_k».proof.Proof.Gen.DhIdeal.Value
public import proofs.«01_k».proof.Proof.Gen.Dh.Frame
public import proofs.«01_k».proof.Proof.Gen.DhRefIdeal.Run
public import proofs.«01_k».proof.Proof.Gen.DhRefIdeal.Read
public import proofs.«01_k».proof.Proof.Dh
public import proofs.«01_k».proof.Proof.Gen.ProjAttIdeal.Value
public import proofs.«01_k».proof.Proof.Gen.ProjAtt.Frame
public import proofs.«01_k».proof.Proof.Gen.ProjAttRefIdeal.Run
public import proofs.«01_k».proof.Proof.Gen.ProjAttRefIdeal.Read
public import proofs.«01_k».proof.Proof.ProjAtt
public import proofs.«01_k».proof.Proof.Gen.ProjGateIdeal.Value
public import proofs.«01_k».proof.Proof.Gen.ProjGate.Frame
public import proofs.«01_k».proof.Proof.Gen.ProjGateRefIdeal.Run
public import proofs.«01_k».proof.Proof.Gen.ProjGateRefIdeal.Read
public import proofs.«01_k».proof.Proof.ProjGate
public import proofs.«01_k».proof.Proof.Gen.ProjRwkvIdeal.Value
public import proofs.«01_k».proof.Proof.Gen.ProjRwkv.Frame
public import proofs.«01_k».proof.Proof.Gen.ProjRwkvRefIdeal.Run
public import proofs.«01_k».proof.Proof.Gen.ProjRwkvRefIdeal.Read
public import proofs.«01_k».proof.Proof.ProjRwkv
public import proofs.«01_k».proof.Proof.Gen.BranchRwkvIdeal.Value
public import proofs.«01_k».proof.Proof.Gen.BranchRwkv.Frame
public import proofs.«01_k».proof.Proof.Gen.BranchRwkvRefIdeal.Run
public import proofs.«01_k».proof.Proof.Gen.BranchRwkvRefIdeal.Read
public import proofs.«01_k».proof.Proof.BranchRwkv
public import proofs.«01_k».proof.Proof.Gen.BranchAttIdeal.Value
public import proofs.«01_k».proof.Proof.Gen.BranchAtt.Frame
public import proofs.«01_k».proof.Proof.Gen.BranchAttRefIdeal.Run
public import proofs.«01_k».proof.Proof.Gen.BranchAttRefIdeal.Read
public import proofs.«01_k».proof.Proof.BranchAtt
public import proofs.«01_k».proof.Proof.Gen.MixOutIdeal.Value
public import proofs.«01_k».proof.Proof.Gen.MixOut.Frame
public import proofs.«01_k».proof.Proof.Gen.MixOutRefIdeal.Run
public import proofs.«01_k».proof.Proof.Gen.MixOutRefIdeal.Read
public import proofs.«01_k».proof.Proof.MixOut
public import proofs.«01_k».proof.Proof.Gen.DMergeIdeal.Value
public import proofs.«01_k».proof.Proof.Gen.DMerge.Frame
public import proofs.«01_k».proof.Proof.Gen.DMergeRefIdeal.Run
public import proofs.«01_k».proof.Proof.Gen.DMergeRefIdeal.Read
public import proofs.«01_k».proof.Proof.DMerge
public import proofs.«01_k».proof.Proof.Gen.DWOutIdeal.Value
public import proofs.«01_k».proof.Proof.Gen.DWOut.Frame
public import proofs.«01_k».proof.Proof.Gen.DWOutRefIdeal.Run
public import proofs.«01_k».proof.Proof.Gen.DWOutRefIdeal.Read
public import proofs.«01_k».proof.Proof.DWOut
public import proofs.«01_k».proof.Proof.Gen.DYIdeal.Value
public import proofs.«01_k».proof.Proof.Gen.DY.Frame
public import proofs.«01_k».proof.Proof.Gen.DYRefIdeal.Run
public import proofs.«01_k».proof.Proof.Gen.DYRefIdeal.Read
public import proofs.«01_k».proof.Proof.DY
public import proofs.«01_k».proof.Proof.Gen.DWBranchRwkvIdeal.Value
public import proofs.«01_k».proof.Proof.Gen.DWBranchRwkv.Frame
public import proofs.«01_k».proof.Proof.Gen.DWBranchRwkvRefIdeal.Run
public import proofs.«01_k».proof.Proof.Gen.DWBranchRwkvRefIdeal.Read
public import proofs.«01_k».proof.Proof.DWBranchRwkv
public import proofs.«01_k».proof.Proof.Gen.DWBranchAttIdeal.Value
public import proofs.«01_k».proof.Proof.Gen.DWBranchAtt.Frame
public import proofs.«01_k».proof.Proof.Gen.DWBranchAttRefIdeal.Run
public import proofs.«01_k».proof.Proof.Gen.DWBranchAttRefIdeal.Read
public import proofs.«01_k».proof.Proof.DWBranchAtt
public import proofs.«01_k».proof.Proof.Gen.DWInAttIdeal.Value
public import proofs.«01_k».proof.Proof.Gen.DWInAtt.Frame
public import proofs.«01_k».proof.Proof.Gen.DWInAttRefIdeal.Run
public import proofs.«01_k».proof.Proof.Gen.DWInAttRefIdeal.Read
public import proofs.«01_k».proof.Proof.DWInAtt
public import proofs.«01_k».proof.Proof.Gen.DWInGateIdeal.Value
public import proofs.«01_k».proof.Proof.Gen.DWInGate.Frame
public import proofs.«01_k».proof.Proof.Gen.DWInGateRefIdeal.Run
public import proofs.«01_k».proof.Proof.Gen.DWInGateRefIdeal.Read
public import proofs.«01_k».proof.Proof.DWInGate
public import proofs.«01_k».proof.Proof.Gen.DWInRwkvIdeal.Value
public import proofs.«01_k».proof.Proof.Gen.DWInRwkv.Frame
public import proofs.«01_k».proof.Proof.Gen.DWInRwkvRefIdeal.Run
public import proofs.«01_k».proof.Proof.Gen.DWInRwkvRefIdeal.Read
public import proofs.«01_k».proof.Proof.DWInRwkv
public import proofs.«01_k».proof.Proof.Gen.DH2AttIdeal.Value
public import proofs.«01_k».proof.Proof.Gen.DH2Att.Frame
public import proofs.«01_k».proof.Proof.Gen.DH2AttRefIdeal.Run
public import proofs.«01_k».proof.Proof.Gen.DH2AttRefIdeal.Read
public import proofs.«01_k».proof.Proof.DH2Att
public import proofs.«01_k».proof.Proof.Gen.DhUpIdeal.Value
public import proofs.«01_k».proof.Proof.Gen.DhUp.Frame
public import proofs.«01_k».proof.Proof.Gen.DhUpRefIdeal.Run
public import proofs.«01_k».proof.Proof.Gen.DhUpRefIdeal.Read
public import proofs.«01_k».proof.Proof.DhUp
public import proofs.«01_k».proof.Proof.Gen.DH2GateIdeal.Value
public import proofs.«01_k».proof.Proof.Gen.DH2Gate.Frame
public import proofs.«01_k».proof.Proof.Gen.DH2GateRefIdeal.Run
public import proofs.«01_k».proof.Proof.Gen.DH2GateRefIdeal.Read
public import proofs.«01_k».proof.Proof.DH2Gate
public import proofs.«01_k».proof.Proof.Gen.AttBwdIdeal.Value
public import proofs.«01_k».proof.Proof.Gen.AttBwd.Frame
public import proofs.«01_k».proof.Proof.Gen.AttBwdRefIdeal.Run
public import proofs.«01_k».proof.Proof.Gen.AttBwdRefIdeal.Read
public import proofs.«01_k».proof.Proof.AttBwd
public import proofs.«01_k».proof.Proof.AttBwdGrad
public import proofs.«01_k».proof.Proof.Gen.RmsFwdIdeal.Value
public import proofs.«01_k».proof.Proof.Gen.RmsFwd.Frame
public import proofs.«01_k».proof.Proof.Gen.RmsFwdRefIdeal.Run
public import proofs.«01_k».proof.Proof.Gen.RmsFwdRefIdeal.Read
public import proofs.«01_k».proof.Proof.RmsFwd
public import proofs.«01_k».proof.Proof.Gen.MergeFwdIdeal.Value
public import proofs.«01_k».proof.Proof.Gen.MergeFwd.Frame
public import proofs.«01_k».proof.Proof.Gen.MergeFwdRefIdeal.Run
public import proofs.«01_k».proof.Proof.Gen.MergeFwdRefIdeal.Read
public import proofs.«01_k».proof.Proof.MergeFwd
public import Idealize.ShloMosaic.Adequacy
public import Idealize.ShloMosaic.Lib.Claim
public import Idealize.ShloMosaic.Init

@[expose] public section

noncomputable section

namespace Cert.Proof

open Idealize.ShloMosaic Idealize.SL.Sem

/-- The reference of `Merge` runs to the end and leaves its arguments as they were. -/
theorem frame_mergeRef : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- `Merge` and its reference end with equal results. -/
theorem value_merge : Cert.algebraic_MergeIdeal_MergeRefIdeal := by
  pair_intro
  · run_from Cert.MergeIdeal.Gen.run_main m g
  · run_from Cert.MergeRefIdeal.Value.run m' g'
    · exact (Cert.MergeRefIdeal.Read.val_main_v22_eq _ _).trans (Cert.MergeIdeal.Merge.final4 m c).symm
    · exact (Cert.MergeRefIdeal.Read.val_main_v23_eq _ _).trans (Cert.MergeIdeal.Merge.final5 m c).symm
    · exact (Cert.MergeRefIdeal.Read.val_main_v21_eq _ _ _ _).trans (Cert.MergeIdeal.Merge.final6 m c).symm

/-- The reference of `GateUp` runs to the end and leaves its arguments as they were. -/
theorem frame_gateUpRef : Cert.quiescent_GateUpRefIdeal := fun m ρ _ =>
  (θ_run Cert.GateUpRefIdeal.defs _ _).mono (fun r h => ⟨fun c => (h c).2.2.2, sem_eq_zero_of_no_sems (by decide) r.2⟩)
    (Cert.GateUpRefIdeal.Value.run (F := Ideal) m ρ)

/-- `GateUp` and its reference end with equal results. -/
theorem value_gateUp : Cert.algebraic_GateUpIdeal_GateUpRefIdeal := by
  pair_intro
  · run_from Cert.GateUpIdeal.Gen.run_main m g
  · run_from Cert.GateUpRefIdeal.Value.run m' g'
    · exact (Cert.GateUpRefIdeal.Read.val_main_v2_eq _ _).trans (Cert.GateUpIdeal.Final.final3 m c).symm
    · exact (Cert.GateUpRefIdeal.Read.val_main_v3_eq _ _).trans (Cert.GateUpIdeal.Final.final4 m c).symm
    · exact (Cert.GateUpRefIdeal.Read.val_main_v6_eq _ _ _).trans (Cert.GateUpIdeal.Final.final5 m c).symm

/-- The reference of `Dact` runs to the end and leaves its arguments as they were. -/
theorem frame_dactRef : Cert.quiescent_DactRefIdeal := fun m ρ _ =>
  (θ_run Cert.DactRefIdeal.defs _ _).mono (fun r h => ⟨fun c => (h c).2.2, sem_eq_zero_of_no_sems (by decide) r.2⟩)
    (Cert.DactRefIdeal.Value.run (F := Ideal) m ρ)

/-- `Dact` and its reference end with equal results. -/
theorem value_dact : Cert.algebraic_DactIdeal_DactRefIdeal_pre_finite_factors := by
  pair_intro
  · run_from Cert.DactIdeal.Gen.run_main m g
  · run_from Cert.DactRefIdeal.Value.run m' g'
    · exact (Cert.DactRefIdeal.Read.val_main_v11_eq _ _ _ _).trans (Cert.DactIdeal.Final.final4 m c (real_of_pre m hpre c).1 (real_of_pre m hpre c).2.1 (real_of_pre m hpre c).2.2).symm
    · exact (Cert.DactRefIdeal.Read.val_main_v12_eq _ _ _).trans (Cert.DactIdeal.Final.final5 m c).symm

/-- The reference of `Down` runs to the end and leaves its arguments as they were. -/
theorem frame_downRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- `Down` and its reference end with equal results. -/
theorem value_down : Cert.algebraic_DownIdeal_DownRefIdeal := by
  pair_intro
  · run_from Cert.DownIdeal.Gen.run_main m g
  · run_from Cert.DownRefIdeal.Value.run m' g'
    · exact (Cert.DownRefIdeal.Read.val_main_v3_eq _ _ _).trans (Cert.DownIdeal.Final.final3 m c).symm

/-- The reference of `Dwd` runs to the end and leaves its arguments as they were. -/
theorem frame_dwdRef : Cert.quiescent_DwdRefIdeal := fun m ρ _ =>
  (θ_run Cert.DwdRefIdeal.defs _ _).mono (fun r h => ⟨fun c => (h c).2, sem_eq_zero_of_no_sems (by decide) r.2⟩)
    (Cert.DwdRefIdeal.Value.run (F := Ideal) m ρ)

/-- `Dwd` and its reference end with equal results. -/
theorem value_dwd : Cert.algebraic_DwdIdeal_DwdRefIdeal := by
  pair_intro
  · run_from Cert.DwdIdeal.Gen.run_main m g
  · run_from Cert.DwdRefIdeal.Value.run m' g'
    · exact (Cert.DwdRefIdeal.Read.val_main_v6_eq _ _).trans (Cert.DwdIdeal.Final.final2 m c).symm

/-- The reference of `Dw` runs to the end and leaves its arguments as they were. -/
theorem frame_dwRef : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

/-- `Dw` and its reference end with equal results. -/
theorem value_dw : Cert.algebraic_DwIdeal_DwRefIdeal := by
  pair_intro
  · run_from Cert.DwIdeal.Gen.run_main m g
  · run_from Cert.DwRefIdeal.Value.run m' g'
    · exact (Cert.DwRefIdeal.Read.val_main_v3_eq _ _).trans (Cert.DwIdeal.Final.final2 m c).symm

/-- The reference of `Dh` runs to the end and leaves its arguments as they were. -/
theorem frame_dhRef : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

/-- `Dh` and its reference end with equal results. -/
theorem value_dh : Cert.algebraic_DhIdeal_DhRefIdeal := by
  pair_intro
  · run_from Cert.DhIdeal.Gen.run_main m g
  · run_from Cert.DhRefIdeal.Value.run m' g'
    · exact (Cert.DhRefIdeal.Read.val_main_v1_eq _ _).trans (Cert.DhIdeal.Final.final2 m c).symm

/-- The reference of `ProjAtt` runs to the end and leaves its arguments as they were. -/
theorem frame_projAttRef : Cert.quiescent_ProjAttRefIdeal := fun m ρ _ =>
  (θ_run Cert.ProjAttRefIdeal.defs _ _).mono (fun r h => ⟨fun c => (h c).2, sem_eq_zero_of_no_sems (by decide) r.2⟩)
    (Cert.ProjAttRefIdeal.Value.run (F := Ideal) m ρ)

/-- `ProjAtt` and its reference end with equal results. -/
theorem value_projAtt : Cert.algebraic_ProjAttIdeal_ProjAttRefIdeal := by
  pair_intro
  · run_from Cert.ProjAttIdeal.Gen.run_main m g
  · run_from Cert.ProjAttRefIdeal.Value.run m' g'
    · exact (Cert.ProjAttRefIdeal.Read.val_main_v0_eq _ _).trans (Cert.ProjAttIdeal.Final.final2 m c).symm

/-- The reference of `ProjGate` runs to the end and leaves its arguments as they were. -/
theorem frame_projGateRef : Cert.quiescent_ProjGateRefIdeal := fun m ρ _ =>
  (θ_run Cert.ProjGateRefIdeal.defs _ _).mono (fun r h => ⟨fun c => (h c).2, sem_eq_zero_of_no_sems (by decide) r.2⟩)
    (Cert.ProjGateRefIdeal.Value.run (F := Ideal) m ρ)

/-- `ProjGate` and its reference end with equal results. -/
theorem value_projGate : Cert.algebraic_ProjGateIdeal_ProjGateRefIdeal := by
  pair_intro
  · run_from Cert.ProjGateIdeal.Gen.run_main m g
  · run_from Cert.ProjGateRefIdeal.Value.run m' g'
    · exact (Cert.ProjGateRefIdeal.Read.val_main_v0_eq _ _).trans (Cert.ProjGateIdeal.Final.final2 m c).symm

/-- The reference of `ProjRwkv` runs to the end and leaves its arguments as they were. -/
theorem frame_projRwkvRef : Cert.quiescent_ProjRwkvRefIdeal := fun m ρ _ =>
  (θ_run Cert.ProjRwkvRefIdeal.defs _ _).mono (fun r h => ⟨fun c => (h c).2, sem_eq_zero_of_no_sems (by decide) r.2⟩)
    (Cert.ProjRwkvRefIdeal.Value.run (F := Ideal) m ρ)

/-- `ProjRwkv` and its reference end with equal results. -/
theorem value_projRwkv : Cert.algebraic_ProjRwkvIdeal_ProjRwkvRefIdeal := by
  pair_intro
  · run_from Cert.ProjRwkvIdeal.Gen.run_main m g
  · run_from Cert.ProjRwkvRefIdeal.Value.run m' g'
    · exact (Cert.ProjRwkvRefIdeal.Read.val_main_v0_eq _ _).trans (Cert.ProjRwkvIdeal.Final.final2 m c).symm

/-- The reference of `BranchRwkv` runs to the end and leaves its arguments as they were. -/
theorem frame_branchRwkvRef : Cert.quiescent_BranchRwkvRefIdeal := fun m ρ _ =>
  (θ_run Cert.BranchRwkvRefIdeal.defs _ _).mono (fun r h => ⟨fun c => (h c).2, sem_eq_zero_of_no_sems (by decide) r.2⟩)
    (Cert.BranchRwkvRefIdeal.Value.run (F := Ideal) m ρ)

/-- `BranchRwkv` and its reference end with equal results. -/
theorem value_branchRwkv : Cert.algebraic_BranchRwkvIdeal_BranchRwkvRefIdeal := by
  pair_intro
  · run_from Cert.BranchRwkvIdeal.Gen.run_main m g
  · run_from Cert.BranchRwkvRefIdeal.Value.run m' g'
    · exact (Cert.BranchRwkvRefIdeal.Read.val_main_v0_eq _ _).trans (Cert.BranchRwkvIdeal.Final.final2 m c).symm

/-- The reference of `BranchAtt` runs to the end and leaves its arguments as they were. -/
theorem frame_branchAttRef : Cert.quiescent_BranchAttRefIdeal := fun m ρ _ =>
  (θ_run Cert.BranchAttRefIdeal.defs _ _).mono (fun r h => ⟨fun c => (h c).2, sem_eq_zero_of_no_sems (by decide) r.2⟩)
    (Cert.BranchAttRefIdeal.Value.run (F := Ideal) m ρ)

/-- `BranchAtt` and its reference end with equal results. -/
theorem value_branchAtt : Cert.algebraic_BranchAttIdeal_BranchAttRefIdeal := by
  pair_intro
  · run_from Cert.BranchAttIdeal.Gen.run_main m g
  · run_from Cert.BranchAttRefIdeal.Value.run m' g'
    · exact (Cert.BranchAttRefIdeal.Read.val_main_v0_eq _ _).trans (Cert.BranchAttIdeal.Final.final2 m c).symm

/-- The reference of `MixOut` runs to the end and leaves its arguments as they were. -/
theorem frame_mixOutRef : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- `MixOut` and its reference end with equal results. -/
theorem value_mixOut : Cert.algebraic_MixOutIdeal_MixOutRefIdeal := by
  pair_intro
  · run_from Cert.MixOutIdeal.Gen.run_main m g
  · run_from Cert.MixOutRefIdeal.Value.run m' g'
    · exact (Cert.MixOutRefIdeal.Read.val_main_v1_eq _ _ _).trans (Cert.MixOutIdeal.Final.final3 m c).symm

/-- The reference of `DMerge` runs to the end and leaves its arguments as they were. -/
theorem frame_dMergeRef : Cert.quiescent_DMergeRefIdeal := fun m ρ _ =>
  (θ_run Cert.DMergeRefIdeal.defs _ _).mono (fun r h => ⟨fun c => (h c).2, sem_eq_zero_of_no_sems (by decide) r.2⟩)
    (Cert.DMergeRefIdeal.Value.run (F := Ideal) m ρ)

/-- `DMerge` and its reference end with equal results. -/
theorem value_dMerge : Cert.algebraic_DMergeIdeal_DMergeRefIdeal := by
  pair_intro
  · run_from Cert.DMergeIdeal.Gen.run_main m g
  · run_from Cert.DMergeRefIdeal.Value.run m' g'
    · exact (Cert.DMergeRefIdeal.Read.val_main_v1_eq _ _).trans (Cert.DMergeIdeal.Final.final2 m c).symm

/-- The reference of `DWOut` runs to the end and leaves its arguments as they were. -/
theorem frame_dWOutRef : Cert.quiescent_DWOutRefIdeal := fun m ρ _ =>
  (θ_run Cert.DWOutRefIdeal.defs _ _).mono (fun r h => ⟨fun c => (h c).2, sem_eq_zero_of_no_sems (by decide) r.2⟩)
    (Cert.DWOutRefIdeal.Value.run (F := Ideal) m ρ)

/-- `DWOut` and its reference end with equal results. -/
theorem value_dWOut : Cert.algebraic_DWOutIdeal_DWOutRefIdeal := by
  pair_intro
  · run_from Cert.DWOutIdeal.Gen.run_main m g
  · run_from Cert.DWOutRefIdeal.Value.run m' g'
    · exact (Cert.DWOutRefIdeal.Read.val_main_v2_eq _ _).trans (Cert.DWOutIdeal.Final.final2 m c).symm

/-- The reference of `DY` runs to the end and leaves its arguments as they were. -/
theorem frame_dYRef : Cert.quiescent_DYRefIdeal := fun m ρ _ =>
  (θ_run Cert.DYRefIdeal.defs _ _).mono (fun r h => ⟨fun c => (h c).2, sem_eq_zero_of_no_sems (by decide) r.2⟩)
    (Cert.DYRefIdeal.Value.run (F := Ideal) m ρ)

/-- `DY` and its reference end with equal results. -/
theorem value_dY : Cert.algebraic_DYIdeal_DYRefIdeal := by
  pair_intro
  · run_from Cert.DYIdeal.Gen.run_main m g
  · run_from Cert.DYRefIdeal.Value.run m' g'
    · exact (Cert.DYRefIdeal.Read.val_main_v1_eq _ _).trans (Cert.DYIdeal.Final.final2 m c).symm

/-- The reference of `DWBranchRwkv` runs to the end and leaves its arguments as they were. -/
theorem frame_dWBranchRwkvRef : Cert.quiescent_DWBranchRwkvRefIdeal := fun m ρ _ =>
  (θ_run Cert.DWBranchRwkvRefIdeal.defs _ _).mono (fun r h => ⟨fun c => (h c).2, sem_eq_zero_of_no_sems (by decide) r.2⟩)
    (Cert.DWBranchRwkvRefIdeal.Value.run (F := Ideal) m ρ)

/-- `DWBranchRwkv` and its reference end with equal results. -/
theorem value_dWBranchRwkv : Cert.algebraic_DWBranchRwkvIdeal_DWBranchRwkvRefIdeal := by
  pair_intro
  · run_from Cert.DWBranchRwkvIdeal.Gen.run_main m g
  · run_from Cert.DWBranchRwkvRefIdeal.Value.run m' g'
    · exact (Cert.DWBranchRwkvRefIdeal.Read.val_main_v2_eq _ _).trans (Cert.DWBranchRwkvIdeal.Final.final2 m c).symm

/-- The reference of `DWBranchAtt` runs to the end and leaves its arguments as they were. -/
theorem frame_dWBranchAttRef : Cert.quiescent_DWBranchAttRefIdeal := fun m ρ _ =>
  (θ_run Cert.DWBranchAttRefIdeal.defs _ _).mono (fun r h => ⟨fun c => (h c).2, sem_eq_zero_of_no_sems (by decide) r.2⟩)
    (Cert.DWBranchAttRefIdeal.Value.run (F := Ideal) m ρ)

/-- `DWBranchAtt` and its reference end with equal results. -/
theorem value_dWBranchAtt : Cert.algebraic_DWBranchAttIdeal_DWBranchAttRefIdeal := by
  pair_intro
  · run_from Cert.DWBranchAttIdeal.Gen.run_main m g
  · run_from Cert.DWBranchAttRefIdeal.Value.run m' g'
    · exact (Cert.DWBranchAttRefIdeal.Read.val_main_v2_eq _ _).trans (Cert.DWBranchAttIdeal.Final.final2 m c).symm

/-- The reference of `DWInAtt` runs to the end and leaves its arguments as they were. -/
theorem frame_dWInAttRef : Cert.quiescent_DWInAttRefIdeal := fun m ρ _ =>
  (θ_run Cert.DWInAttRefIdeal.defs _ _).mono (fun r h => ⟨fun c => (h c).2, sem_eq_zero_of_no_sems (by decide) r.2⟩)
    (Cert.DWInAttRefIdeal.Value.run (F := Ideal) m ρ)

/-- `DWInAtt` and its reference end with equal results. -/
theorem value_dWInAtt : Cert.algebraic_DWInAttIdeal_DWInAttRefIdeal := by
  pair_intro
  · run_from Cert.DWInAttIdeal.Gen.run_main m g
  · run_from Cert.DWInAttRefIdeal.Value.run m' g'
    · exact (Cert.DWInAttRefIdeal.Read.val_main_v2_eq _ _).trans (Cert.DWInAttIdeal.Final.final2 m c).symm

/-- The reference of `DWInGate` runs to the end and leaves its arguments as they were. -/
theorem frame_dWInGateRef : Cert.quiescent_DWInGateRefIdeal := fun m ρ _ =>
  (θ_run Cert.DWInGateRefIdeal.defs _ _).mono (fun r h => ⟨fun c => (h c).2, sem_eq_zero_of_no_sems (by decide) r.2⟩)
    (Cert.DWInGateRefIdeal.Value.run (F := Ideal) m ρ)

/-- `DWInGate` and its reference end with equal results. -/
theorem value_dWInGate : Cert.algebraic_DWInGateIdeal_DWInGateRefIdeal := by
  pair_intro
  · run_from Cert.DWInGateIdeal.Gen.run_main m g
  · run_from Cert.DWInGateRefIdeal.Value.run m' g'
    · exact (Cert.DWInGateRefIdeal.Read.val_main_v2_eq _ _).trans (Cert.DWInGateIdeal.Final.final2 m c).symm

/-- The reference of `DWInRwkv` runs to the end and leaves its arguments as they were. -/
theorem frame_dWInRwkvRef : Cert.quiescent_DWInRwkvRefIdeal := fun m ρ _ =>
  (θ_run Cert.DWInRwkvRefIdeal.defs _ _).mono (fun r h => ⟨fun c => (h c).2, sem_eq_zero_of_no_sems (by decide) r.2⟩)
    (Cert.DWInRwkvRefIdeal.Value.run (F := Ideal) m ρ)

/-- `DWInRwkv` and its reference end with equal results. -/
theorem value_dWInRwkv : Cert.algebraic_DWInRwkvIdeal_DWInRwkvRefIdeal := by
  pair_intro
  · run_from Cert.DWInRwkvIdeal.Gen.run_main m g
  · run_from Cert.DWInRwkvRefIdeal.Value.run m' g'
    · exact (Cert.DWInRwkvRefIdeal.Read.val_main_v2_eq _ _).trans (Cert.DWInRwkvIdeal.Final.final2 m c).symm

/-- The reference of `DH2Att` runs to the end and leaves its arguments as they were. -/
theorem frame_dH2AttRef : Cert.quiescent_DH2AttRefIdeal := fun m ρ _ =>
  (θ_run Cert.DH2AttRefIdeal.defs _ _).mono (fun r h => ⟨fun c => (h c).2, sem_eq_zero_of_no_sems (by decide) r.2⟩)
    (Cert.DH2AttRefIdeal.Value.run (F := Ideal) m ρ)

/-- `DH2Att` and its reference end with equal results. -/
theorem value_dH2Att : Cert.algebraic_DH2AttIdeal_DH2AttRefIdeal := by
  pair_intro
  · run_from Cert.DH2AttIdeal.Gen.run_main m g
  · run_from Cert.DH2AttRefIdeal.Value.run m' g'
    · exact (Cert.DH2AttRefIdeal.Read.val_main_v2_eq _ _ _).trans (Cert.DH2AttIdeal.Final.final3 m c).symm

/-- The reference of `DhUp` runs to the end and leaves its arguments as they were. -/
theorem frame_dhUpRef : Cert.quiescent_DhUpRefIdeal := fun m ρ _ =>
  (θ_run Cert.DhUpRefIdeal.defs _ _).mono (fun r h => ⟨fun c => (h c).2.2, sem_eq_zero_of_no_sems (by decide) r.2⟩)
    (Cert.DhUpRefIdeal.Value.run (F := Ideal) m ρ)

/-- `DhUp` and its reference end with equal results. -/
theorem value_dhUp : Cert.algebraic_DhUpIdeal_DhUpRefIdeal := by
  pair_intro
  · run_from Cert.DhUpIdeal.Gen.run_main m g
  · run_from Cert.DhUpRefIdeal.Value.run m' g'
    · rw [Cert.DhUpRefIdeal.Read.val_main_v39_eq]
      simp only [hagree c]
      exact (Cert.DhUpIdeal.Final.final6 m c).symm
    · exact (Cert.DhUpRefIdeal.Read.val_main_v40_eq _ _ _ _).trans (Cert.DhUpIdeal.Final.final7 m c).symm

/-- The reference of `DH2Gate` runs to the end and leaves its arguments as they were. -/
theorem frame_dH2GateRef : Cert.quiescent_DH2GateRefIdeal := fun m ρ _ =>
  (θ_run Cert.DH2GateRefIdeal.defs _ _).mono (fun r h => ⟨fun c => (h c).2.2, sem_eq_zero_of_no_sems (by decide) r.2⟩)
    (Cert.DH2GateRefIdeal.Value.run (F := Ideal) m ρ)

/-- `DH2Gate` and its reference end with equal results. -/
theorem value_dH2Gate : Cert.algebraic_DH2GateIdeal_DH2GateRefIdeal := by
  pair_intro
  · run_from Cert.DH2GateIdeal.Gen.run_main m g
  · run_from Cert.DH2GateRefIdeal.Value.run m' g'
    · rw [Cert.DH2GateRefIdeal.Read.val_main_v39_eq]
      simp only [hagree c]
      exact (Cert.DH2GateIdeal.Final.final6 m c).symm
    · exact (Cert.DH2GateRefIdeal.Read.val_main_v40_eq _ _ _ _).trans (Cert.DH2GateIdeal.Final.final7 m c).symm

/-- The reference of `AttBwd` runs to the end and leaves its arguments as they were. -/
theorem frame_attBwdRef : Cert.quiescent_AttBwdRefIdeal := fun m ρ _ =>
  (θ_run Cert.AttBwdRefIdeal.defs _ _).mono (fun r h => ⟨fun c => (h c).2.2.2.2, sem_eq_zero_of_no_sems (by decide) r.2⟩)
    (Cert.AttBwdRefIdeal.Value.run (F := Ideal) m ρ)

/-- `AttBwd` and its reference end with equal results. -/
theorem value_attBwd : Cert.algebraic_AttBwdIdeal_AttBwdRefIdeal_pre_finite_sequence := by
  pair_intro
  · run_from Cert.AttBwdIdeal.Gen.run_main m g & Cert.AttBwdIdeal.Gen.unchanged m g
  · run_from Cert.AttBwdRefIdeal.Value.run m' g'
    · rw [Cert.AttBwdRefIdeal.Read.val_main_v157_eq]
      simp only [hagree c]
      exact (Cert.AttBwdIdeal.Final.own_key_eq m hpre c).symm
    · rw [Cert.AttBwdRefIdeal.Read.val_main_v158_eq]
      simp only [hagree c]
      exact (Cert.AttBwdIdeal.Final.prev_key_eq m hpre c).symm
    · rw [Cert.AttBwdRefIdeal.Read.val_main_v161_eq]
      simp only [hagree c]
      exact (Cert.AttBwdIdeal.Final.own_eq m hpre c).symm
    · rw [Cert.AttBwdRefIdeal.Read.val_main_v162_eq]
      simp only [hagree c]
      exact (Cert.AttBwdIdeal.Final.prev_eq m hpre c).symm

/-- The reference of `RmsFwd` runs to the end and leaves its arguments as they were. -/
theorem frame_rmsFwdRef : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

/-- `RmsFwd` and its reference end with equal results. -/
theorem value_rmsFwd : Cert.algebraic_RmsFwdIdeal_RmsFwdRefIdeal := by
  pair_intro
  · run_from Cert.RmsFwdIdeal.Gen.run_main m g
  · run_from Cert.RmsFwdRefIdeal.Value.run m' g'
    · exact (Cert.RmsFwdRefIdeal.Read.val_main_v13_eq _ _).trans (Cert.RmsFwdIdeal.Final.final2 m c).symm

/-- The reference of `MergeFwd` runs to the end and leaves its arguments as they were. -/
theorem frame_mergeFwdRef : Cert.quiescent_MergeFwdRefIdeal := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

/-- `MergeFwd` and its reference end with equal results. -/
theorem value_mergeFwd : Cert.algebraic_MergeFwdIdeal_MergeFwdRefIdeal := by
  pair_intro
  · run_from Cert.MergeFwdIdeal.Gen.run_main m g
  · run_from Cert.MergeFwdRefIdeal.Value.run m' g'
    · exact (Cert.MergeFwdRefIdeal.Read.val_main_v17_eq _ _ _).trans (Cert.MergeFwdIdeal.Final.final3 m c).symm

/-- Every claim, of all the programs. -/
theorem claim : Cert.Claim := ⟨Cert.Merge.Gen.facts, Cert.MergeIdeal.Gen.facts, Cert.MergeRefIdeal.Gen.facts, Cert.GateUp.Gen.facts,
  Cert.GateUpIdeal.Gen.facts, Cert.GateUpRefIdeal.Gen.facts, Cert.Dact.Gen.facts, Cert.DactIdeal.Gen.facts,
  Cert.DactRefIdeal.Gen.facts, Cert.Down.Gen.facts, Cert.DownIdeal.Gen.facts, Cert.DownRefIdeal.Gen.facts,
  Cert.Dwd.Gen.facts, Cert.DwdIdeal.Gen.facts, Cert.DwdRefIdeal.Gen.facts, Cert.Dw.Gen.facts, Cert.DwIdeal.Gen.facts,
  Cert.DwRefIdeal.Gen.facts, Cert.Dh.Gen.facts, Cert.DhIdeal.Gen.facts, Cert.DhRefIdeal.Gen.facts, Cert.ProjAtt.Gen.facts,
  Cert.ProjAttIdeal.Gen.facts, Cert.ProjAttRefIdeal.Gen.facts, Cert.ProjGate.Gen.facts, Cert.ProjGateIdeal.Gen.facts,
  Cert.ProjGateRefIdeal.Gen.facts, Cert.ProjRwkv.Gen.facts, Cert.ProjRwkvIdeal.Gen.facts, Cert.ProjRwkvRefIdeal.Gen.facts,
  Cert.BranchRwkv.Gen.facts, Cert.BranchRwkvIdeal.Gen.facts, Cert.BranchRwkvRefIdeal.Gen.facts, Cert.BranchAtt.Gen.facts,
  Cert.BranchAttIdeal.Gen.facts, Cert.BranchAttRefIdeal.Gen.facts, Cert.MixOut.Gen.facts, Cert.MixOutIdeal.Gen.facts,
  Cert.MixOutRefIdeal.Gen.facts, Cert.DMerge.Gen.facts, Cert.DMergeIdeal.Gen.facts, Cert.DMergeRefIdeal.Gen.facts,
  Cert.DWOut.Gen.facts, Cert.DWOutIdeal.Gen.facts, Cert.DWOutRefIdeal.Gen.facts, Cert.DY.Gen.facts, Cert.DYIdeal.Gen.facts,
  Cert.DYRefIdeal.Gen.facts, Cert.DWBranchRwkv.Gen.facts, Cert.DWBranchRwkvIdeal.Gen.facts,
  Cert.DWBranchRwkvRefIdeal.Gen.facts, Cert.DWBranchAtt.Gen.facts, Cert.DWBranchAttIdeal.Gen.facts,
  Cert.DWBranchAttRefIdeal.Gen.facts, Cert.DWInAtt.Gen.facts, Cert.DWInAttIdeal.Gen.facts, Cert.DWInAttRefIdeal.Gen.facts,
  Cert.DWInGate.Gen.facts, Cert.DWInGateIdeal.Gen.facts, Cert.DWInGateRefIdeal.Gen.facts, Cert.DWInRwkv.Gen.facts,
  Cert.DWInRwkvIdeal.Gen.facts, Cert.DWInRwkvRefIdeal.Gen.facts, Cert.DH2Att.Gen.facts, Cert.DH2AttIdeal.Gen.facts,
  Cert.DH2AttRefIdeal.Gen.facts, Cert.DhUp.Gen.facts, Cert.DhUpIdeal.Gen.facts, Cert.DhUpRefIdeal.Gen.facts,
  Cert.DH2Gate.Gen.facts, Cert.DH2GateIdeal.Gen.facts, Cert.DH2GateRefIdeal.Gen.facts, Cert.AttBwd.Gen.facts,
  Cert.AttBwdIdeal.Gen.facts, Cert.AttBwdRefIdeal.Gen.facts, Cert.RmsFwd.Gen.facts, Cert.RmsFwdIdeal.Gen.facts,
  Cert.RmsFwdRefIdeal.Gen.facts, Cert.MergeFwd.Gen.facts, Cert.MergeFwdIdeal.Gen.facts, Cert.MergeFwdRefIdeal.Gen.facts,
  Cert.Pre_finite_factors.facts, Cert.Pre_finite_sequence.facts, fun m ρ _ => Cert.Merge.Gen.frame m ρ,
  fun m ρ _ => Cert.MergeIdeal.Gen.frame m ρ, frame_mergeRef, fun m ρ _ => Cert.GateUp.Gen.frame m ρ,
  fun m ρ _ => Cert.GateUpIdeal.Gen.frame m ρ, frame_gateUpRef, fun m ρ _ => Cert.Dact.Gen.frame m ρ,
  fun m ρ _ => Cert.DactIdeal.Gen.frame m ρ, fun m ρ _ => Cert.DactIdeal.Gen.frame m ρ, frame_dactRef,
  fun m ρ _ => frame_dactRef m ρ trivial, fun m ρ _ => Cert.Down.Gen.frame m ρ, fun m ρ _ => Cert.DownIdeal.Gen.frame m ρ,
  frame_downRef, fun m ρ _ => Cert.Dwd.Gen.frame m ρ, fun m ρ _ => Cert.DwdIdeal.Gen.frame m ρ, frame_dwdRef,
  fun m ρ _ => Cert.Dw.Gen.frame m ρ, fun m ρ _ => Cert.DwIdeal.Gen.frame m ρ, frame_dwRef,
  fun m ρ _ => Cert.Dh.Gen.frame m ρ, fun m ρ _ => Cert.DhIdeal.Gen.frame m ρ, frame_dhRef,
  fun m ρ _ => Cert.ProjAtt.Gen.frame m ρ, fun m ρ _ => Cert.ProjAttIdeal.Gen.frame m ρ, frame_projAttRef,
  fun m ρ _ => Cert.ProjGate.Gen.frame m ρ, fun m ρ _ => Cert.ProjGateIdeal.Gen.frame m ρ, frame_projGateRef,
  fun m ρ _ => Cert.ProjRwkv.Gen.frame m ρ, fun m ρ _ => Cert.ProjRwkvIdeal.Gen.frame m ρ, frame_projRwkvRef,
  fun m ρ _ => Cert.BranchRwkv.Gen.frame m ρ, fun m ρ _ => Cert.BranchRwkvIdeal.Gen.frame m ρ, frame_branchRwkvRef,
  fun m ρ _ => Cert.BranchAtt.Gen.frame m ρ, fun m ρ _ => Cert.BranchAttIdeal.Gen.frame m ρ, frame_branchAttRef,
  fun m ρ _ => Cert.MixOut.Gen.frame m ρ, fun m ρ _ => Cert.MixOutIdeal.Gen.frame m ρ, frame_mixOutRef,
  fun m ρ _ => Cert.DMerge.Gen.frame m ρ, fun m ρ _ => Cert.DMergeIdeal.Gen.frame m ρ, frame_dMergeRef,
  fun m ρ _ => Cert.DWOut.Gen.frame m ρ, fun m ρ _ => Cert.DWOutIdeal.Gen.frame m ρ, frame_dWOutRef,
  fun m ρ _ => Cert.DY.Gen.frame m ρ, fun m ρ _ => Cert.DYIdeal.Gen.frame m ρ, frame_dYRef,
  fun m ρ _ => Cert.DWBranchRwkv.Gen.frame m ρ, fun m ρ _ => Cert.DWBranchRwkvIdeal.Gen.frame m ρ, frame_dWBranchRwkvRef,
  fun m ρ _ => Cert.DWBranchAtt.Gen.frame m ρ, fun m ρ _ => Cert.DWBranchAttIdeal.Gen.frame m ρ, frame_dWBranchAttRef,
  fun m ρ _ => Cert.DWInAtt.Gen.frame m ρ, fun m ρ _ => Cert.DWInAttIdeal.Gen.frame m ρ, frame_dWInAttRef,
  fun m ρ _ => Cert.DWInGate.Gen.frame m ρ, fun m ρ _ => Cert.DWInGateIdeal.Gen.frame m ρ, frame_dWInGateRef,
  fun m ρ _ => Cert.DWInRwkv.Gen.frame m ρ, fun m ρ _ => Cert.DWInRwkvIdeal.Gen.frame m ρ, frame_dWInRwkvRef,
  fun m ρ _ => Cert.DH2Att.Gen.frame m ρ, fun m ρ _ => Cert.DH2AttIdeal.Gen.frame m ρ, frame_dH2AttRef,
  fun m ρ _ => Cert.DhUp.Gen.frame m ρ, fun m ρ _ => Cert.DhUpIdeal.Gen.frame m ρ, frame_dhUpRef,
  fun m ρ _ => Cert.DH2Gate.Gen.frame m ρ, fun m ρ _ => Cert.DH2GateIdeal.Gen.frame m ρ, frame_dH2GateRef,
  fun m ρ _ => Cert.AttBwd.Gen.frame m ρ, fun m ρ _ => Cert.AttBwdIdeal.Gen.frame m ρ,
  fun m ρ _ => Cert.AttBwdIdeal.Gen.frame m ρ, frame_attBwdRef, fun m ρ _ => frame_attBwdRef m ρ trivial,
  fun m ρ _ => Cert.RmsFwd.Gen.frame m ρ, fun m ρ _ => Cert.RmsFwdIdeal.Gen.frame m ρ, frame_rmsFwdRef,
  fun m ρ _ => Cert.MergeFwd.Gen.frame m ρ, fun m ρ _ => Cert.MergeFwdIdeal.Gen.frame m ρ, frame_mergeFwdRef, trivial,
  value_merge, trivial, value_gateUp, trivial, value_dact, trivial, value_down, trivial, value_dwd, trivial, value_dw,
  trivial, value_dh, trivial, value_projAtt, trivial, value_projGate, trivial, value_projRwkv, trivial, value_branchRwkv,
  trivial, value_branchAtt, trivial, value_mixOut, trivial, value_dMerge, trivial, value_dWOut, trivial, value_dY, trivial,
  value_dWBranchRwkv, trivial, value_dWBranchAtt, trivial, value_dWInAtt, trivial, value_dWInGate, trivial, value_dWInRwkv,
  trivial, value_dH2Att, trivial, value_dhUp, trivial, value_dH2Gate, IdealRules.named_const.statement _ _ _ _ _ rfl,
  value_attBwd, trivial, value_rmsFwd, trivial, value_mergeFwd⟩

end Cert.Proof

end
